-- ==== Defs.lean ====
def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnReferenceIdeal (m : (ℓ : Loc Cert.AttnReferenceIdeal.nD Cert.AttnReferenceIdeal.τ Cert.AttnReferenceIdeal.sig) → Buf (Elt Ideal) ℓ) : Prop :=
  True

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4)
      ∧ r.2.mem ((c.tc : Thread Cert.MlpKernel.nD Cert.MlpKernel.τ).loc Cert.MlpKernel.main_arg5) = m ((c.tc : Thread Cert.MlpKernel.nD Cert.MlpKernel.τ).loc Cert.MlpKernel.main_arg5)
      ∧ r.2.mem ((c.tc : Thread Cert.MlpKernel.nD Cert.MlpKernel.τ).loc Cert.MlpKernel.main_arg6) = m ((c.tc : Thread Cert.MlpKernel.nD Cert.MlpKernel.τ).loc Cert.MlpKernel.main_arg6)
      ∧ r.2.mem ((c.tc : Thread Cert.MlpKernel.nD Cert.MlpKernel.τ).loc Cert.MlpKernel.main_arg7) = m ((c.tc : Thread Cert.MlpKernel.nD Cert.MlpKernel.τ).loc Cert.MlpKernel.main_arg7))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
      ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5)
      ∧ r.2.mem ((c.tc : Thread Cert.AttnKernel.nD Cert.AttnKernel.τ).loc Cert.AttnKernel.main_arg6) = m ((c.tc : Thread Cert.AttnKernel.nD Cert.AttnKernel.τ).loc Cert.AttnKernel.main_arg6)
      ∧ r.2.mem ((c.tc : Thread Cert.AttnKernel.nD Cert.AttnKernel.τ).loc Cert.AttnKernel.main_arg7) = m ((c.tc : Thread Cert.AttnKernel.nD Cert.AttnKernel.τ).loc Cert.AttnKernel.main_arg7)
      ∧ r.2.mem ((c.tc : Thread Cert.AttnKernel.nD Cert.AttnKernel.τ).loc Cert.AttnKernel.main_arg8) = m ((c.tc : Thread Cert.AttnKernel.nD Cert.AttnKernel.τ).loc Cert.AttnKernel.main_arg8)
      ∧ r.2.mem ((c.tc : Thread Cert.AttnKernel.nD Cert.AttnKernel.τ).loc Cert.AttnKernel.main_arg9) = m ((c.tc : Thread Cert.AttnKernel.nD Cert.AttnKernel.τ).loc Cert.AttnKernel.main_arg9)
      ∧ r.2.mem ((c.tc : Thread Cert.AttnKernel.nD Cert.AttnKernel.τ).loc Cert.AttnKernel.main_arg10) = m ((c.tc : Thread Cert.AttnKernel.nD Cert.AttnKernel.τ).loc Cert.AttnKernel.main_arg10)
      ∧ r.2.mem ((c.tc : Thread Cert.AttnKernel.nD Cert.AttnKernel.τ).loc Cert.AttnKernel.main_arg11) = m ((c.tc : Thread Cert.AttnKernel.nD Cert.AttnKernel.τ).loc Cert.AttnKernel.main_arg11)
      ∧ r.2.mem ((c.tc : Thread Cert.AttnKernel.nD Cert.AttnKernel.τ).loc Cert.AttnKernel.main_arg12) = m ((c.tc : Thread Cert.AttnKernel.nD Cert.AttnKernel.τ).loc Cert.AttnKernel.main_arg12))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
      ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
      ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7)
      ∧ r.2.mem ((c.tc : Thread Cert.AttnKernelIdeal.nD Cert.AttnKernelIdeal.τ).loc Cert.AttnKernelIdeal.main_arg8) = m ((c.tc : Thread Cert.AttnKernelIdeal.nD Cert.AttnKernelIdeal.τ).loc Cert.AttnKernelIdeal.main_arg8)
      ∧ r.2.mem ((c.tc : Thread Cert.AttnKernelIdeal.nD Cert.AttnKernelIdeal.τ).loc Cert.AttnKernelIdeal.main_arg9) = m ((c.tc : Thread Cert.AttnKernelIdeal.nD Cert.AttnKernelIdeal.τ).loc Cert.AttnKernelIdeal.main_arg9)
      ∧ r.2.mem ((c.tc : Thread Cert.AttnKernelIdeal.nD Cert.AttnKernelIdeal.τ).loc Cert.AttnKernelIdeal.main_arg10) = m ((c.tc : Thread Cert.AttnKernelIdeal.nD Cert.AttnKernelIdeal.τ).loc Cert.AttnKernelIdeal.main_arg10)
      ∧ r.2.mem ((c.tc : Thread Cert.AttnKernelIdeal.nD Cert.AttnKernelIdeal.τ).loc Cert.AttnKernelIdeal.main_arg11) = m ((c.tc : Thread Cert.AttnKernelIdeal.nD Cert.AttnKernelIdeal.τ).loc Cert.AttnKernelIdeal.main_arg11)
      ∧ r.2.mem ((c.tc : Thread Cert.AttnKernelIdeal.nD Cert.AttnKernelIdeal.τ).loc Cert.AttnKernelIdeal.main_arg12) = m ((c.tc : Thread Cert.AttnKernelIdeal.nD Cert.AttnKernelIdeal.τ).loc Cert.AttnKernelIdeal.main_arg12))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8)
      ∧ r.2.mem ((c.tc : Thread Cert.AttnReferenceIdeal.nD Cert.AttnReferenceIdeal.τ).loc Cert.AttnReferenceIdeal.main_arg9) = m ((c.tc : Thread Cert.AttnReferenceIdeal.nD Cert.AttnReferenceIdeal.τ).loc Cert.AttnReferenceIdeal.main_arg9)
      ∧ r.2.mem ((c.tc : Thread Cert.AttnReferenceIdeal.nD Cert.AttnReferenceIdeal.τ).loc Cert.AttnReferenceIdeal.main_arg10) = m ((c.tc : Thread Cert.AttnReferenceIdeal.nD Cert.AttnReferenceIdeal.τ).loc Cert.AttnReferenceIdeal.main_arg10)
      ∧ r.2.mem ((c.tc : Thread Cert.AttnReferenceIdeal.nD Cert.AttnReferenceIdeal.τ).loc Cert.AttnReferenceIdeal.main_arg11) = m ((c.tc : Thread Cert.AttnReferenceIdeal.nD Cert.AttnReferenceIdeal.τ).loc Cert.AttnReferenceIdeal.main_arg11)
      ∧ r.2.mem ((c.tc : Thread Cert.AttnReferenceIdeal.nD Cert.AttnReferenceIdeal.τ).loc Cert.AttnReferenceIdeal.main_arg12) = m ((c.tc : Thread Cert.AttnReferenceIdeal.nD Cert.AttnReferenceIdeal.τ).loc Cert.AttnReferenceIdeal.main_arg12))
      ∧ r.2.sem = fun _ => 0)

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)
      ∧ m' ((c.tc : Thread Cert.MlpReferenceIdeal.nD Cert.MlpReferenceIdeal.τ).loc Cert.MlpReferenceIdeal.main_arg5) = m ((c.tc : Thread Cert.MlpKernelIdeal.nD Cert.MlpKernelIdeal.τ).loc Cert.MlpKernelIdeal.main_arg5)
      ∧ m' ((c.tc : Thread Cert.MlpReferenceIdeal.nD Cert.MlpReferenceIdeal.τ).loc Cert.MlpReferenceIdeal.main_arg6) = m ((c.tc : Thread Cert.MlpKernelIdeal.nD Cert.MlpKernelIdeal.τ).loc Cert.MlpKernelIdeal.main_arg6)
      ∧ m' ((c.tc : Thread Cert.MlpReferenceIdeal.nD Cert.MlpReferenceIdeal.τ).loc Cert.MlpReferenceIdeal.main_arg7) = m ((c.tc : Thread Cert.MlpKernelIdeal.nD Cert.MlpKernelIdeal.τ).loc Cert.MlpKernelIdeal.main_arg7)) →
    ∃ (v0 : (c : Dev Cert.MlpKernelIdeal.nD) → Buf (Elt Ideal) ((c.tc : Thread Cert.MlpKernelIdeal.nD Cert.MlpKernelIdeal.τ).loc Cert.MlpKernelIdeal.main_v5_0)) (v1 : (c : Dev Cert.MlpKernelIdeal.nD) → Buf (Elt Ideal) ((c.tc : Thread Cert.MlpKernelIdeal.nD Cert.MlpKernelIdeal.τ).loc Cert.MlpKernelIdeal.main_v5_1)) (v2 : (c : Dev Cert.MlpKernelIdeal.nD) → Buf (Elt Ideal) ((c.tc : Thread Cert.MlpKernelIdeal.nD Cert.MlpKernelIdeal.τ).loc Cert.MlpKernelIdeal.main_v5_2)) (v3 : (c : Dev Cert.MlpKernelIdeal.nD) → Buf (Elt Ideal) ((c.tc : Thread Cert.MlpKernelIdeal.nD Cert.MlpKernelIdeal.τ).loc Cert.MlpKernelIdeal.main_v5_3)) (v4 : (c : Dev Cert.MlpKernelIdeal.nD) → Buf (Elt Ideal) ((c.tc : Thread Cert.MlpKernelIdeal.nD Cert.MlpKernelIdeal.τ).loc Cert.MlpKernelIdeal.main_v5_4)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v5_0) = v0 c
          ∧ r.2.mem ((c.tc : Thread Cert.MlpKernelIdeal.nD Cert.MlpKernelIdeal.τ).loc Cert.MlpKernelIdeal.main_v5_1) = v1 c
          ∧ r.2.mem ((c.tc : Thread Cert.MlpKernelIdeal.nD Cert.MlpKernelIdeal.τ).loc Cert.MlpKernelIdeal.main_v5_2) = v2 c
          ∧ r.2.mem ((c.tc : Thread Cert.MlpKernelIdeal.nD Cert.MlpKernelIdeal.τ).loc Cert.MlpKernelIdeal.main_v5_3) = v3 c
          ∧ r.2.mem ((c.tc : Thread Cert.MlpKernelIdeal.nD Cert.MlpKernelIdeal.τ).loc Cert.MlpKernelIdeal.main_v5_4) = v4 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
          ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
          ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
          ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v4_0) = v0 c
          ∧ r.2.mem ((c.tc : Thread Cert.MlpReferenceIdeal.nD Cert.MlpReferenceIdeal.τ).loc Cert.MlpReferenceIdeal.main_v4_1) = v1 c
          ∧ r.2.mem ((c.tc : Thread Cert.MlpReferenceIdeal.nD Cert.MlpReferenceIdeal.τ).loc Cert.MlpReferenceIdeal.main_v4_2) = v2 c
          ∧ r.2.mem ((c.tc : Thread Cert.MlpReferenceIdeal.nD Cert.MlpReferenceIdeal.τ).loc Cert.MlpReferenceIdeal.main_v4_3) = v3 c
          ∧ r.2.mem ((c.tc : Thread Cert.MlpReferenceIdeal.nD Cert.MlpReferenceIdeal.τ).loc Cert.MlpReferenceIdeal.main_v4_4) = v4 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_AttnKernel_AttnKernelIdeal : Prop :=
  True

def algebraic_AttnKernelIdeal_AttnReferenceIdeal_on_quantised_results [hAttnKernelIdeal : Cert.AttnKernelIdeal.Facts] [hAttnReferenceIdeal : Cert.AttnReferenceIdeal.Facts] [hOn_quantised_results : Cert.On_quantised_results.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)
      ∧ m' ((c.tc : Thread Cert.AttnReferenceIdeal.nD Cert.AttnReferenceIdeal.τ).loc Cert.AttnReferenceIdeal.main_arg5) = m ((c.tc : Thread Cert.AttnKernelIdeal.nD Cert.AttnKernelIdeal.τ).loc Cert.AttnKernelIdeal.main_arg5)
      ∧ m' ((c.tc : Thread Cert.AttnReferenceIdeal.nD Cert.AttnReferenceIdeal.τ).loc Cert.AttnReferenceIdeal.main_arg6) = m ((c.tc : Thread Cert.AttnKernelIdeal.nD Cert.AttnKernelIdeal.τ).loc Cert.AttnKernelIdeal.main_arg6)
      ∧ m' ((c.tc : Thread Cert.AttnReferenceIdeal.nD Cert.AttnReferenceIdeal.τ).loc Cert.AttnReferenceIdeal.main_arg7) = m ((c.tc : Thread Cert.AttnKernelIdeal.nD Cert.AttnKernelIdeal.τ).loc Cert.AttnKernelIdeal.main_arg7)
      ∧ m' ((c.tc : Thread Cert.AttnReferenceIdeal.nD Cert.AttnReferenceIdeal.τ).loc Cert.AttnReferenceIdeal.main_arg8) = m ((c.tc : Thread Cert.AttnKernelIdeal.nD Cert.AttnKernelIdeal.τ).loc Cert.AttnKernelIdeal.main_arg8)
      ∧ m' ((c.tc : Thread Cert.AttnReferenceIdeal.nD Cert.AttnReferenceIdeal.τ).loc Cert.AttnReferenceIdeal.main_arg9) = m ((c.tc : Thread Cert.AttnKernelIdeal.nD Cert.AttnKernelIdeal.τ).loc Cert.AttnKernelIdeal.main_arg9)
      ∧ m' ((c.tc : Thread Cert.AttnReferenceIdeal.nD Cert.AttnReferenceIdeal.τ).loc Cert.AttnReferenceIdeal.main_arg10) = m ((c.tc : Thread Cert.AttnKernelIdeal.nD Cert.AttnKernelIdeal.τ).loc Cert.AttnKernelIdeal.main_arg10)
      ∧ m' ((c.tc : Thread Cert.AttnReferenceIdeal.nD Cert.AttnReferenceIdeal.τ).loc Cert.AttnReferenceIdeal.main_arg11) = m ((c.tc : Thread Cert.AttnKernelIdeal.nD Cert.AttnKernelIdeal.τ).loc Cert.AttnKernelIdeal.main_arg11)
      ∧ m' ((c.tc : Thread Cert.AttnReferenceIdeal.nD Cert.AttnReferenceIdeal.τ).loc Cert.AttnReferenceIdeal.main_arg12) = m ((c.tc : Thread Cert.AttnKernelIdeal.nD Cert.AttnKernelIdeal.τ).loc Cert.AttnKernelIdeal.main_arg12)) →
    ∃ (v0 : (c : Dev Cert.AttnKernelIdeal.nD) → Buf (Elt Ideal) ((c.tc : Thread Cert.AttnKernelIdeal.nD Cert.AttnKernelIdeal.τ).loc Cert.AttnKernelIdeal.main_v15_0)) (v1 : (c : Dev Cert.AttnKernelIdeal.nD) → Buf (Elt Ideal) ((c.tc : Thread Cert.AttnKernelIdeal.nD Cert.AttnKernelIdeal.τ).loc Cert.AttnKernelIdeal.main_v15_1)) (v2 : (c : Dev Cert.AttnKernelIdeal.nD) → Buf (Elt Ideal) ((c.tc : Thread Cert.AttnKernelIdeal.nD Cert.AttnKernelIdeal.τ).loc Cert.AttnKernelIdeal.main_v15_2)) (v3 : (c : Dev Cert.AttnKernelIdeal.nD) → Buf (Elt Ideal) ((c.tc : Thread Cert.AttnKernelIdeal.nD Cert.AttnKernelIdeal.τ).loc Cert.AttnKernelIdeal.main_v15_3)) (v4 : (c : Dev Cert.AttnKernelIdeal.nD) → Buf (Elt Ideal) ((c.tc : Thread Cert.AttnKernelIdeal.nD Cert.AttnKernelIdeal.τ).loc Cert.AttnKernelIdeal.main_v15_4)) (v5 : (c : Dev Cert.AttnKernelIdeal.nD) → Buf (Elt Ideal) ((c.tc : Thread Cert.AttnKernelIdeal.nD Cert.AttnKernelIdeal.τ).loc Cert.AttnKernelIdeal.main_v15_5)) (v6 : (c : Dev Cert.AttnKernelIdeal.nD) → Buf (Elt Ideal) ((c.tc : Thread Cert.AttnKernelIdeal.nD Cert.AttnKernelIdeal.τ).loc Cert.AttnKernelIdeal.main_v15_6)) (v7 : (c : Dev Cert.AttnKernelIdeal.nD) → Buf (Elt Ideal) ((c.tc : Thread Cert.AttnKernelIdeal.nD Cert.AttnKernelIdeal.τ).loc Cert.AttnKernelIdeal.main_v15_7)) (v8 : (c : Dev Cert.AttnKernelIdeal.nD) → Buf (Elt Ideal) ((c.tc : Thread Cert.AttnKernelIdeal.nD Cert.AttnKernelIdeal.τ).loc Cert.AttnKernelIdeal.main_v15_8)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          (∀ i : (⟨3, ![48, 256, 1920]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).1 i = 1#1 → r.2.mem ((c.tc : Thread Cert.AttnKernelIdeal.nD Cert.AttnKernelIdeal.τ).loc Cert.AttnKernelIdeal.main_v15_0) i = v0 c i)
          ∧ (∀ i : (⟨3, ![48, 256, 1920]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.1 i = 1#1 → r.2.mem ((c.tc : Thread Cert.AttnKernelIdeal.nD Cert.AttnKernelIdeal.τ).loc Cert.AttnKernelIdeal.main_v15_1) i = v1 c i)
          ∧ (∀ i : (⟨2, ![48, 256]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.1 i = 1#1 → r.2.mem ((c.tc : Thread Cert.AttnKernelIdeal.nD Cert.AttnKernelIdeal.τ).loc Cert.AttnKernelIdeal.main_v15_2) i = v2 c i)
          ∧ (∀ i : (⟨4, ![48, 30, 64, 256]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.2.1 i = 1#1 → r.2.mem ((c.tc : Thread Cert.AttnKernelIdeal.nD Cert.AttnKernelIdeal.τ).loc Cert.AttnKernelIdeal.main_v15_3) i = v3 c i)
          ∧ (∀ i : (⟨4, ![48, 30, 64, 256]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.2.2.1 i = 1#1 → r.2.mem ((c.tc : Thread Cert.AttnKernelIdeal.nD Cert.AttnKernelIdeal.τ).loc Cert.AttnKernelIdeal.main_v15_4) i = v4 c i)
          ∧ (∀ i : (⟨3, ![30, 48, 256]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.2.2.2.1 i = 1#1 → r.2.mem ((c.tc : Thread Cert.AttnKernelIdeal.nD Cert.AttnKernelIdeal.τ).loc Cert.AttnKernelIdeal.main_v15_5) i = v5 c i)
          ∧ (∀ i : (⟨3, ![48, 256, 1920]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.2.2.2.2.1 i = 1#1 → r.2.mem ((c.tc : Thread Cert.AttnKernelIdeal.nD Cert.AttnKernelIdeal.τ).loc Cert.AttnKernelIdeal.main_v15_6) i = v6 c i)
          ∧ (∀ i : (⟨2, ![48, 256]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.2.2.2.2.2.1 i = 1#1 → r.2.mem ((c.tc : Thread Cert.AttnKernelIdeal.nD Cert.AttnKernelIdeal.τ).loc Cert.AttnKernelIdeal.main_v15_7) i = v7 c i)
          ∧ (∀ i : (⟨3, ![48, 256, 1920]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.2.2.2.2.2.2 i = 1#1 → r.2.mem ((c.tc : Thread Cert.AttnKernelIdeal.nD Cert.AttnKernelIdeal.τ).loc Cert.AttnKernelIdeal.main_v15_8) i = v8 c i)
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
          ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
          ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6)
          ∧ r.2.mem ((c.tc : Thread Cert.AttnKernelIdeal.nD Cert.AttnKernelIdeal.τ).loc Cert.AttnKernelIdeal.main_arg7) = m ((c.tc : Thread Cert.AttnKernelIdeal.nD Cert.AttnKernelIdeal.τ).loc Cert.AttnKernelIdeal.main_arg7)
          ∧ r.2.mem ((c.tc : Thread Cert.AttnKernelIdeal.nD Cert.AttnKernelIdeal.τ).loc Cert.AttnKernelIdeal.main_arg8) = m ((c.tc : Thread Cert.AttnKernelIdeal.nD Cert.AttnKernelIdeal.τ).loc Cert.AttnKernelIdeal.main_arg8)
          ∧ r.2.mem ((c.tc : Thread Cert.AttnKernelIdeal.nD Cert.AttnKernelIdeal.τ).loc Cert.AttnKernelIdeal.main_arg9) = m ((c.tc : Thread Cert.AttnKernelIdeal.nD Cert.AttnKernelIdeal.τ).loc Cert.AttnKernelIdeal.main_arg9)
          ∧ r.2.mem ((c.tc : Thread Cert.AttnKernelIdeal.nD Cert.AttnKernelIdeal.τ).loc Cert.AttnKernelIdeal.main_arg10) = m ((c.tc : Thread Cert.AttnKernelIdeal.nD Cert.AttnKernelIdeal.τ).loc Cert.AttnKernelIdeal.main_arg10)
          ∧ r.2.mem ((c.tc : Thread Cert.AttnKernelIdeal.nD Cert.AttnKernelIdeal.τ).loc Cert.AttnKernelIdeal.main_arg11) = m ((c.tc : Thread Cert.AttnKernelIdeal.nD Cert.AttnKernelIdeal.τ).loc Cert.AttnKernelIdeal.main_arg11)
          ∧ r.2.mem ((c.tc : Thread Cert.AttnKernelIdeal.nD Cert.AttnKernelIdeal.τ).loc Cert.AttnKernelIdeal.main_arg12) = m ((c.tc : Thread Cert.AttnKernelIdeal.nD Cert.AttnKernelIdeal.τ).loc Cert.AttnKernelIdeal.main_arg12))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          (∀ i : (⟨3, ![48, 256, 1920]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).1 i = 1#1 → r.2.mem ((c.tc : Thread Cert.AttnReferenceIdeal.nD Cert.AttnReferenceIdeal.τ).loc Cert.AttnReferenceIdeal.main_v11_0) i = v0 c i)
          ∧ (∀ i : (⟨3, ![48, 256, 1920]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.1 i = 1#1 → r.2.mem ((c.tc : Thread Cert.AttnReferenceIdeal.nD Cert.AttnReferenceIdeal.τ).loc Cert.AttnReferenceIdeal.main_v11_1) i = v1 c i)
          ∧ (∀ i : (⟨2, ![48, 256]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.1 i = 1#1 → r.2.mem ((c.tc : Thread Cert.AttnReferenceIdeal.nD Cert.AttnReferenceIdeal.τ).loc Cert.AttnReferenceIdeal.main_v11_2) i = v2 c i)
          ∧ (∀ i : (⟨4, ![48, 30, 64, 256]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.2.1 i = 1#1 → r.2.mem ((c.tc : Thread Cert.AttnReferenceIdeal.nD Cert.AttnReferenceIdeal.τ).loc Cert.AttnReferenceIdeal.main_v11_3) i = v3 c i)
          ∧ (∀ i : (⟨4, ![48, 30, 64, 256]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.2.2.1 i = 1#1 → r.2.mem ((c.tc : Thread Cert.AttnReferenceIdeal.nD Cert.AttnReferenceIdeal.τ).loc Cert.AttnReferenceIdeal.main_v11_4) i = v4 c i)
          ∧ (∀ i : (⟨3, ![30, 48, 256]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.2.2.2.1 i = 1#1 → r.2.mem ((c.tc : Thread Cert.AttnReferenceIdeal.nD Cert.AttnReferenceIdeal.τ).loc Cert.AttnReferenceIdeal.main_v11_5) i = v5 c i)
          ∧ (∀ i : (⟨3, ![48, 256, 1920]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.2.2.2.2.1 i = 1#1 → r.2.mem ((c.tc : Thread Cert.AttnReferenceIdeal.nD Cert.AttnReferenceIdeal.τ).loc Cert.AttnReferenceIdeal.main_v11_6) i = v6 c i)
          ∧ (∀ i : (⟨2, ![48, 256]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.2.2.2.2.2.1 i = 1#1 → r.2.mem ((c.tc : Thread Cert.AttnReferenceIdeal.nD Cert.AttnReferenceIdeal.τ).loc Cert.AttnReferenceIdeal.main_v11_7) i = v7 c i)
          ∧ (∀ i : (⟨3, ![48, 256, 1920]⟩ : Shape).Idx, (Cert.On_quantised_results.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4)) (m ((c.tc : Thread Cert.AttnKernelIdeal.nD Cert.AttnKernelIdeal.τ).loc Cert.AttnKernelIdeal.main_arg5)) (m ((c.tc : Thread Cert.AttnKernelIdeal.nD Cert.AttnKernelIdeal.τ).loc Cert.AttnKernelIdeal.main_arg6)) (m ((c.tc : Thread Cert.AttnKernelIdeal.nD Cert.AttnKernelIdeal.τ).loc Cert.AttnKernelIdeal.main_arg7)) (m ((c.tc : Thread Cert.AttnKernelIdeal.nD Cert.AttnKernelIdeal.τ).loc Cert.AttnKernelIdeal.main_arg8)) (m ((c.tc : Thread Cert.AttnKernelIdeal.nD Cert.AttnKernelIdeal.τ).loc Cert.AttnKernelIdeal.main_arg9)) (m ((c.tc : Thread Cert.AttnKernelIdeal.nD Cert.AttnKernelIdeal.τ).loc Cert.AttnKernelIdeal.main_arg10)) (m ((c.tc : Thread Cert.AttnKernelIdeal.nD Cert.AttnKernelIdeal.τ).loc Cert.AttnKernelIdeal.main_arg11)) (m ((c.tc : Thread Cert.AttnKernelIdeal.nD Cert.AttnKernelIdeal.τ).loc Cert.AttnKernelIdeal.main_arg12))).2.2.2.2.2.2.2.2 i = 1#1 → r.2.mem ((c.tc : Thread Cert.AttnReferenceIdeal.nD Cert.AttnReferenceIdeal.τ).loc Cert.AttnReferenceIdeal.main_v11_8) i = v8 c i)
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7)
          ∧ r.2.mem ((c.tc : Thread Cert.AttnReferenceIdeal.nD Cert.AttnReferenceIdeal.τ).loc Cert.AttnReferenceIdeal.main_arg8) = m' ((c.tc : Thread Cert.AttnReferenceIdeal.nD Cert.AttnReferenceIdeal.τ).loc Cert.AttnReferenceIdeal.main_arg8)
          ∧ r.2.mem ((c.tc : Thread Cert.AttnReferenceIdeal.nD Cert.AttnReferenceIdeal.τ).loc Cert.AttnReferenceIdeal.main_arg9) = m' ((c.tc : Thread Cert.AttnReferenceIdeal.nD Cert.AttnReferenceIdeal.τ).loc Cert.AttnReferenceIdeal.main_arg9)
          ∧ r.2.mem ((c.tc : Thread Cert.AttnReferenceIdeal.nD Cert.AttnReferenceIdeal.τ).loc Cert.AttnReferenceIdeal.main_arg10) = m' ((c.tc : Thread Cert.AttnReferenceIdeal.nD Cert.AttnReferenceIdeal.τ).loc Cert.AttnReferenceIdeal.main_arg10)
          ∧ r.2.mem ((c.tc : Thread Cert.AttnReferenceIdeal.nD Cert.AttnReferenceIdeal.τ).loc Cert.AttnReferenceIdeal.main_arg11) = m' ((c.tc : Thread Cert.AttnReferenceIdeal.nD Cert.AttnReferenceIdeal.τ).loc Cert.AttnReferenceIdeal.main_arg11)
          ∧ r.2.mem ((c.tc : Thread Cert.AttnReferenceIdeal.nD Cert.AttnReferenceIdeal.τ).loc Cert.AttnReferenceIdeal.main_arg12) = m' ((c.tc : Thread Cert.AttnReferenceIdeal.nD Cert.AttnReferenceIdeal.τ).loc Cert.AttnReferenceIdeal.main_arg12))

def Claim : Prop :=
  ∃ (hMlpKernel : Cert.MlpKernel.Facts) (hMlpKernelIdeal : Cert.MlpKernelIdeal.Facts) (hMlpReferenceIdeal : Cert.MlpReferenceIdeal.Facts) (hAttnKernel : Cert.AttnKernel.Facts) (hAttnKernelIdeal : Cert.AttnKernelIdeal.Facts) (hAttnReferenceIdeal : Cert.AttnReferenceIdeal.Facts) (hOn_quantised_results : Cert.On_quantised_results.Facts),
    quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_AttnKernel (hAttnKernel := hAttnKernel)
    ∧ quiescent_AttnKernelIdeal (hAttnKernelIdeal := hAttnKernelIdeal)
    ∧ quiescent_AttnReferenceIdeal (hAttnReferenceIdeal := hAttnReferenceIdeal)
    ∧ preserves_MlpKernel_MlpKernelIdeal
    ∧ algebraic_MlpKernelIdeal_MlpReferenceIdeal (hMlpKernelIdeal := hMlpKernelIdeal) (hMlpReferenceIdeal := hMlpReferenceIdeal)
    ∧ preserves_AttnKernel_AttnKernelIdeal
    ∧ algebraic_AttnKernelIdeal_AttnReferenceIdeal_on_quantised_results (hAttnKernelIdeal := hAttnKernelIdeal) (hAttnReferenceIdeal := hAttnReferenceIdeal) (hOn_quantised_results := hOn_quantised_results)
-- ==== On_quantised_results.lean ====
abbrev S48x256x1920 : Shape := ⟨3, ![48, 256, 1920]⟩
abbrev S48x6x1920 : Shape := ⟨3, ![48, 6, 1920]⟩
abbrev S1920x5760 : Shape := ⟨2, ![1920, 5760]⟩
abbrev S5760 : Shape := ⟨1, ![5760]⟩
abbrev S1920 : Shape := ⟨1, ![1920]⟩
abbrev S30 : Shape := ⟨1, ![30]⟩
abbrev S48x424x30x64 : Shape := ⟨4, ![48, 424, 30, 64]⟩
abbrev S48x424x30 : Shape := ⟨3, ![48, 424, 30]⟩
abbrev S30x64x1920 : Shape := ⟨3, ![30, 64, 1920]⟩
abbrev S_ : Shape := ⟨0, ![]⟩
abbrev S48x256 : Shape := ⟨2, ![48, 256]⟩
abbrev S48x30x64x256 : Shape := ⟨4, ![48, 30, 64, 256]⟩
abbrev S30x48x256 : Shape := ⟨3, ![30, 48, 256]⟩

class Facts : Prop where
  bcast_S_S48x256x1920 : S_.BroadcastsInDim S48x256x1920 (![] : Fin 0 → Fin S48x256x1920.rank)
  bcast_S_S48x256 : S_.BroadcastsInDim S48x256 (![] : Fin 0 → Fin S48x256.rank)
  bcast_S_S48x30x64x256 : S_.BroadcastsInDim S48x30x64x256 (![] : Fin 0 → Fin S48x30x64x256.rank)
  bcast_S_S30x48x256 : S_.BroadcastsInDim S30x48x256 (![] : Fin 0 → Fin S30x48x256.rank)

variable [Facts]

def fn {F : FTy → Type} [FloatOps F] (main_arg0 : FVec F S48x256x1920 .bf16) (main_arg1 : FVec F S48x6x1920 .f32) (main_arg2 : FVec F S1920x5760 .fp8e4m3) (main_arg3 : FVec F S5760 .f32) (main_arg4 : FVec F S1920 .f32) (main_arg5 : FVec F S1920 .f32) (main_arg6 : FVec F S30 .f32) (main_arg7 : IVec S48x424x30x64 8) (main_arg8 : IVec S48x424x30x64 8) (main_arg9 : FVec F S48x424x30 .f32) (main_arg10 : FVec F S30x64x1920 .fp8e4m3) (main_arg11 : FVec F S1920 .f32) (main_arg12 : FVec F S1920 .f32) : IVec S48x256x1920 1 × IVec S48x256x1920 1 × IVec S48x256 1 × IVec S48x30x64x256 1 × IVec S48x30x64x256 1 × IVec S30x48x256 1 × IVec S48x256x1920 1 × IVec S48x256 1 × IVec S48x256x1920 1 :=
  let main_c : IVec S_ 1 := constantI S_ 1 0#1
  let main_v0 : IVec S48x256x1920 1 := broadcastInDim S48x256x1920 ![] bcast_S_S48x256x1920 main_c
  let main_c_0 : IVec S_ 1 := constantI S_ 1 1#1
  let main_v1 : IVec S48x256x1920 1 := broadcastInDim S48x256x1920 ![] bcast_S_S48x256x1920 main_c_0
  let main_c_1 : IVec S_ 1 := constantI S_ 1 1#1
  let main_v2 : IVec S48x256 1 := broadcastInDim S48x256 ![] bcast_S_S48x256 main_c_1
  let main_c_2 : IVec S_ 1 := constantI S_ 1 1#1
  let main_v3 : IVec S48x30x64x256 1 := broadcastInDim S48x30x64x256 ![] bcast_S_S48x30x64x256 main_c_2
  let main_c_3 : IVec S_ 1 := constantI S_ 1 1#1
  let main_v4 : IVec S48x30x64x256 1 := broadcastInDim S48x30x64x256 ![] bcast_S_S48x30x64x256 main_c_3
  let main_c_4 : IVec S_ 1 := constantI S_ 1 1#1
  let main_v5 : IVec S30x48x256 1 := broadcastInDim S30x48x256 ![] bcast_S_S30x48x256 main_c_4
  let main_c_5 : IVec S_ 1 := constantI S_ 1 0#1
  let main_v6 : IVec S48x256x1920 1 := broadcastInDim S48x256x1920 ![] bcast_S_S48x256x1920 main_c_5
  let main_c_6 : IVec S_ 1 := constantI S_ 1 0#1
  let main_v7 : IVec S48x256 1 := broadcastInDim S48x256 ![] bcast_S_S48x256 main_c_6
  let main_c_7 : IVec S_ 1 := constantI S_ 1 0#1
  let main_v8 : IVec S48x256x1920 1 := broadcastInDim S48x256x1920 ![] bcast_S_S48x256x1920 main_c_7
  (main_v0, main_v1, main_v2, main_v3, main_v4, main_v5, main_v6, main_v7, main_v8)
-- ==== MlpKernel.lean ====
abbrev S48x256x1920 : Shape := ⟨3, ![48, 256, 1920]⟩
abbrev S48x6x1920 : Shape := ⟨3, ![48, 6, 1920]⟩
abbrev S1920x7680 : Shape := ⟨2, ![1920, 7680]⟩
abbrev S7680 : Shape := ⟨1, ![7680]⟩
abbrev S7680x1920 : Shape := ⟨2, ![7680, 1920]⟩
abbrev S1920 : Shape := ⟨1, ![1920]⟩
abbrev S6x48x1920 : Shape := ⟨3, ![6, 48, 1920]⟩
abbrev S1x7680 : Shape := ⟨2, ![1, 7680]⟩
abbrev S1x1920 : Shape := ⟨2, ![1, 1920]⟩
abbrev S48x256 : Shape := ⟨2, ![48, 256]⟩
abbrev S48x256x7680 : Shape := ⟨3, ![48, 256, 7680]⟩
abbrev S1x256x1920 : Shape := ⟨3, ![1, 256, 1920]⟩
abbrev S1x256x7680 : Shape := ⟨3, ![1, 256, 7680]⟩
abbrev S256x7680 : Shape := ⟨2, ![256, 7680]⟩
abbrev S1x1x1920 : Shape := ⟨3, ![1, 1, 1920]⟩
abbrev S1x32x1920 : Shape := ⟨3, ![1, 32, 1920]⟩
abbrev S32x1920 : Shape := ⟨2, ![32, 1920]⟩
abbrev S32 : Shape := ⟨1, ![32]⟩
abbrev S32x1 : Shape := ⟨2, ![32, 1]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S256x1920 : Shape := ⟨2, ![256, 1920]⟩
abbrev S1920x768 : Shape := ⟨2, ![1920, 768]⟩
abbrev S256x768 : Shape := ⟨2, ![256, 768]⟩
abbrev S1x128 : Shape := ⟨2, ![1, 128]⟩
abbrev S256 : Shape := ⟨1, ![256]⟩
abbrev S1x256x128 : Shape := ⟨3, ![1, 256, 128]⟩

abbrev nBuf : Space → Nat
  | .hbm => 18
  | .vmem => 18
  | .smem => 0
  | _ => 0

abbrev bufTy : (tb : Table) → Fin (tcTables nBuf tb) → BufTy
  | .hbm, ⟨0, _⟩ => ⟨S48x256x1920, .f32⟩
  | .hbm, ⟨1, _⟩ => ⟨S48x6x1920, .f32⟩
  | .hbm, ⟨2, _⟩ => ⟨S1920x7680, .fp8e4m3⟩
  | .hbm, ⟨3, _⟩ => ⟨S7680, .f32⟩
  | .hbm, ⟨4, _⟩ => ⟨S7680, .f32⟩
  | .hbm, ⟨5, _⟩ => ⟨S7680x1920, .fp8e4m3⟩
  | .hbm, ⟨6, _⟩ => ⟨S1920, .f32⟩
  | .hbm, ⟨7, _⟩ => ⟨S1920, .f32⟩
  | .hbm, ⟨8, _⟩ => ⟨S6x48x1920, .f32⟩
  | .hbm, ⟨9, _⟩ => ⟨S1x7680, .f32⟩
  | .hbm, ⟨10, _⟩ => ⟨S1x7680, .f32⟩
  | .hbm, ⟨11, _⟩ => ⟨S1x1920, .f32⟩
  | .hbm, ⟨12, _⟩ => ⟨S1x1920, .f32⟩
  | .hbm, ⟨13, _⟩ => ⟨S48x256x1920, .bf16⟩
  | .hbm, ⟨14, _⟩ => ⟨S48x256x1920, .fp8e4m3⟩
  | .hbm, ⟨15, _⟩ => ⟨S48x256, .f32⟩
  | .hbm, ⟨16, _⟩ => ⟨S48x256x7680, .fp8e4m3⟩
  | .hbm, ⟨17, _⟩ => ⟨S48x256, .f32⟩
  | .local _ .vmem, ⟨0, _⟩ => ⟨S1x256x1920, .f32⟩
  | .local _ .vmem, ⟨1, _⟩ => ⟨S1x256x1920, .f32⟩
  | .local _ .vmem, ⟨2, _⟩ => ⟨S6x48x1920, .f32⟩
  | .local _ .vmem, ⟨3, _⟩ => ⟨S1920x7680, .fp8e4m3⟩
  | .local _ .vmem, ⟨4, _⟩ => ⟨S1x7680, .f32⟩
  | .local _ .vmem, ⟨5, _⟩ => ⟨S1x7680, .f32⟩
  | .local _ .vmem, ⟨6, _⟩ => ⟨S7680x1920, .fp8e4m3⟩
  | .local _ .vmem, ⟨7, _⟩ => ⟨S1x1920, .f32⟩
  | .local _ .vmem, ⟨8, _⟩ => ⟨S1x1920, .f32⟩
  | .local _ .vmem, ⟨9, _⟩ => ⟨S1x256x1920, .bf16⟩
  | .local _ .vmem, ⟨10, _⟩ => ⟨S1x256x1920, .bf16⟩
  | .local _ .vmem, ⟨11, _⟩ => ⟨S1x256x1920, .fp8e4m3⟩
  | .local _ .vmem, ⟨12, _⟩ => ⟨S1x256x1920, .fp8e4m3⟩
  | .local _ .vmem, ⟨13, _⟩ => ⟨S48x256, .f32⟩
  | .local _ .vmem, ⟨14, _⟩ => ⟨S1x256x7680, .fp8e4m3⟩
  | .local _ .vmem, ⟨15, _⟩ => ⟨S1x256x7680, .fp8e4m3⟩
  | .local _ .vmem, ⟨16, _⟩ => ⟨S48x256, .f32⟩
  | .local _ .vmem, ⟨17, _⟩ => ⟨S256x7680, .f32⟩
  | _, _ => ⟨S48x256x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem11_1 : DmaSem sig := 15
abbrev cc0_sem12_0 : DmaSem sig := 16

abbrev nD : Nat := 1
abbrev τ : Topo := Topo.v7x

variable {F : FTy → Type} [FloatOps F]

abbrev grid0 : Pipeline.Grid := ⟨1, ![48], ![false]⟩

def k0_off1 (i : grid0.Coords) : Fin 3 → Nat :=
  let c1 : Index := 1#32
  let arg0 : BitVec 32 := BitVec.ofNat 32 (i 0).val
  let v0 : Index := Scalar.indexCast arg0
  let c0 : Index := 0#32
  ![1, v0.toNat, 0]
def k0_off2 (i : grid0.Coords) : Fin 3 → Nat :=
  let c3 : Index := 3#32
  let arg0 : BitVec 32 := BitVec.ofNat 32 (i 0).val
  let v3 : Index := Scalar.indexCast arg0
  let c0_0 : Index := 0#32
  ![3, v3.toNat, 0]
def k0_off3 (i : grid0.Coords) : Fin 3 → Nat :=
  let c5 : Index := 5#32
  let arg0 : BitVec 32 := BitVec.ofNat 32 (i 0).val
  let v8 : Index := Scalar.indexCast arg0
  let c0_1 : Index := 0#32
  ![5, v8.toNat, 0]
def k0_off4 (i : grid0.Coords) : Fin 2 → Nat :=
  let arg0 : BitVec 32 := BitVec.ofNat 32 (i 0).val
  let v376 : Index := Scalar.indexCast arg0
  let c0_147 : Index := 0#32
  ![v376.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x48x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1920x7680 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7680 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7680 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7680x1920 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1920 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x1920 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1920 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S48x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x256x7680 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S48x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MlpReferenceIdeal.lean ====
abbrev S48x256x1920 : Shape := ⟨3, ![48, 256, 1920]⟩
abbrev S48x6x1920 : Shape := ⟨3, ![48, 6, 1920]⟩
abbrev S1920x7680 : Shape := ⟨2, ![1920, 7680]⟩
abbrev S7680 : Shape := ⟨1, ![7680]⟩
abbrev S7680x1920 : Shape := ⟨2, ![7680, 1920]⟩
abbrev S1920 : Shape := ⟨1, ![1920]⟩
abbrev S1x7680 : Shape := ⟨2, ![1, 7680]⟩
abbrev S1x1920 : Shape := ⟨2, ![1, 1920]⟩
abbrev S48x256 : Shape := ⟨2, ![48, 256]⟩
abbrev S48x256x7680 : Shape := ⟨3, ![48, 256, 7680]⟩
abbrev S48x1x1920 : Shape := ⟨3, ![48, 1, 1920]⟩
abbrev S48x256x1 : Shape := ⟨3, ![48, 256, 1]⟩
abbrev S12288x1920 : Shape := ⟨2, ![12288, 1920]⟩
abbrev S12288x7680 : Shape := ⟨2, ![12288, 7680]⟩
abbrev S1x1x7680 : Shape := ⟨3, ![1, 1, 7680]⟩
abbrev S1x1x1920 : Shape := ⟨3, ![1, 1, 1920]⟩

abbrev nBuf : Space → Nat
  | .hbm => 17
  | .vmem => 13
  | .smem => 0
  | _ => 0

abbrev bufTy : (tb : Table) → Fin (tcTables nBuf tb) → BufTy
  | .hbm, ⟨0, _⟩ => ⟨S48x256x1920, .f32⟩
  | .hbm, ⟨1, _⟩ => ⟨S48x6x1920, .f32⟩
  | .hbm, ⟨2, _⟩ => ⟨S1920x7680, .fp8e4m3⟩
  | .hbm, ⟨3, _⟩ => ⟨S7680, .f32⟩
  | .hbm, ⟨4, _⟩ => ⟨S7680, .f32⟩
  | .hbm, ⟨5, _⟩ => ⟨S7680x1920, .fp8e4m3⟩
  | .hbm, ⟨6, _⟩ => ⟨S1920, .f32⟩
  | .hbm, ⟨7, _⟩ => ⟨S1920, .f32⟩
  | .hbm, ⟨8, _⟩ => ⟨S1x7680, .f32⟩
  | .hbm, ⟨9, _⟩ => ⟨S1x7680, .f32⟩
  | .hbm, ⟨10, _⟩ => ⟨S1x1920, .f32⟩
  | .hbm, ⟨11, _⟩ => ⟨S1x1920, .f32⟩
  | .hbm, ⟨12, _⟩ => ⟨S48x256x1920, .bf16⟩
  | .hbm, ⟨13, _⟩ => ⟨S48x256x1920, .fp8e4m3⟩
  | .hbm, ⟨14, _⟩ => ⟨S48x256, .f32⟩
  | .hbm, ⟨15, _⟩ => ⟨S48x256x7680, .fp8e4m3⟩
  | .hbm, ⟨16, _⟩ => ⟨S48x256, .f32⟩
  | .local _ .vmem, ⟨0, _⟩ => ⟨S48x256x1920, .f32⟩
  | .local _ .vmem, ⟨1, _⟩ => ⟨S48x6x1920, .f32⟩
  | .local _ .vmem, ⟨2, _⟩ => ⟨S1920x7680, .fp8e4m3⟩
  | .local _ .vmem, ⟨3, _⟩ => ⟨S1x7680, .f32⟩
  | .local _ .vmem, ⟨4, _⟩ => ⟨S1x7680, .f32⟩
  | .local _ .vmem, ⟨5, _⟩ => ⟨S7680x1920, .fp8e4m3⟩
  | .local _ .vmem, ⟨6, _⟩ => ⟨S1x1920, .f32⟩
  | .local _ .vmem, ⟨7, _⟩ => ⟨S1x1920, .f32⟩
  | .local _ .vmem, ⟨8, _⟩ => ⟨S48x256x1920, .bf16⟩
  | .local _ .vmem, ⟨9, _⟩ => ⟨S48x256x1920, .fp8e4m3⟩
  | .local _ .vmem, ⟨10, _⟩ => ⟨S48x256, .f32⟩
  | .local _ .vmem, ⟨11, _⟩ => ⟨S48x256x7680, .fp8e4m3⟩
  | .local _ .vmem, ⟨12, _⟩ => ⟨S48x256, .f32⟩
  | _, _ => ⟨S48x256x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S48x256x1920 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x6x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x7680 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7680 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7680 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x1920 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1920 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S48x256x1920 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S48x256x1920 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S48x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S48x256x7680 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S48x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== AttnKernel.lean ====
abbrev S48x256x1920 : Shape := ⟨3, ![48, 256, 1920]⟩
abbrev S48x6x1920 : Shape := ⟨3, ![48, 6, 1920]⟩
abbrev S1920x5760 : Shape := ⟨2, ![1920, 5760]⟩
abbrev S5760 : Shape := ⟨1, ![5760]⟩
abbrev S1920 : Shape := ⟨1, ![1920]⟩
abbrev S30 : Shape := ⟨1, ![30]⟩
abbrev S48x424x30x64 : Shape := ⟨4, ![48, 424, 30, 64]⟩
abbrev S48x424x30 : Shape := ⟨3, ![48, 424, 30]⟩
abbrev S30x64x1920 : Shape := ⟨3, ![30, 64, 1920]⟩
abbrev S6x48x1920 : Shape := ⟨3, ![6, 48, 1920]⟩
abbrev S48x30x64x424 : Shape := ⟨4, ![48, 30, 64, 424]⟩
abbrev S30x48x424 : Shape := ⟨3, ![30, 48, 424]⟩
abbrev S5760x1920 : Shape := ⟨2, ![5760, 1920]⟩
abbrev S_ : Shape := ⟨0, ![]⟩
abbrev S5760x1 : Shape := ⟨2, ![5760, 1]⟩
abbrev S1920x1920 : Shape := ⟨2, ![1920, 1920]⟩
abbrev S1x1920 : Shape := ⟨2, ![1, 1920]⟩
abbrev S48x256 : Shape := ⟨2, ![48, 256]⟩
abbrev S48x30x64x256 : Shape := ⟨4, ![48, 30, 64, 256]⟩
abbrev S30x48x256 : Shape := ⟨3, ![30, 48, 256]⟩
abbrev S1x256x1920 : Shape := ⟨3, ![1, 256, 1920]⟩
abbrev S1x30x64x424 : Shape := ⟨4, ![1, 30, 64, 424]⟩
abbrev S1x30x64x256 : Shape := ⟨4, ![1, 30, 64, 256]⟩
abbrev S15x256x128 : Shape := ⟨3, ![15, 256, 128]⟩
abbrev S8x128 : Shape := ⟨2, ![8, 128]⟩
abbrev S1x1x1920 : Shape := ⟨3, ![1, 1, 1920]⟩
abbrev S1x32x1920 : Shape := ⟨3, ![1, 32, 1920]⟩
abbrev S32x1920 : Shape := ⟨2, ![32, 1920]⟩
abbrev S32 : Shape := ⟨1, ![32]⟩
abbrev S32x1 : Shape := ⟨2, ![32, 1]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S256x1920 : Shape := ⟨2, ![256, 1920]⟩
abbrev S384x1920 : Shape := ⟨2, ![384, 1920]⟩
abbrev S384x256 : Shape := ⟨2, ![384, 256]⟩
abbrev S384x1 : Shape := ⟨2, ![384, 1]⟩
abbrev S64x256 : Shape := ⟨2, ![64, 256]⟩
abbrev S256 : Shape := ⟨1, ![256]⟩
abbrev S1 : Shape := ⟨1, ![1]⟩
abbrev S1x256x128 : Shape := ⟨3, ![1, 256, 128]⟩
abbrev S1x1x64x256 : Shape := ⟨4, ![1, 1, 64, 256]⟩
abbrev S1x1x256 : Shape := ⟨3, ![1, 1, 256]⟩
abbrev S1x1x64x424 : Shape := ⟨4, ![1, 1, 64, 424]⟩
abbrev S64x424 : Shape := ⟨2, ![64, 424]⟩
abbrev S128x424 : Shape := ⟨2, ![128, 424]⟩
abbrev S256x424 : Shape := ⟨2, ![256, 424]⟩
abbrev S256x256 : Shape := ⟨2, ![256, 256]⟩
abbrev S1x1x424 : Shape := ⟨3, ![1, 1, 424]⟩
abbrev S1x424 : Shape := ⟨2, ![1, 424]⟩

abbrev nBuf : Space → Nat
  | .hbm => 39
  | .vmem => 31
  | .smem => 1
  | _ => 0

abbrev bufTy : (tb : Table) → Fin (tcTables nBuf tb) → BufTy
  | .hbm, ⟨0, _⟩ => ⟨S48x256x1920, .bf16⟩
  | .hbm, ⟨1, _⟩ => ⟨S48x6x1920, .f32⟩
  | .hbm, ⟨2, _⟩ => ⟨S1920x5760, .fp8e4m3⟩
  | .hbm, ⟨3, _⟩ => ⟨S5760, .f32⟩
  | .hbm, ⟨4, _⟩ => ⟨S1920, .f32⟩
  | .hbm, ⟨5, _⟩ => ⟨S1920, .f32⟩
  | .hbm, ⟨6, _⟩ => ⟨S30, .f32⟩
  | .hbm, ⟨7, _⟩ => ⟨S48x424x30x64, .i8⟩
  | .hbm, ⟨8, _⟩ => ⟨S48x424x30x64, .i8⟩
  | .hbm, ⟨9, _⟩ => ⟨S48x424x30, .f32⟩
  | .hbm, ⟨10, _⟩ => ⟨S30x64x1920, .fp8e4m3⟩
  | .hbm, ⟨11, _⟩ => ⟨S1920, .f32⟩
  | .hbm, ⟨12, _⟩ => ⟨S1920, .f32⟩
  | .hbm, ⟨13, _⟩ => ⟨S6x48x1920, .f32⟩
  | .hbm, ⟨14, _⟩ => ⟨S48x30x64x424, .i8⟩
  | .hbm, ⟨15, _⟩ => ⟨S48x30x64x424, .i8⟩
  | .hbm, ⟨16, _⟩ => ⟨S30x48x424, .f32⟩
  | .hbm, ⟨17, _⟩ => ⟨S5760x1920, .fp8e4m3⟩
  | .hbm, ⟨18, _⟩ => ⟨S_, .f32⟩
  | .hbm, ⟨19, _⟩ => ⟨S1920, .f32⟩
  | .hbm, ⟨20, _⟩ => ⟨S5760, .f32⟩
  | .hbm, ⟨21, _⟩ => ⟨S5760x1, .f32⟩
  | .hbm, ⟨22, _⟩ => ⟨S_, .f32⟩
  | .hbm, ⟨23, _⟩ => ⟨S30, .f32⟩
  | .hbm, ⟨24, _⟩ => ⟨S30, .f32⟩
  | .hbm, ⟨25, _⟩ => ⟨S30, .f32⟩
  | .hbm, ⟨26, _⟩ => ⟨S5760x1, .f32⟩
  | .hbm, ⟨27, _⟩ => ⟨S1920x1920, .fp8e4m3⟩
  | .hbm, ⟨28, _⟩ => ⟨S1x1920, .f32⟩
  | .hbm, ⟨29, _⟩ => ⟨S1x1920, .f32⟩
  | .hbm, ⟨30, _⟩ => ⟨S48x256x1920, .f32⟩
  | .hbm, ⟨31, _⟩ => ⟨S48x256x1920, .fp8e4m3⟩
  | .hbm, ⟨32, _⟩ => ⟨S48x256, .f32⟩
  | .hbm, ⟨33, _⟩ => ⟨S48x30x64x256, .i8⟩
  | .hbm, ⟨34, _⟩ => ⟨S48x30x64x256, .i8⟩
  | .hbm, ⟨35, _⟩ => ⟨S30x48x256, .f32⟩
  | .hbm, ⟨36, _⟩ => ⟨S48x256x1920, .fp8e4m3⟩
  | .hbm, ⟨37, _⟩ => ⟨S48x256, .f32⟩
  | .hbm, ⟨38, _⟩ => ⟨S48x256x1920, .f32⟩
  | .local _ .vmem, ⟨0, _⟩ => ⟨S1x256x1920, .bf16⟩
  | .local _ .vmem, ⟨1, _⟩ => ⟨S1x256x1920, .bf16⟩
  | .local _ .vmem, ⟨2, _⟩ => ⟨S6x48x1920, .f32⟩
  | .local _ .vmem, ⟨3, _⟩ => ⟨S5760x1920, .fp8e4m3⟩
  | .local _ .vmem, ⟨4, _⟩ => ⟨S5760x1, .f32⟩
  | .local _ .vmem, ⟨5, _⟩ => ⟨S5760x1, .f32⟩
  | .local _ .vmem, ⟨6, _⟩ => ⟨S1x30x64x424, .i8⟩
  | .local _ .vmem, ⟨7, _⟩ => ⟨S1x30x64x424, .i8⟩
  | .local _ .vmem, ⟨8, _⟩ => ⟨S1x30x64x424, .i8⟩
  | .local _ .vmem, ⟨9, _⟩ => ⟨S1x30x64x424, .i8⟩
  | .local _ .vmem, ⟨10, _⟩ => ⟨S30x48x424, .f32⟩
  | .local _ .vmem, ⟨11, _⟩ => ⟨S1920x1920, .fp8e4m3⟩
  | .local _ .vmem, ⟨12, _⟩ => ⟨S1x1920, .f32⟩
  | .local _ .vmem, ⟨13, _⟩ => ⟨S1x1920, .f32⟩
  | .local _ .vmem, ⟨14, _⟩ => ⟨S1x256x1920, .f32⟩
  | .local _ .vmem, ⟨15, _⟩ => ⟨S1x256x1920, .f32⟩
  | .local _ .vmem, ⟨16, _⟩ => ⟨S1x256x1920, .fp8e4m3⟩
  | .local _ .vmem, ⟨17, _⟩ => ⟨S1x256x1920, .fp8e4m3⟩
  | .local _ .vmem, ⟨18, _⟩ => ⟨S48x256, .f32⟩
  | .local _ .vmem, ⟨19, _⟩ => ⟨S1x30x64x256, .i8⟩
  | .local _ .vmem, ⟨20, _⟩ => ⟨S1x30x64x256, .i8⟩
  | .local _ .vmem, ⟨21, _⟩ => ⟨S1x30x64x256, .i8⟩
  | .local _ .vmem, ⟨22, _⟩ => ⟨S1x30x64x256, .i8⟩
  | .local _ .vmem, ⟨23, _⟩ => ⟨S30x48x256, .f32⟩
  | .local _ .vmem, ⟨24, _⟩ => ⟨S1x256x1920, .fp8e4m3⟩
  | .local _ .vmem, ⟨25, _⟩ => ⟨S1x256x1920, .fp8e4m3⟩
  | .local _ .vmem, ⟨26, _⟩ => ⟨S48x256, .f32⟩
  | .local _ .vmem, ⟨27, _⟩ => ⟨S1x256x1920, .f32⟩
  | .local _ .vmem, ⟨28, _⟩ => ⟨S1x256x1920, .f32⟩
  | .local _ .vmem, ⟨29, _⟩ => ⟨S15x256x128, .bf16⟩
  | .local _ .vmem, ⟨30, _⟩ => ⟨S8x128, .f32⟩
  | .local _ .smem, ⟨0, _⟩ => ⟨S30, .f32⟩
  | _, _ => ⟨S48x256x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v15_3 : Ref sig .tc := ⟨.hbm, 33, rfl⟩
abbrev main_v15_4 : Ref sig .tc := ⟨.hbm, 34, rfl⟩
abbrev main_v15_5 : Ref sig .tc := ⟨.hbm, 35, rfl⟩
abbrev main_v15_6 : Ref sig .tc := ⟨.hbm, 36, rfl⟩
abbrev main_v15_7 : Ref sig .tc := ⟨.hbm, 37, rfl⟩
abbrev main_v15_8 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg20_1 : Ref sig .tc := ⟨.vmem, 28, rfl⟩
abbrev cc0_scratch0 : Ref sig .tc := ⟨.vmem, 29, rfl⟩
abbrev cc0_scratch1 : Ref sig .tc := ⟨.vmem, 30, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem18_0 : DmaSem sig := 25
abbrev cc0_sem18_1 : DmaSem sig := 26
abbrev cc0_sem19_0 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨1, ![48], ![false]⟩

def k0_off1 (i : grid0.Coords) : Fin 3 → Nat :=
  let c0 : Index := 0#32
  let arg0 : BitVec 32 := BitVec.ofNat 32 (i 0).val
  let v0 : Index := Scalar.indexCast arg0
  let c0_0 : Index := 0#32
  ![0, v0.toNat, 0]
def k0_off2 (i : grid0.Coords) : Fin 3 → Nat :=
  let c2 : Index := 2#32
  let arg0 : BitVec 32 := BitVec.ofNat 32 (i 0).val
  let v3 : Index := Scalar.indexCast arg0
  let c0_1 : Index := 0#32
  ![2, v3.toNat, 0]
def k0_off3 (i : grid0.Coords) : Fin 3 → Nat :=
  let c4 : Index := 4#32
  let arg0 : BitVec 32 := BitVec.ofNat 32 (i 0).val
  let v8 : Index := Scalar.indexCast arg0
  let c0_2 : Index := 0#32
  ![4, v8.toNat, 0]
def k0_off4 (i : grid0.Coords) : Fin 2 → Nat :=
  let arg0 : BitVec 32 := BitVec.ofNat 32 (i 0).val
  let v384 : Index := Scalar.indexCast arg0
  let c0_148 : Index := 0#32
  ![v384.toNat, 0]
def k0_off5 (i : grid0.Coords) : Fin 3 → Nat :=
  let c0_280 : Index := 0#32
  let arg0 : BitVec 32 := BitVec.ofNat 32 (i 0).val
  let v718 : Index := Scalar.indexCast arg0
  let c0_281 : Index := 0#32
  ![0, v718.toNat, 0]
def k0_off6 (i : grid0.Coords) : Fin 3 → Nat :=
  let c1_293 : Index := 1#32
  let arg0 : BitVec 32 := BitVec.ofNat 32 (i 0).val
  let v747 : Index := Scalar.indexCast arg0
  let c0_294 : Index := 0#32
  ![1, v747.toNat, 0]
def k0_off7 (i : grid0.Coords) : Fin 3 → Nat :=
  let c2_306 : Index := 2#32
  let arg0 : BitVec 32 := BitVec.ofNat 32 (i 0).val
  let v776 : Index := Scalar.indexCast arg0
  let c0_307 : Index := 0#32
  ![2, v776.toNat, 0]
def k0_off8 (i : grid0.Coords) : Fin 3 → Nat :=
  let c3_319 : Index := 3#32
  let arg0 : BitVec 32 := BitVec.ofNat 32 (i 0).val
  let v805 : Index := Scalar.indexCast arg0
  let c0_320 : Index := 0#32
  ![3, v805.toNat, 0]
def k0_off9 (i : grid0.Coords) : Fin 3 → Nat :=
  let c4_332 : Index := 4#32
  let arg0 : BitVec 32 := BitVec.ofNat 32 (i 0).val
  let v834 : Index := Scalar.indexCast arg0
  let c0_333 : Index := 0#32
  ![4, v834.toNat, 0]
def k0_off10 (i : grid0.Coords) : Fin 3 → Nat :=
  let c5_345 : Index := 5#32
  let arg0 : BitVec 32 := BitVec.ofNat 32 (i 0).val
  let v863 : Index := Scalar.indexCast arg0
  let c0_346 : Index := 0#32
  ![5, v863.toNat, 0]
def k0_off11 (i : grid0.Coords) : Fin 3 → Nat :=
  let c6_473 : Index := 6#32
  let arg0 : BitVec 32 := BitVec.ofNat 32 (i 0).val
  let v1197 : Index := Scalar.indexCast arg0
  let c0_474 : Index := 0#32
  ![6, v1197.toNat, 0]
def k0_off12 (i : grid0.Coords) : Fin 3 → Nat :=
  let c7_486 : Index := 7#32
  let arg0 : BitVec 32 := BitVec.ofNat 32 (i 0).val
  let v1226 : Index := Scalar.indexCast arg0
  let c0_487 : Index := 0#32
  ![7, v1226.toNat, 0]
def k0_off13 (i : grid0.Coords) : Fin 3 → Nat :=
  let c8_499 : Index := 8#32
  let arg0 : BitVec 32 := BitVec.ofNat 32 (i 0).val
  let v1255 : Index := Scalar.indexCast arg0
  let c0_500 : Index := 0#32
  ![8, v1255.toNat, 0]
def k0_off14 (i : grid0.Coords) : Fin 3 → Nat :=
  let c9_512 : Index := 9#32
  let arg0 : BitVec 32 := BitVec.ofNat 32 (i 0).val
  let v1284 : Index := Scalar.indexCast arg0
  let c0_513 : Index := 0#32
  ![9, v1284.toNat, 0]
def k0_off15 (i : grid0.Coords) : Fin 3 → Nat :=
  let c10_525 : Index := 10#32
  let arg0 : BitVec 32 := BitVec.ofNat 32 (i 0).val
  let v1313 : Index := Scalar.indexCast arg0
  let c0_526 : Index := 0#32
  ![10, v1313.toNat, 0]
def k0_off16 (i : grid0.Coords) : Fin 3 → Nat :=
  let c11_538 : Index := 11#32
  let arg0 : BitVec 32 := BitVec.ofNat 32 (i 0).val
  let v1342 : Index := Scalar.indexCast arg0
  let c0_539 : Index := 0#32
  ![11, v1342.toNat, 0]
def k0_off17 (i : grid0.Coords) : Fin 3 → Nat :=
  let c12_666 : Index := 12#32
  let arg0 : BitVec 32 := BitVec.ofNat 32 (i 0).val
  let v1676 : Index := Scalar.indexCast arg0
  let c0_667 : Index := 0#32
  ![12, v1676.toNat, 0]
def k0_off18 (i : grid0.Coords) : Fin 3 → Nat :=
  let c13_679 : Index := 13#32
  let arg0 : BitVec 32 := BitVec.ofNat 32 (i 0).val
  let v1705 : Index := Scalar.indexCast arg0
  let c0_680 : Index := 0#32
  ![13, v1705.toNat, 0]
def k0_off19 (i : grid0.Coords) : Fin 3 → Nat :=
  let c14_692 : Index := 14#32
  let arg0 : BitVec 32 := BitVec.ofNat 32 (i 0).val
  let v1734 : Index := Scalar.indexCast arg0
  let c0_693 : Index := 0#32
  ![14, v1734.toNat, 0]
def k0_off20 (i : grid0.Coords) : Fin 3 → Nat :=
  let c15_705 : Index := 15#32
  let arg0 : BitVec 32 := BitVec.ofNat 32 (i 0).val
  let v1763 : Index := Scalar.indexCast arg0
  let c0_706 : Index := 0#32
  ![15, v1763.toNat, 0]
def k0_off21 (i : grid0.Coords) : Fin 3 → Nat :=
  let c16_718 : Index := 16#32
  let arg0 : BitVec 32 := BitVec.ofNat 32 (i 0).val
  let v1792 : Index := Scalar.indexCast arg0
  let c0_719 : Index := 0#32
  ![16, v1792.toNat, 0]
def k0_off22 (i : grid0.Coords) : Fin 3 → Nat :=
  let c17_731 : Index := 17#32
  let arg0 : BitVec 32 := BitVec.ofNat 32 (i 0).val
  let v1821 : Index := Scalar.indexCast arg0
  let c0_732 : Index := 0#32
  ![17, v1821.toNat, 0]
def k0_off23 (i : grid0.Coords) : Fin 3 → Nat :=
  let c18_859 : Index := 18#32
  let arg0 : BitVec 32 := BitVec.ofNat 32 (i 0).val
  let v2155 : Index := Scalar.indexCast arg0
  let c0_860 : Index := 0#32
  ![18, v2155.toNat, 0]
def k0_off24 (i : grid0.Coords) : Fin 3 → Nat :=
  let c19_872 : Index := 19#32
  let arg0 : BitVec 32 := BitVec.ofNat 32 (i 0).val
  let v2184 : Index := Scalar.indexCast arg0
  let c0_873 : Index := 0#32
  ![19, v2184.toNat, 0]
def k0_off25 (i : grid0.Coords) : Fin 3 → Nat :=
  let c20_885 : Index := 20#32
  let arg0 : BitVec 32 := BitVec.ofNat 32 (i 0).val
  let v2213 : Index := Scalar.indexCast arg0
  let c0_886 : Index := 0#32
  ![20, v2213.toNat, 0]
def k0_off26 (i : grid0.Coords) : Fin 3 → Nat :=
  let c21_898 : Index := 21#32
  let arg0 : BitVec 32 := BitVec.ofNat 32 (i 0).val
  let v2242 : Index := Scalar.indexCast arg0
  let c0_899 : Index := 0#32
  ![21, v2242.toNat, 0]
def k0_off27 (i : grid0.Coords) : Fin 3 → Nat :=
  let c22_911 : Index := 22#32
  let arg0 : BitVec 32 := BitVec.ofNat 32 (i 0).val
  let v2271 : Index := Scalar.indexCast arg0
  let c0_912 : Index := 0#32
  ![22, v2271.toNat, 0]
def k0_off28 (i : grid0.Coords) : Fin 3 → Nat :=
  let c23_924 : Index := 23#32
  let arg0 : BitVec 32 := BitVec.ofNat 32 (i 0).val
  let v2300 : Index := Scalar.indexCast arg0
  let c0_925 : Index := 0#32
  ![23, v2300.toNat, 0]
def k0_off29 (i : grid0.Coords) : Fin 3 → Nat :=
  let c24_1052 : Index := 24#32
  let arg0 : BitVec 32 := BitVec.ofNat 32 (i 0).val
  let v2634 : Index := Scalar.indexCast arg0
  let c0_1053 : Index := 0#32
  ![24, v2634.toNat, 0]
def k0_off30 (i : grid0.Coords) : Fin 3 → Nat :=
  let c25_1065 : Index := 25#32
  let arg0 : BitVec 32 := BitVec.ofNat 32 (i 0).val
  let v2663 : Index := Scalar.indexCast arg0
  let c0_1066 : Index := 0#32
  ![25, v2663.toNat, 0]
def k0_off31 (i : grid0.Coords) : Fin 3 → Nat :=
  let c26_1078 : Index := 26#32
  let arg0 : BitVec 32 := BitVec.ofNat 32 (i 0).val
  let v2692 : Index := Scalar.indexCast arg0
  let c0_1079 : Index := 0#32
  ![26, v2692.toNat, 0]
def k0_off32 (i : grid0.Coords) : Fin 3 → Nat :=
  let c27_1091 : Index := 27#32
  let arg0 : BitVec 32 := BitVec.ofNat 32 (i 0).val
  let v2721 : Index := Scalar.indexCast arg0
  let c0_1092 : Index := 0#32
  ![27, v2721.toNat, 0]
def k0_off33 (i : grid0.Coords) : Fin 3 → Nat :=
  let c28_1104 : Index := 28#32
  let arg0 : BitVec 32 := BitVec.ofNat 32 (i 0).val
  let v2750 : Index := Scalar.indexCast arg0
  let c0_1105 : Index := 0#32
  ![28, v2750.toNat, 0]
def k0_off34 (i : grid0.Coords) : Fin 3 → Nat :=
  let c29_1117 : Index := 29#32
  let arg0 : BitVec 32 := BitVec.ofNat 32 (i 0).val
  let v2779 : Index := Scalar.indexCast arg0
  let c0_1118 : Index := 0#32
  ![29, v2779.toNat, 0]
@[reducible] def k0_t1_loop : Scf.Loop 32 :=
  let c0_i32 : BitVec 32 := 0#32
  let c15_i32 : BitVec 32 := 15#32
  let v2783 : BitVec 32 := Scalar.addi c0_i32 c15_i32
  let c1_i32 : BitVec 32 := 1#32
  ⟨c0_i32, v2783, c1_i32⟩
def k0_off35 (k0_t1 : Fin k0_t1_loop.trips) : Fin 3 → Nat :=
  let c0_i32 : BitVec 32 := 0#32
  let c1_i32 : BitVec 32 := 1#32
  let arg24 : BitVec 32 := Scf.iv c0_i32 c1_i32 k0_t1
  let v2999 : Index := Scalar.indexCast arg24
  let c0_1241 : Index := 0#32
  let c0_1242 : Index := 0#32
  ![v2999.toNat, 0, 0]
def k0_off36 (k0_t1 : Fin k0_t1_loop.trips) (c0_i32_1243 : BitVec 32) : Fin 4 → Nat :=
  let c0_1244 : Index := 0#32
  let c2_i32 : BitVec 32 := 2#32
  let c0_i32 : BitVec 32 := 0#32
  let c1_i32 : BitVec 32 := 1#32
  let arg24 : BitVec 32 := Scf.iv c0_i32 c1_i32 k0_t1
  let v3002 : BitVec 32 := Scalar.muli c2_i32 arg24
  let v3003 : BitVec 32 := Scalar.addi v3002 c0_i32_1243
  let v3004 : Index := Scalar.indexCast v3003
  let c0_1245 : Index := 0#32
  let c0_1246 : Index := 0#32
  ![0, v3004.toNat, 0, 0]
def k0_off37 (k0_t1 : Fin k0_t1_loop.trips) (c0_i32_1243 : BitVec 32) : Fin 4 → Nat :=
  let c0_1247 : Index := 0#32
  let c2_i32 : BitVec 32 := 2#32
  let c0_i32 : BitVec 32 := 0#32
  let c1_i32 : BitVec 32 := 1#32
  let arg24 : BitVec 32 := Scf.iv c0_i32 c1_i32 k0_t1
  let v3002 : BitVec 32 := Scalar.muli c2_i32 arg24
  let v3003 : BitVec 32 := Scalar.addi v3002 c0_i32_1243
  let v3008 : Index := Scalar.indexCast v3003
  let c0_1248 : Index := 0#32
  let c0_1249 : Index := 0#32
  ![0, v3008.toNat, 0, 0]
def k0_off38 (i : grid0.Coords) (k0_t1 : Fin k0_t1_loop.trips) (c0_i32_1243 : BitVec 32) : Fin 3 → Nat :=
  let c2_i32 : BitVec 32 := 2#32
  let c0_i32 : BitVec 32 := 0#32
  let c1_i32 : BitVec 32 := 1#32
  let arg24 : BitVec 32 := Scf.iv c0_i32 c1_i32 k0_t1
  let v3002 : BitVec 32 := Scalar.muli c2_i32 arg24
  let v3003 : BitVec 32 := Scalar.addi v3002 c0_i32_1243
  let v3043 : Index := Scalar.indexCast v3003
  let arg0 : BitVec 32 := BitVec.ofNat 32 (i 0).val
  let v3044 : Index := Scalar.indexCast arg0
  let c0_1262 : Index := 0#32
  ![v3043.toNat, v3044.toNat, 0]
def k0_off39 (i : grid0.Coords) (k0_t1 : Fin k0_t1_loop.trips) (c0_i32_1243 : BitVec 32) : Fin 3 → Nat :=
  let c2_i32 : BitVec 32 := 2#32
  let c0_i32 : BitVec 32 := 0#32
  let c1_i32 : BitVec 32 := 1#32
  let arg24 : BitVec 32 := Scf.iv c0_i32 c1_i32 k0_t1
  let v3002 : BitVec 32 := Scalar.muli c2_i32 arg24
  let v3003 : BitVec 32 := Scalar.addi v3002 c0_i32_1243
  let v3050 : Index := Scalar.indexCast v3003
  let arg0 : BitVec 32 := BitVec.ofNat 32 (i 0).val
  let v3051 : Index := Scalar.indexCast arg0
  let c0_1263 : Index := 0#32
  ![v3050.toNat, v3051.toNat, 0]
def k0_mult1 (k0_t1 : Fin k0_t1_loop.trips) : BitVec 32 :=
  let c0_i32 : BitVec 32 := 0#32
  let c1_i32 : BitVec 32 := 1#32
  let arg24 : BitVec 32 := Scf.iv c0_i32 c1_i32 k0_t1
  let c128_i32 : BitVec 32 := 128#32
  let v3149 : BitVec 32 := Scalar.muli arg24 c128_i32
  v3149
def k0_off40 (k0_t1 : Fin k0_t1_loop.trips) : Fin 3 → Nat :=
  let c0_1304 : Index := 0#32
  let c0_1305 : Index := 0#32
  let c0_i32 : BitVec 32 := 0#32
  let c1_i32 : BitVec 32 := 1#32
  let arg24 : BitVec 32 := Scf.iv c0_i32 c1_i32 k0_t1
  let c128_i32 : BitVec 32 := 128#32
  let v3149 : BitVec 32 := Scalar.muli arg24 c128_i32
  let v3150 : BitVec 32 := v3149
  let v3151 : Index := Scalar.indexCast v3150
  ![0, 0, v3151.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x48x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5760x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5760x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5760x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S30 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x30x64x424 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x30x64x424 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S30x48x424 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1920x1920 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1920 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1920 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x256x1920 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x1920 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S48x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x30x64x256 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x30x64x256 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S30x48x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x256x1920 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S48x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x256x1920 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== AttnReferenceIdeal.lean ====
abbrev S48x256x1920 : Shape := ⟨3, ![48, 256, 1920]⟩
abbrev S48x6x1920 : Shape := ⟨3, ![48, 6, 1920]⟩
abbrev S1920x5760 : Shape := ⟨2, ![1920, 5760]⟩
abbrev S5760 : Shape := ⟨1, ![5760]⟩
abbrev S1920 : Shape := ⟨1, ![1920]⟩
abbrev S30 : Shape := ⟨1, ![30]⟩
abbrev S48x424x30x64 : Shape := ⟨4, ![48, 424, 30, 64]⟩
abbrev S48x424x30 : Shape := ⟨3, ![48, 424, 30]⟩
abbrev S30x64x1920 : Shape := ⟨3, ![30, 64, 1920]⟩
abbrev S_ : Shape := ⟨0, ![]⟩
abbrev S30x1 : Shape := ⟨2, ![30, 1]⟩
abbrev S1x5760 : Shape := ⟨2, ![1, 5760]⟩
abbrev S1920x1920 : Shape := ⟨2, ![1920, 1920]⟩
abbrev S1x1920 : Shape := ⟨2, ![1, 1920]⟩
abbrev S48x256 : Shape := ⟨2, ![48, 256]⟩
abbrev S48x30x64x256 : Shape := ⟨4, ![48, 30, 64, 256]⟩
abbrev S30x48x256 : Shape := ⟨3, ![30, 48, 256]⟩
abbrev S48x1x1920 : Shape := ⟨3, ![48, 1, 1920]⟩
abbrev S48x256x1 : Shape := ⟨3, ![48, 256, 1]⟩
abbrev S12288x1920 : Shape := ⟨2, ![12288, 1920]⟩
abbrev S12288x5760 : Shape := ⟨2, ![12288, 5760]⟩
abbrev S48x256x5760 : Shape := ⟨3, ![48, 256, 5760]⟩
abbrev S1x1x5760 : Shape := ⟨3, ![1, 1, 5760]⟩
abbrev S48x256x30x64 : Shape := ⟨4, ![48, 256, 30, 64]⟩
abbrev S48x256x30 : Shape := ⟨3, ![48, 256, 30]⟩
abbrev S48x256x30x1 : Shape := ⟨4, ![48, 256, 30, 1]⟩
abbrev S1x1x30x1 : Shape := ⟨4, ![1, 1, 30, 1]⟩
abbrev S48x30x256x424 : Shape := ⟨4, ![48, 30, 256, 424]⟩
abbrev S48x30x256x256 : Shape := ⟨4, ![48, 30, 256, 256]⟩
abbrev S48x30x256 : Shape := ⟨3, ![48, 30, 256]⟩
abbrev S48x30x256x1 : Shape := ⟨4, ![48, 30, 256, 1]⟩
abbrev S48x30x424 : Shape := ⟨3, ![48, 30, 424]⟩
abbrev S48x30x1x424 : Shape := ⟨4, ![48, 30, 1, 424]⟩
abbrev S48x30x1x256 : Shape := ⟨4, ![48, 30, 1, 256]⟩
abbrev S1x1x1920 : Shape := ⟨3, ![1, 1, 1920]⟩

abbrev nBuf : Space → Nat
  | .hbm => 35
  | .vmem => 21
  | .smem => 0
  | _ => 0

abbrev bufTy : (tb : Table) → Fin (tcTables nBuf tb) → BufTy
  | .hbm, ⟨0, _⟩ => ⟨S48x256x1920, .bf16⟩
  | .hbm, ⟨1, _⟩ => ⟨S48x6x1920, .f32⟩
  | .hbm, ⟨2, _⟩ => ⟨S1920x5760, .fp8e4m3⟩
  | .hbm, ⟨3, _⟩ => ⟨S5760, .f32⟩
  | .hbm, ⟨4, _⟩ => ⟨S1920, .f32⟩
  | .hbm, ⟨5, _⟩ => ⟨S1920, .f32⟩
  | .hbm, ⟨6, _⟩ => ⟨S30, .f32⟩
  | .hbm, ⟨7, _⟩ => ⟨S48x424x30x64, .i8⟩
  | .hbm, ⟨8, _⟩ => ⟨S48x424x30x64, .i8⟩
  | .hbm, ⟨9, _⟩ => ⟨S48x424x30, .f32⟩
  | .hbm, ⟨10, _⟩ => ⟨S30x64x1920, .fp8e4m3⟩
  | .hbm, ⟨11, _⟩ => ⟨S1920, .f32⟩
  | .hbm, ⟨12, _⟩ => ⟨S1920, .f32⟩
  | .hbm, ⟨13, _⟩ => ⟨S_, .f32⟩
  | .hbm, ⟨14, _⟩ => ⟨S1920, .f32⟩
  | .hbm, ⟨15, _⟩ => ⟨S5760, .f32⟩
  | .hbm, ⟨16, _⟩ => ⟨S_, .f32⟩
  | .hbm, ⟨17, _⟩ => ⟨S30, .f32⟩
  | .hbm, ⟨18, _⟩ => ⟨S30, .f32⟩
  | .hbm, ⟨19, _⟩ => ⟨S30, .f32⟩
  | .hbm, ⟨20, _⟩ => ⟨S30x1, .f32⟩
  | .hbm, ⟨21, _⟩ => ⟨S1x5760, .f32⟩
  | .hbm, ⟨22, _⟩ => ⟨S1x5760, .f32⟩
  | .hbm, ⟨23, _⟩ => ⟨S1920x1920, .fp8e4m3⟩
  | .hbm, ⟨24, _⟩ => ⟨S1x1920, .f32⟩
  | .hbm, ⟨25, _⟩ => ⟨S1x1920, .f32⟩
  | .hbm, ⟨26, _⟩ => ⟨S48x256x1920, .f32⟩
  | .hbm, ⟨27, _⟩ => ⟨S48x256x1920, .fp8e4m3⟩
  | .hbm, ⟨28, _⟩ => ⟨S48x256, .f32⟩
  | .hbm, ⟨29, _⟩ => ⟨S48x30x64x256, .i8⟩
  | .hbm, ⟨30, _⟩ => ⟨S48x30x64x256, .i8⟩
  | .hbm, ⟨31, _⟩ => ⟨S30x48x256, .f32⟩
  | .hbm, ⟨32, _⟩ => ⟨S48x256x1920, .fp8e4m3⟩
  | .hbm, ⟨33, _⟩ => ⟨S48x256, .f32⟩
  | .hbm, ⟨34, _⟩ => ⟨S48x256x1920, .f32⟩
  | .local _ .vmem, ⟨0, _⟩ => ⟨S48x256x1920, .bf16⟩
  | .local _ .vmem, ⟨1, _⟩ => ⟨S48x6x1920, .f32⟩
  | .local _ .vmem, ⟨2, _⟩ => ⟨S1920x5760, .fp8e4m3⟩
  | .local _ .vmem, ⟨3, _⟩ => ⟨S1x5760, .f32⟩
  | .local _ .vmem, ⟨4, _⟩ => ⟨S1x5760, .f32⟩
  | .local _ .vmem, ⟨5, _⟩ => ⟨S30x1, .f32⟩
  | .local _ .vmem, ⟨6, _⟩ => ⟨S48x424x30x64, .i8⟩
  | .local _ .vmem, ⟨7, _⟩ => ⟨S48x424x30x64, .i8⟩
  | .local _ .vmem, ⟨8, _⟩ => ⟨S48x424x30, .f32⟩
  | .local _ .vmem, ⟨9, _⟩ => ⟨S1920x1920, .fp8e4m3⟩
  | .local _ .vmem, ⟨10, _⟩ => ⟨S1x1920, .f32⟩
  | .local _ .vmem, ⟨11, _⟩ => ⟨S1x1920, .f32⟩
  | .local _ .vmem, ⟨12, _⟩ => ⟨S48x256x1920, .f32⟩
  | .local _ .vmem, ⟨13, _⟩ => ⟨S48x256x1920, .fp8e4m3⟩
  | .local _ .vmem, ⟨14, _⟩ => ⟨S48x256, .f32⟩
  | .local _ .vmem, ⟨15, _⟩ => ⟨S48x30x64x256, .i8⟩
  | .local _ .vmem, ⟨16, _⟩ => ⟨S48x30x64x256, .i8⟩
  | .local _ .vmem, ⟨17, _⟩ => ⟨S30x48x256, .f32⟩
  | .local _ .vmem, ⟨18, _⟩ => ⟨S48x256x1920, .fp8e4m3⟩
  | .local _ .vmem, ⟨19, _⟩ => ⟨S48x256, .f32⟩
  | .local _ .vmem, ⟨20, _⟩ => ⟨S48x256x1920, .f32⟩
  | _, _ => ⟨S48x256x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev main_v11_6 : Ref sig .tc := ⟨.hbm, 32, rfl⟩
abbrev main_v11_7 : Ref sig .tc := ⟨.hbm, 33, rfl⟩
abbrev main_v11_8 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S48x256x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x6x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x5760 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5760 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5760 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S30x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x424x30x64 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x424x30x64 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S48x424x30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1920x1920 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1920 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1920 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S48x256x1920 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S48x256x1920 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S48x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S48x30x64x256 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S48x30x64x256 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S30x48x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S48x256x1920 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S48x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S48x256x1920 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Proof.MlpBits.Runs.lean ====
/- What the frame of the program `MlpKernel` stands on: @main up to its region, the arrays there, the blocks and the staging memrefs. -/
module

public import proofs.«01_k».proof.Proof.Gen.MlpKernel.Launch
public import proofs.«01_k».proof.Proof.Gen.MlpKernel.Skeleton
public import proofs.«01_k».proof.Proof.Gen.MlpKernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.MlpBits

open Cert.MlpKernel Cert.MlpKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_MlpKernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x256x1920 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x48x1920 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1920x7680 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7680 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7680 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S7680x1920 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1920 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1920 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1920 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x1920 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S48x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x7680 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S48x256 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S256x7680 .f32 := Memref.whole cc0_scratch0

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.MlpBits

end
-- ==== Proof.MlpBits.RunA.lean ====
/- The whole-body run of the kernel of `MlpKernel`: it runs from its buffers to the continuation holding the inputs as they were and the outputs at some contents. -/
module

public import proofs.«01_k».proof.Proof.MlpBits.Runs

@[expose] public section

-- membership in a rectangle of production extents (`View.cover_of_tiled`): the elaborator's structural look
-- recurses once per coordinate of the long axes
set_option maxRecDepth 16384

noncomputable section

namespace Cert.MlpBits

open Cert.MlpKernel Cert.MlpKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3100000 in
/-- The body's triple: on whole staging memrefs — the inputs' at their contents,
    the FORGOTTEN outputs' (8, 9, 10, 11, 12) at anything, handed back at some contents nothing names —
    the body runs to the continuation holding the inputs' as they were, the scratch at some contents: the printed functions are their skeletons (`*_eq_skeleton`),
    which `sl_exec` runs (Lib/Exec.lean). -/
theorem kernelRun0_A (c : Dev nD) (i : grid0.Coords) (arg1 : Memref sig .tc .vmem S1x256x1920 .f32) (harg1 : arg1.IsWhole) (arg2 : Memref sig .tc .vmem S6x48x1920 .f32) (harg2 : arg2.IsWhole) (arg3 : Memref sig .tc .vmem S1920x7680 .fp8e4m3) (harg3 : arg3.IsWhole) (arg4 : Memref sig .tc .vmem S1x7680 .f32) (harg4 : arg4.IsWhole) (arg5 : Memref sig .tc .vmem S1x7680 .f32) (harg5 : arg5.IsWhole) (arg6 : Memref sig .tc .vmem S7680x1920 .fp8e4m3) (harg6 : arg6.IsWhole) (arg7 : Memref sig .tc .vmem S1x1920 .f32) (harg7 : arg7.IsWhole) (arg8 : Memref sig .tc .vmem S1x1920 .f32) (harg8 : arg8.IsWhole) (arg9 : Memref sig .tc .vmem S1x256x1920 .bf16) (harg9 : arg9.IsWhole) (arg10 : Memref sig .tc .vmem S1x256x1920 .fp8e4m3) (harg10 : arg10.IsWhole) (arg11 : Memref sig .tc .vmem S48x256 .f32) (harg11 : arg11.IsWhole) (arg12 : Memref sig .tc .vmem S1x256x7680 .fp8e4m3) (harg12 : arg12.IsWhole) (arg13 : Memref sig .tc .vmem S48x256 .f32) (harg13 : arg13.IsWhole) (arg14 : Memref sig .tc .vmem S256x7680 .f32) (harg14 : arg14.IsWhole)
    (x0 : Vec F S1x256x1920 .f32) (x1 : Vec F S6x48x1920 .f32) (x2 : Vec F S1920x7680 .fp8e4m3) (x3 : Vec F S1x7680 .f32) (x4 : Vec F S1x7680 .f32) (x5 : Vec F S7680x1920 .fp8e4m3) (x6 : Vec F S1x1920 .f32) (x7 : Vec F S1x1920 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_mlp_half i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_mlp_half_eq_skeleton]; unfold cc0_mlp_half_skel
    simp only [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact HS0
    ipureintro; rfl

end Cert.MlpBits

end
-- ==== Proof.MlpBits.Frame.lean ====
/- The frame of the program `MlpKernel`, with nothing stated of what it leaves in its outputs: the proof data, the body obligation, the run and the frame. -/
module

public import proofs.«01_k».proof.Proof.MlpBits.RunA
public import Idealize.ShloMosaic.Lib.Claim

@[expose] public section

-- membership in a rectangle of production extents (`View.cover_of_tiled`): the elaborator's structural look
-- recurses once per coordinate of the long axes
set_option maxRecDepth 16384

noncomputable section

namespace Cert.MlpBits

open Cert.MlpKernel Cert.MlpKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8, 9, 10, 11, 12): nothing reads what the kernel leaves in them, so nothing
    of it is named (Lib/Pipeline/Dat.lean `Dat.toRForget`). -/
def forgets0 : Fin 13 → Bool := fun w => w.val == 8 || w.val == 9 || w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  iintro ⟨H0, H1, H2, H3, H4, H5, H6, H7, H8, H9, H10, H11, H12, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10, 11, 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_MlpKernel`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.MlpBits

end
-- ==== Proof.Mlp.Run.lean ====
/- The whole-body run of the MLP-half kernel on any staging memrefs, as a subtype that the run finds.

   The body writes row `b` of the two resident [48, 256] outputs (the scale of the LayerNorm rows and the scale of the
   GELU rows) and leaves their other rows as they were, so those two buffers enter with NAMED contents (`x10`, `x12`) and
   leave with the found pieces written over them. The three per-batch outputs and the scratch enter with any contents. -/
module

public import proofs.«01_k».proof.Proof.Gen.MlpKernelIdeal.Frame
public import proofs.«01_k».proof.Proof.Gen.MlpKernelIdeal.Skeleton
public import Idealize.ShloMosaic.Lib.Pipeline.FrameBody
public import Idealize.ShloMosaic.Lib.Ring
public import Idealize.ShloMosaic.Lib.Tactic

@[expose] public section

set_option maxRecDepth 16384

noncomputable section

namespace Cert.Mlp

open Cert.MlpKernelIdeal Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6000000 in
/-- What the body's stores leave in each output's staging memref, as pieces (last first), with the proof that the body
    runs from its buffers to the continuation holding the inputs' as they were and each output's with its pieces written.
    The pieces are the witness that `sl_exec` finds. -/
noncomputable def kernelRun (c : Dev nD) (i : grid0.Coords) (arg1 : Memref sig .tc .vmem S1x256x1920 .f32) (harg1 : arg1.IsWhole) (arg2 : Memref sig .tc .vmem S6x48x1920 .f32) (harg2 : arg2.IsWhole) (arg3 : Memref sig .tc .vmem S1920x7680 .fp8e4m3) (harg3 : arg3.IsWhole) (arg4 : Memref sig .tc .vmem S1x7680 .f32) (harg4 : arg4.IsWhole) (arg5 : Memref sig .tc .vmem S1x7680 .f32) (harg5 : arg5.IsWhole) (arg6 : Memref sig .tc .vmem S7680x1920 .fp8e4m3) (harg6 : arg6.IsWhole) (arg7 : Memref sig .tc .vmem S1x1920 .f32) (harg7 : arg7.IsWhole) (arg8 : Memref sig .tc .vmem S1x1920 .f32) (harg8 : arg8.IsWhole) (arg9 : Memref sig .tc .vmem S1x256x1920 .bf16) (harg9 : arg9.IsWhole) (arg10 : Memref sig .tc .vmem S1x256x1920 .fp8e4m3) (harg10 : arg10.IsWhole) (arg11 : Memref sig .tc .vmem S48x256 .f32) (harg11 : arg11.IsWhole) (arg12 : Memref sig .tc .vmem S1x256x7680 .fp8e4m3) (harg12 : arg12.IsWhole) (arg13 : Memref sig .tc .vmem S48x256 .f32) (harg13 : arg13.IsWhole) (arg14 : Memref sig .tc .vmem S256x7680 .f32) (harg14 : arg14.IsWhole)
    (x0 : Vec F S1x256x1920 .f32) (x1 : Vec F S6x48x1920 .f32) (x2 : Vec F S1920x7680 .fp8e4m3) (x3 : Vec F S1x7680 .f32) (x4 : Vec F S1x7680 .f32) (x5 : Vec F S7680x1920 .fp8e4m3) (x6 : Vec F S1x1920 .f32) (x7 : Vec F S1x1920 .f32) (x10 : Vec F S48x256 .f32) (x12 : Vec F S48x256 .f32) :
    Σ' (L8 : List (View.Piece (Elt F) S1x256x1920 .bf16)), Σ' (L9 : List (View.Piece (Elt F) S1x256x1920 .fp8e4m3)), Σ' (L10 : List (View.Piece (Elt F) S48x256 .f32)), Σ' (L11 : List (View.Piece (Elt F) S1x256x7680 .fp8e4m3)), Σ' (L12 : List (View.Piece (Elt F) S48x256 .f32)), { LT0 : List (View.Piece (Elt F) S256x7680 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare x10 ∗ (∃ d, owns (c : Thread nD τ) arg12 fullShare d) ∗ owns (c : Thread nD τ) arg13 fullShare x12 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread x10) L10) ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread x12) L12) ∗ (∃ f, arg14.view.loc (c : Thread nD τ) ↦[arg14.view.set]{fullShare} arg14.view.writes (Elt F) f LT0)) -∗ K ⟨⟩))
          ⊢ wp frame (wpE (defs₀ (F := F)) Variants.none c none) E (cc0_mlp_half i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_mlp_half_eq_skeleton]; unfold cc0_mlp_half_skel
    simp only [k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, ⟨%f12, %hf12, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexact H10
    isplitl [H11]; · iexists _; iexact H11
    isplitl [H12]; · iexact H12
    iexists _; iexact HS0

end Cert.Mlp

end
-- ==== Proof.Mlp.Tiles.lean ====
/- The tiles of the MLP-half kernel, stated once for all tile numbers: the LayerNorm rows are done in 8 tiles of 32 rows,
   the feed-forward columns in 60 tiles of 128 lanes (six to each product with 768 columns of the first weight). The
   pieces that the run found are these tiles. -/
module

public import proofs.«01_k».proof.Proof.Mlp.Run

@[expose] public section

set_option maxRecDepth 16384

noncomputable section

namespace Cert.Mlp

open Cert.MlpKernelIdeal Cert.MlpKernelIdeal.Gen
open Idealize.ShloMosaic Idealize.ShloMosaic.TcCoe Idealize.ShloMosaic.Tactic

variable {F : FTy → Type} [FloatOps F]

/-! ### The row tiles -/

theorem inb_rows (k : ℕ) : ∀ a, (![0, 32 * (k % 8), 0] : Fin 3 → ℕ) a + S1x32x1920.size a ≤ S1x256x1920.size a := by
  have h := Nat.mod_lt k (show 0 < 8 by omega)
  intro a; fin_cases a
  · show 0 + 1 ≤ 1; omega
  · show 32 * (k % 8) + 32 ≤ 256; omega
  · show 0 + 1920 ≤ 1920; omega

/-- Rows `32 k … 32 k + 31` of a block. -/
abbrev rowRect (k : ℕ) : Rect S1x256x1920 := Rect.unit ![0, 32 * (k % 8), 0] S1x32x1920.size (inb_rows k)

/-- The scales of one tile of rows. -/
def rowScale (mul add : FVec F S1x1920 .f32) (x : Vec F S1x32x1920 .f32) : FVec F S32x1 .f32 := k0_pay41 mul add (k0_pay39 x)

/-- The codes of one tile of rows. -/
def rowCodes (mul add : FVec F S1x1920 .f32) (x : Vec F S1x32x1920 .f32) : FVec F S1x32x1920 .fp8e4m3 := k0_pay42 mul add (k0_pay39 x)

/-- The scales of all rows. -/
def colScale (mul add : FVec F S1x1920 .f32) (X : ℕ → Vec F S1x32x1920 .f32) : FVec F S256x1 .f32 :=
  concatenate S256x1 0 [⟨S32x1, rowScale mul add (X 0)⟩, ⟨S32x1, rowScale mul add (X 1)⟩, ⟨S32x1, rowScale mul add (X 2)⟩, ⟨S32x1, rowScale mul add (X 3)⟩, ⟨S32x1, rowScale mul add (X 4)⟩, ⟨S32x1, rowScale mul add (X 5)⟩, ⟨S32x1, rowScale mul add (X 6)⟩, ⟨S32x1, rowScale mul add (X 7)⟩] concatenates_S32x1_S32x1_S32x1_S32x1_S32x1_S32x1_S32x1_S32x1_S256x1_d0

/-- The stores of the row tiles' codes, last first. -/
def rowPieces (mul add : FVec F S1x1920 .f32) (X : ℕ → Vec F S1x32x1920 .f32) : ℕ → List (View.Piece (Elt F) S1x256x1920 .fp8e4m3)
  | 0 => []
  | n + 1 => ⟨rowRect n, rowCodes mul add (X n)⟩ :: rowPieces mul add X n

/-! ### The feed-forward tiles -/

theorem slices_tile (n : ℕ) : S256x768.Slices ![0, 128 * (n % 6)] S256x128 :=
  (by decide : ∀ j : Fin 6, S256x768.Slices ![0, 128 * j.val] S256x128) ⟨n % 6, Nat.mod_lt n (by omega)⟩

theorem inb_lane (n : ℕ) : ∀ a, (![0, 128 * (n % 60)] : Fin 2 → ℕ) a + S1x128.size a ≤ S1x7680.size a := by
  have h := Nat.mod_lt n (show 0 < 60 by omega)
  intro a; fin_cases a
  · show 0 + 1 ≤ 1; omega
  · show 128 * (n % 60) + 128 ≤ 7680; omega

theorem inb_tile (n : ℕ) : ∀ a, (![0, 128 * (n % 60)] : Fin 2 → ℕ) a + S256x128.size a ≤ S256x7680.size a := by
  have h := Nat.mod_lt n (show 0 < 60 by omega)
  intro a; fin_cases a
  · show 0 + 256 ≤ 256; omega
  · show 128 * (n % 60) + 128 ≤ 7680; omega

theorem inb_code (n : ℕ) : ∀ a, (![0, 0, 128 * (n % 60)] : Fin 3 → ℕ) a + S1x256x128.size a ≤ S1x256x7680.size a := by
  have h := Nat.mod_lt n (show 0 < 60 by omega)
  intro a; fin_cases a
  · show 0 + 1 ≤ 1; omega
  · show 0 + 256 ≤ 256; omega
  · show 128 * (n % 60) + 128 ≤ 7680; omega

theorem inb_chunk (k : ℕ) : ∀ a, (![0, 768 * (k % 10)] : Fin 2 → ℕ) a + S1920x768.size a ≤ S1920x7680.size a := by
  have h := Nat.mod_lt k (show 0 < 10 by omega)
  intro a; fin_cases a
  · show 0 + 1920 ≤ 1920; omega
  · show 768 * (k % 10) + 768 ≤ 7680; omega

/-- Lanes `128 n … 128 n + 127` of a row. -/
abbrev laneRect (n : ℕ) : Rect S1x7680 := Rect.unit ![0, 128 * (n % 60)] S1x128.size (inb_lane n)
/-- Those lanes of the scratch. -/
abbrev tileRect (n : ℕ) : Rect S256x7680 := Rect.unit ![0, 128 * (n % 60)] S256x128.size (inb_tile n)
/-- Those lanes of the block of codes. -/
abbrev codeRect (n : ℕ) : Rect S1x256x7680 := Rect.unit ![0, 0, 128 * (n % 60)] S1x256x128.size (inb_code n)
/-- Columns `768 k … 768 k + 767` of the first weight. -/
abbrev chunkRect (k : ℕ) : Rect S1920x7680 := Rect.unit ![0, 768 * (k % 10)] S1920x768.size (inb_chunk k)

/-- The first product's columns of one chunk. -/
def chunk (v : Vec F S1x256x1920 .fp8e4m3) (w : Vec F S1920x768 .fp8e4m3) : FVec F S256x768 .f32 := k0_pay48 v w

/-- GELU of a tile, in the tanh form. -/
def geluTile (x : FVec F S256x128 .f32) : FVec F S256x128 .f32 :=
  mulf x (mulf (broadcast S256x128 (Scalar.ofBits .f32 0x3F000000#32)) (addf (broadcast S256x128 (Scalar.ofBits .f32 0x3F800000#32))
    (tanh (mulf (broadcast S256x128 (Scalar.ofBits .f32 0x3F4C422A#32)) (addf x (mulf (broadcast S256x128 (Scalar.ofBits .f32 0x3D372713#32)) (mulf x (mulf x x))))))))

/-- Tile `n`: GELU of the product's lanes, scaled by row and by lane, plus the bias. -/
def gTile (s : FVec F S256x1 .f32) (v : Vec F S1x256x1920 .fp8e4m3) (W : ℕ → Vec F S1920x768 .fp8e4m3) (ws b : ℕ → Vec F S1x128 .f32) (n : ℕ) : FVec F S256x128 .f32 :=
  geluTile (addf (mulf (mulf (extractStridedSlice S256x128 ![0, 128 * (n % 6)] (chunk v (W (n / 6))) (slices_tile n)) (k0_pay45 s))
    (broadcastTo S256x128 (shapeCast S1x128 (ws n) shapeCasts_S1x128_S1x128) broadcasts_S1x128_S256x128))
    (broadcastTo S256x128 (shapeCast S1x128 (b n) shapeCasts_S1x128_S1x128) broadcasts_S1x128_S256x128))

/-- The largest magnitude by lane of the first `n` tiles, from zero. -/
def amaxUpto (g : ℕ → FVec F S256x128 .f32) : ℕ → FVec F S256x128 .f32
  | 0 => k0_pay46
  | n + 1 => maximumf (amaxUpto g n) (absf (g n))

/-- The stores of the first `n` tiles to the scratch, last first. -/
def tilePieces (g : ℕ → FVec F S256x128 .f32) : ℕ → List (View.Piece (Elt F) S256x7680 .f32)
  | 0 => []
  | n + 1 => ⟨tileRect n, shapeCast S256x128 (g n) shapeCasts_S256x128_S256x128⟩ :: tilePieces g n

/-- The scales of the rows of GELU values. -/
def colScale2 (a : FVec F S256x128 .f32) : FVec F S256x1 .f32 :=
  let m := shapeCast S256x1 (multiReduction .maximumf [1] S256 a 0xFF800000#32 reduces_S256x128_S256 (.inl rfl) rfl) shapeCasts_S256_S256x1
  select (cmpf .oeq m (broadcast S256x1 (Scalar.ofBits .f32 0x00000000#32))) (broadcast S256x1 (Scalar.ofBits .f32 0x3F800000#32))
    (divf m (broadcast S256x1 (Scalar.ofBits .f32 0x43E00000#32)))

/-- A column of 256 scales as the row it is stored as. -/
def toRow (s : FVec F S256x1 .f32) : FVec F S1x256 .f32 := k0_pay44 s

/-- The codes of one tile of GELU values. -/
def codeTile (s : FVec F S256x1 .f32) (g : Vec F S256x128 .f32) : FVec F S1x256x128 .fp8e4m3 :=
  shapeCast S1x256x128 (truncf .fp8e4m3 (minimumf (broadcast S256x128 (Scalar.ofBits .f32 0x43E00000#32)) (maximumf (broadcast S256x128 (Scalar.ofBits .f32 0xC3E00000#32))
    (mulf g (broadcastTo S256x128 (shapeCast S256x1 (divf (broadcast S256x1 (Scalar.ofBits .f32 0x3F800000#32)) s) shapeCasts_S256x1_S256x1) broadcasts_S256x1_S256x128)))) bitsLt_fp8e4m3_f32)
    shapeCasts_S256x128_S1x256x128

/-- The stores of the first `n` tiles of codes, last first. -/
def codePieces (s : FVec F S256x1 .f32) (G : ℕ → Vec F S256x128 .f32) : ℕ → List (View.Piece (Elt F) S1x256x7680 .fp8e4m3)
  | 0 => []
  | n + 1 => ⟨codeRect n, codeTile s (G n)⟩ :: codePieces s G n

/-! ### What the run found -/

section Found

variable (c : Dev nD) (i : grid0.Coords) (arg1 : Memref sig .tc .vmem S1x256x1920 .f32) (harg1 : arg1.IsWhole) (arg2 : Memref sig .tc .vmem S6x48x1920 .f32) (harg2 : arg2.IsWhole) (arg3 : Memref sig .tc .vmem S1920x7680 .fp8e4m3) (harg3 : arg3.IsWhole) (arg4 : Memref sig .tc .vmem S1x7680 .f32) (harg4 : arg4.IsWhole) (arg5 : Memref sig .tc .vmem S1x7680 .f32) (harg5 : arg5.IsWhole) (arg6 : Memref sig .tc .vmem S7680x1920 .fp8e4m3) (harg6 : arg6.IsWhole) (arg7 : Memref sig .tc .vmem S1x1920 .f32) (harg7 : arg7.IsWhole) (arg8 : Memref sig .tc .vmem S1x1920 .f32) (harg8 : arg8.IsWhole)
  (arg9 : Memref sig .tc .vmem S1x256x1920 .bf16) (harg9 : arg9.IsWhole) (arg10 : Memref sig .tc .vmem S1x256x1920 .fp8e4m3) (harg10 : arg10.IsWhole) (arg11 : Memref sig .tc .vmem S48x256 .f32) (harg11 : arg11.IsWhole) (arg12 : Memref sig .tc .vmem S1x256x7680 .fp8e4m3) (harg12 : arg12.IsWhole) (arg13 : Memref sig .tc .vmem S48x256 .f32) (harg13 : arg13.IsWhole) (arg14 : Memref sig .tc .vmem S256x7680 .f32) (harg14 : arg14.IsWhole)
  (x0 : Vec F S1x256x1920 .f32) (x1 : Vec F S6x48x1920 .f32) (x2 : Vec F S1920x7680 .fp8e4m3) (x3 : Vec F S1x7680 .f32) (x4 : Vec F S1x7680 .f32) (x5 : Vec F S7680x1920 .fp8e4m3) (x6 : Vec F S1x1920 .f32) (x7 : Vec F S1x1920 .f32)

/-- Rows of the block of inputs, as loaded. -/
def ldX (k : ℕ) : Vec F S1x32x1920 .f32 := View.readAt (Elt F) arg1.view (rowRect k).toLoadRect (harg1.unread x0)
/-- Columns of the first weight, as loaded. -/
def ldW (k : ℕ) : Vec F S1920x768 .fp8e4m3 := View.readAt (Elt F) arg3.view (chunkRect k).toLoadRect (harg3.unread x2)
/-- Lanes of a row of 7680, as loaded. -/
def ldL (arg : Memref sig .tc .vmem S1x7680 .f32) (harg : arg.IsWhole) (x : Vec F S1x7680 .f32) (n : ℕ) : Vec F S1x128 .f32 := View.readAt (Elt F) arg.view (laneRect n).toLoadRect (harg.unread x)

theorem found_scale : kernelRun.sl.r_25 c i arg1 harg1 arg2 harg2 x0 x1 = colScale (kernelRun.sl.r_1 c i arg2 harg2 x1) (kernelRun.sl.r_2 c i arg2 harg2 x1) (ldX arg1 harg1 x0) := by
  rfl

theorem found_codes : kernelRun.sl.H9_8 c i arg1 harg1 arg2 harg2 x0 x1 = rowPieces (kernelRun.sl.r_1 c i arg2 harg2 x1) (kernelRun.sl.r_2 c i arg2 harg2 x1) (ldX arg1 harg1 x0) 8 := by
  rfl

/-- The tiles of GELU values of the run. -/
abbrev runTile (n : ℕ) : FVec F S256x128 .f32 :=
  gTile (kernelRun.sl.r_25 c i arg1 harg1 arg2 harg2 x0 x1) (kernelRun.sl.v381 c i arg1 harg1 arg2 harg2 arg10 x0 x1) (ldW arg3 harg3 x2) (ldL arg4 harg4 x3) (ldL arg5 harg5 x4) n

theorem found_tiles : kernelRun.sl.HS0_60 c i arg1 harg1 arg2 harg2 arg3 harg3 arg4 harg4 arg5 harg5 arg10 x0 x1 x2 x3 x4 = tilePieces (runTile c i arg1 harg1 arg2 harg2 arg3 harg3 arg4 harg4 arg5 harg5 arg10 x0 x1 x2 x3 x4) 60 := by
  rfl

theorem found_scale2 : kernelRun.sl.r_141 c i arg1 harg1 arg2 harg2 arg3 harg3 arg4 harg4 arg5 harg5 arg10 x0 x1 x2 x3 x4 = colScale2 (amaxUpto (runTile c i arg1 harg1 arg2 harg2 arg3 harg3 arg4 harg4 arg5 harg5 arg10 x0 x1 x2 x3 x4) 60) := by
  rfl

theorem found_codes2 : kernelRun.sl.H11_60 c i arg1 harg1 arg2 harg2 arg3 harg3 arg4 harg4 arg5 harg5 arg10 arg14 x0 x1 x2 x3 x4
    = codePieces (kernelRun.sl.r_141 c i arg1 harg1 arg2 harg2 arg3 harg3 arg4 harg4 arg5 harg5 arg10 x0 x1 x2 x3 x4) (fun n => arg14.view.readCov (kernelRun.sl.HS0_60 c i arg1 harg1 arg2 harg2 arg3 harg3 arg4 harg4 arg5 harg5 arg10 x0 x1 x2 x3 x4) (tileRect n).toLoadRect) 60 := by
  rfl

end Found

end Cert.Mlp
-- ==== Proof.Mlp.Body.lean ====
/- What the body computes from its blocks, with no buffer in it: the tiles of `Tiles.lean` at the blocks, put together. The
   pieces of the run are these (`run_y`, `run_c2`, `run_s2`, `run_ch`, `run_sh`). -/
module

public import proofs.«01_k».proof.Proof.Mlp.Tiles
public import Idealize.ShloMosaic.Lib.Pipeline.Value

@[expose] public section

set_option maxRecDepth 16384

noncomputable section

namespace Cert.Mlp

open Cert.MlpKernelIdeal Cert.MlpKernelIdeal.Gen
open Idealize.ShloMosaic Idealize.ShloMosaic.TcCoe Idealize.ShloMosaic.Tactic

variable {F : FTy → Type} [FloatOps F]

section Blocks

variable (i : grid0.Coords) (x0 : Vec F S1x256x1920 .f32) (x1 : Vec F S6x48x1920 .f32) (x2 : Vec F S1920x7680 .fp8e4m3) (x3 : Vec F S1x7680 .f32) (x4 : Vec F S1x7680 .f32) (x5 : Vec F S7680x1920 .fp8e4m3) (x6 : Vec F S1x1920 .f32) (x7 : Vec F S1x1920 .f32)

/-- The gate of the residual: row 1 of the conditioning at this batch. -/
def gammaRow : FVec F S1x1920 .f32 := k0_pay2 (View.ld x1 (Rect.unit (k0_off1 i) S1x1x1920.size (k0_off1_inb i)))
/-- One plus the scale: row 3 of the conditioning at this batch. -/
def mulRow : FVec F S1x1920 .f32 := k0_pay3 (View.ld x1 (Rect.unit (k0_off2 i) S1x1x1920.size (k0_off2_inb i)))
/-- The shift: row 5 of the conditioning at this batch. -/
def addRow : FVec F S1x1920 .f32 := k0_pay4 (View.ld x1 (Rect.unit (k0_off3 i) S1x1x1920.size (k0_off3_inb i)))

/-- The scales of the LayerNorm rows. -/
def sCol : FVec F S256x1 .f32 := colScale (mulRow i x1) (addRow i x1) (fun k => View.ld x0 (rowRect k))
/-- The codes of the LayerNorm rows. -/
def c2Blk : Vec F S1x256x1920 .fp8e4m3 := View.canon (rowPieces (mulRow i x1) (addRow i x1) (fun k => View.ld x0 (rowRect k)) 8)
/-- The tiles of GELU values. -/
def gT (n : ℕ) : FVec F S256x128 .f32 :=
  gTile (sCol i x0 x1) (c2Blk i x0 x1) (fun k => View.ld x2 (chunkRect k)) (fun n => View.ld x3 (laneRect n)) (fun n => View.ld x4 (laneRect n)) n
/-- The GELU values, as the scratch holds them. -/
def gBlk : Vec F S256x7680 .f32 := View.canon (tilePieces (gT i x0 x1 x2 x3 x4) 60)
/-- The scales of the rows of GELU values. -/
def shCol : FVec F S256x1 .f32 := colScale2 (amaxUpto (gT i x0 x1 x2 x3 x4) 60)
/-- The stores of the codes of the GELU values. -/
def chPieces : List (View.Piece (Elt F) S1x256x7680 .fp8e4m3) := codePieces (shCol i x0 x1 x2 x3 x4) (fun n => View.ld (gBlk i x0 x1 x2 x3 x4) (tileRect n)) 60
/-- The codes of the GELU values. -/
def chBlk : Vec F S1x256x7680 .fp8e4m3 := View.canon (chPieces i x0 x1 x2 x3 x4)
/-- The block of results. -/
def yBlk : Vec F S1x256x1920 .bf16 := k0_pay1 (gammaRow i x1) (k0_pay362 (shCol i x0 x1 x2 x3 x4) (chBlk i x0 x1 x2 x3 x4) x5 x6 x7) x0

end Blocks

theorem readAt_ld {s : Shape} {e : EltTy} (arg : Memref sig .tc .vmem s e) (harg : arg.IsWhole) (x : Vec F s e) (r : Rect s) :
    View.readAt (Elt F) arg.view r.toLoadRect (harg.unread x) = View.ld x r := by
  rw [View.readAt_eq_ld, harg.read_unread]

section Found

variable (c : Dev nD) (i : grid0.Coords) (arg1 : Memref sig .tc .vmem S1x256x1920 .f32) (harg1 : arg1.IsWhole) (arg2 : Memref sig .tc .vmem S6x48x1920 .f32) (harg2 : arg2.IsWhole) (arg3 : Memref sig .tc .vmem S1920x7680 .fp8e4m3) (harg3 : arg3.IsWhole) (arg4 : Memref sig .tc .vmem S1x7680 .f32) (harg4 : arg4.IsWhole) (arg5 : Memref sig .tc .vmem S1x7680 .f32) (harg5 : arg5.IsWhole) (arg6 : Memref sig .tc .vmem S7680x1920 .fp8e4m3) (harg6 : arg6.IsWhole) (arg7 : Memref sig .tc .vmem S1x1920 .f32) (harg7 : arg7.IsWhole) (arg8 : Memref sig .tc .vmem S1x1920 .f32) (harg8 : arg8.IsWhole) (arg9 : Memref sig .tc .vmem S1x256x1920 .bf16) (harg9 : arg9.IsWhole) (arg10 : Memref sig .tc .vmem S1x256x1920 .fp8e4m3) (harg10 : arg10.IsWhole) (arg11 : Memref sig .tc .vmem S48x256 .f32) (harg11 : arg11.IsWhole) (arg12 : Memref sig .tc .vmem S1x256x7680 .fp8e4m3) (harg12 : arg12.IsWhole) (arg13 : Memref sig .tc .vmem S48x256 .f32) (harg13 : arg13.IsWhole) (arg14 : Memref sig .tc .vmem S256x7680 .f32) (harg14 : arg14.IsWhole)
  (x0 : Vec F S1x256x1920 .f32) (x1 : Vec F S6x48x1920 .f32) (x2 : Vec F S1920x7680 .fp8e4m3) (x3 : Vec F S1x7680 .f32) (x4 : Vec F S1x7680 .f32) (x5 : Vec F S7680x1920 .fp8e4m3) (x6 : Vec F S1x1920 .f32) (x7 : Vec F S1x1920 .f32) (x10 : Vec F S48x256 .f32) (x12 : Vec F S48x256 .f32)

theorem ldX_eq : ldX arg1 harg1 x0 = fun k => View.ld x0 (rowRect k) := funext fun k => readAt_ld arg1 harg1 x0 (rowRect k)
theorem ldW_eq : ldW arg3 harg3 x2 = fun k => View.ld x2 (chunkRect k) := funext fun k => readAt_ld arg3 harg3 x2 (chunkRect k)
theorem ldL_eq (arg : Memref sig .tc .vmem S1x7680 .f32) (harg : arg.IsWhole) (x : Vec F S1x7680 .f32) :
    ldL arg harg x = fun k => View.ld x (laneRect k) := funext fun k => readAt_ld arg harg x (laneRect k)

theorem found_gamma : kernelRun.sl.r c i arg2 harg2 x1 = gammaRow i x1 := congrArg k0_pay2 (readAt_ld arg2 harg2 x1 _)
theorem found_mul : kernelRun.sl.r_1 c i arg2 harg2 x1 = mulRow i x1 := congrArg k0_pay3 (readAt_ld arg2 harg2 x1 _)
theorem found_add : kernelRun.sl.r_2 c i arg2 harg2 x1 = addRow i x1 := congrArg k0_pay4 (readAt_ld arg2 harg2 x1 _)

theorem found_sCol : kernelRun.sl.r_25 c i arg1 harg1 arg2 harg2 x0 x1 = sCol i x0 x1 := by
  rw [found_scale, found_mul, found_add, ldX_eq]; rfl

theorem found_rows : kernelRun.sl.H9_8 c i arg1 harg1 arg2 harg2 x0 x1 = rowPieces (mulRow i x1) (addRow i x1) (fun k => View.ld x0 (rowRect k)) 8 := by
  rw [found_codes, found_mul, found_add, ldX_eq]

theorem found_c2 : kernelRun.sl.v381 c i arg1 harg1 arg2 harg2 arg10 x0 x1 = c2Blk i x0 x1 := by
  unfold kernelRun.sl.v381
  rw [found_rows]
  exact (View.readCov_eq_canon' _ _ _).trans (View.ld_unit_zero (by funext a; fin_cases a <;> rfl) _ _)

theorem found_gT (n : ℕ) : runTile c i arg1 harg1 arg2 harg2 arg3 harg3 arg4 harg4 arg5 harg5 arg10 x0 x1 x2 x3 x4 n = gT i x0 x1 x2 x3 x4 n := by
  unfold runTile gT
  rw [found_sCol, found_c2, ldW_eq, ldL_eq, ldL_eq]

theorem found_shCol : kernelRun.sl.r_141 c i arg1 harg1 arg2 harg2 arg3 harg3 arg4 harg4 arg5 harg5 arg10 x0 x1 x2 x3 x4 = shCol i x0 x1 x2 x3 x4 := by
  rw [found_scale2, funext (found_gT c i arg1 harg1 arg2 harg2 arg3 harg3 arg4 harg4 arg5 harg5 arg10 x0 x1 x2 x3 x4)]; rfl

theorem found_scratch : kernelRun.sl.HS0_60 c i arg1 harg1 arg2 harg2 arg3 harg3 arg4 harg4 arg5 harg5 arg10 x0 x1 x2 x3 x4 = tilePieces (gT i x0 x1 x2 x3 x4) 60 := by
  rw [found_tiles, funext (found_gT c i arg1 harg1 arg2 harg2 arg3 harg3 arg4 harg4 arg5 harg5 arg10 x0 x1 x2 x3 x4)]

theorem found_ch : kernelRun.sl.H11_60 c i arg1 harg1 arg2 harg2 arg3 harg3 arg4 harg4 arg5 harg5 arg10 arg14 x0 x1 x2 x3 x4 = chPieces i x0 x1 x2 x3 x4 := by
  rw [found_codes2, found_shCol, found_scratch]
  unfold chPieces
  exact congrArg (fun G => codePieces _ G 60) (funext fun n => View.readCov_eq_canon' _ _ _)

theorem found_ch_block : kernelRun.sl.v2701 c i arg1 harg1 arg2 harg2 arg3 harg3 arg4 harg4 arg5 harg5 arg10 arg12 arg14 x0 x1 x2 x3 x4 = chBlk i x0 x1 x2 x3 x4 := by
  unfold kernelRun.sl.v2701
  rw [found_ch]
  exact (View.readCov_eq_canon' _ _ _).trans (View.ld_unit_zero (by funext a; fin_cases a <;> rfl) _ _)

theorem found_y : k0_pay1 (kernelRun.sl.r c i arg2 harg2 x1) (kernelRun.sl.r_161 c i arg1 harg1 arg2 harg2 arg3 harg3 arg4 harg4 arg5 harg5 arg6 harg6 arg7 harg7 arg8 harg8 arg10 arg12 arg14 x0 x1 x2 x3 x4 x5 x6 x7) (kernelRun.sl.r_162 c arg1 harg1 x0)
    = yBlk i x0 x1 x2 x3 x4 x5 x6 x7 := by
  unfold kernelRun.sl.r_161 kernelRun.sl.r_162
  rw [found_gamma, found_shCol, found_ch_block, readAt_ld, readAt_ld, readAt_ld, readAt_ld, View.ld_unit_zero (by funext a; fin_cases a <;> rfl), View.ld_unit_zero (by funext a; fin_cases a <;> rfl),
    View.ld_unit_zero (by funext a; fin_cases a <;> rfl), View.ld_unit_zero (by funext a; fin_cases a <;> rfl)]
  rfl

/-- What the run's stores are, in the order y, c2, s2, ch, sh. -/
theorem run_y : (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x10 x12).1 = [⟨Rect.unit ![0, 0, 0] S1x256x1920.size inb_S1x256x1920_S1x256x1920_0_0_0, yBlk i x0 x1 x2 x3 x4 x5 x6 x7⟩] := by
  rw [← found_y c i arg1 harg1 arg2 harg2 arg3 harg3 arg4 harg4 arg5 harg5 arg6 harg6 arg7 harg7 arg8 harg8 arg10 arg12 arg14]
  rfl
theorem run_c2 : (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x10 x12).2.1 = rowPieces (mulRow i x1) (addRow i x1) (fun k => View.ld x0 (rowRect k)) 8 :=
  found_rows c i arg1 harg1 arg2 harg2 x0 x1
theorem run_s2 : (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x10 x12).2.2.1 = [⟨Rect.unit (k0_off4 i) S1x256.size (k0_off4_inb i), toRow (sCol i x0 x1)⟩] := by
  rw [← found_sCol c i arg1 harg1 arg2 harg2 x0 x1]
  rfl
theorem run_ch : (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x10 x12).2.2.2.1 = chPieces i x0 x1 x2 x3 x4 :=
  found_ch c i arg1 harg1 arg2 harg2 arg3 harg3 arg4 harg4 arg5 harg5 arg10 arg14 x0 x1 x2 x3 x4
theorem run_sh : (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x10 x12).2.2.2.2.1 = [⟨Rect.unit (k0_off4 i) S1x256.size (k0_off4_inb i), toRow (shCol i x0 x1 x2 x3 x4)⟩] := by
  rw [← found_shCol c i arg1 harg1 arg2 harg2 arg3 harg3 arg4 harg4 arg5 harg5 arg10 x0 x1 x2 x3 x4]
  rfl

end Found

end Cert.Mlp
-- ==== Proof.Mlp.Frame.lean ====
/- The run of the MLP-half program: what each output's staging buffer holds after each grid point, the proof data of the
   pipeline, the body obligation, the whole run and the frame.

   Three outputs are named exactly, block by block (`yAt`, `c2At`, `chAt`). The two resident outputs are stated by a
   relation: the body leaves the buffer as it found it except for one row (`rowSet`). -/
module

public import proofs.«01_k».proof.Proof.Mlp.Body
public import Idealize.ShloMosaic.Lib.Pipeline.ArrRel
public import Idealize.ShloMosaic.Lib.WritesUnit
public import Idealize.ShloMosaic.Lib.Claim
public import Idealize.ShloMosaic.Lib.ValueIdx

@[expose] public section

set_option maxRecDepth 16384

noncomputable section

namespace Cert.Mlp

open Cert.MlpKernelIdeal Cert.MlpKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S1x256x1920 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x48x1920 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1920x7680 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x7680 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7680 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S7680x1920 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1920 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1920 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1920 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x1920 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S48x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x7680 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S48x256 .f32 := win0_12.stage (cfg0.slots t 12)
abbrev hs0_12 (t : Fin cfg0.N) : (ms0_12 t).IsWhole := hstage0_12 ((cfg0.slots t 12).cast nbuf0_12)

/-- The scratch. -/
abbrev scM0_0 : Memref sig .tc .vmem S256x7680 .f32 := Memref.whole cc0_scratch0
theorem PhiA0_eq (c : Dev nD) : (Pipeline.ΦA spec0 c : sProp 𝕄) = iprop(iprop((∃ d, owns (c : Thread nD τ) scM0_0 fullShare d)) ∗ (∃ r, prngReg c r)) := by
  unfold Pipeline.ΦA; rw [scopedRest0_eq]; simp only [scM0_0, owns_whole]; try rfl

/-! ## The stores cover their blocks; the resident outputs get one row -/

theorem cover_rows (mul add : FVec F S1x1920 .f32) (X : ℕ → Vec F S1x32x1920 .f32) (y : S1x256x1920.Idx) : ∃ p ∈ rowPieces mul add X 8, y ∈ p.1.set :=
  View.cover_of_tiledL (rowPieces mul add X 8) S1x32x1920.size (by sl_kernel_rfl) y

theorem cover_codes (s : FVec F S256x1 .f32) (G : ℕ → FVec F S256x128 .f32) (y : S1x256x7680.Idx) : ∃ p ∈ codePieces s G 60, y ∈ p.1.set :=
  View.cover_of_tiledL (codePieces s G 60) S1x256x128.size (by sl_kernel_rfl) y

/-- `Y` with row `k` set to `v`. -/
def rowSet (k : ℕ) (v : FVec F S1x256 .f32) (Y : Vec F S48x256 .f32) : Vec F S48x256 .f32 :=
  fun x => if (x 0).val = k then v (ValueIdx.ix2 (0 : Fin 1) (x 1 : Fin 256)) else Y x

theorem off4_eq : ∀ t : Fin cfg0.N, k0_off4 (grid0.coords t) = ![t.val, 0] :=
  (by decide +kernel : ∀ t : Fin grid0.N, k0_off4 (grid0.coords t) = ![t.val, 0])

theorem read_row (t : Fin cfg0.N) (arg : Memref sig .tc .vmem S48x256 .f32) (harg : arg.IsWhole) (v : FVec F S1x256 .f32) (Y : Vec F S48x256 .f32) :
    arg.view.read (Elt F) (arg.view.writes (Elt F) (harg.unread Y) [⟨Rect.unit (k0_off4 (grid0.coords t)) S1x256.size (k0_off4_inb (grid0.coords t)), v⟩]) = rowSet t.val v Y := by
  funext x
  unfold rowSet
  split
  · next h =>
    exact View.read_writes_cons_unit_of_mem arg.view (harg.unread Y) (k0_off4_inb (grid0.coords t)) v [] x (ValueIdx.ix2 (0 : Fin 1) (x 1 : Fin 256)) (off4_eq t)
      (Fin.forall_fin_two.mpr ⟨h, (Nat.zero_add _).symm⟩)
  · next h =>
    have e := View.read_writes_cons_unit_of_not_mem arg.view (harg.unread Y) (k0_off4_inb (grid0.coords t)) v [] x (off4_eq t) 0 (by
      show (x 0).val < t.val ∨ t.val + 1 ≤ (x 0).val
      omega)
    exact e.trans (congrFun (harg.read_unread Y) x)

/-! ## What the outputs hold at a point -/

abbrev yAt (c : Dev nD) (t : Fin cfg0.N) : Vec F S1x256x1920 .bf16 := yBlk (grid0.coords t) (iblk m c 0 t) (iblk m c 1 t) (iblk m c 2 t) (iblk m c 3 t) (iblk m c 4 t) (iblk m c 5 t) (iblk m c 6 t) (iblk m c 7 t)
abbrev c2At (c : Dev nD) (t : Fin cfg0.N) : Vec F S1x256x1920 .fp8e4m3 := c2Blk (grid0.coords t) (iblk m c 0 t) (iblk m c 1 t)
abbrev s2At (c : Dev nD) (t : Fin cfg0.N) : FVec F S1x256 .f32 := toRow (sCol (grid0.coords t) (iblk m c 0 t) (iblk m c 1 t))
abbrev chAt (c : Dev nD) (t : Fin cfg0.N) : Vec F S1x256x7680 .fp8e4m3 := chBlk (grid0.coords t) (iblk m c 0 t) (iblk m c 1 t) (iblk m c 2 t) (iblk m c 3 t) (iblk m c 4 t)
abbrev shAt (c : Dev nD) (t : Fin cfg0.N) : FVec F S1x256 .f32 := toRow (shCol (grid0.coords t) (iblk m c 0 t) (iblk m c 1 t) (iblk m c 2 t) (iblk m c 3 t) (iblk m c 4 t))

/-- The proof data: each input's buffer at its block, the per-batch outputs at the body's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yAt m c t
    | ⟨9, _⟩ => c2At m c t
    | ⟨10, _⟩ => fun _ => Classical.arbitrary _
    | ⟨11, _⟩ => chAt m c t
    | ⟨12, _⟩ => fun _ => Classical.arbitrary _
  Φ _ := Pipeline.ΦA spec0 c
  q _ := fullShare
  owed _ := 0

/-- The relation of the two resident outputs: the row of the point is set, the others are kept. -/
def ovr (c : Dev nD) (w : Fin cfg0.W) : Option (Fin cfg0.N → (Y X : (cfg0.win w).block.Idx → Elt F (cfg0.win w).elt) → Prop) :=
  match w with
  | ⟨10, _⟩ => some fun t Y X => X = rowSet t.val (s2At m c t) Y
  | ⟨12, _⟩ => some fun t Y X => X = rowSet t.val (shAt m c t) Y
  | _ => none

/-- The relational proof data. -/
def rdat (c : Dev nD) : RDat τ (Elt F) Unit ℕ (UR sig nD τ) ℕ cfg0 c := (dats m 0 c).toR.override (ovr m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = yAt m c t := by dsimp only [dats]
theorem after0_9 (c : Dev nD) (t : Fin cfg0.N) : (dats m 0 c).after 9 t = c2At m c t := by dsimp only [dats]
theorem after0_11 (c : Dev nD) (t : Fin cfg0.N) : (dats m 0 c).after 11 t = chAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem finds0_0 (c : Dev nD) (t : Fin cfg0.N) (Y) (h : (rdat m c).Finds 0 t Y) : Y = iblk m c 0 t := by
  obtain ⟨d, hd⟩ := (dats m 0 c).toR_finds 0 t Y (((dats m 0 c).toR.override_finds rfl t Y).mp h)
  exact hd.trans (before0_0 m c t d)
theorem finds0_1 (c : Dev nD) (t : Fin cfg0.N) (Y) (h : (rdat m c).Finds 1 t Y) : Y = iblk m c 1 t := by
  obtain ⟨d, hd⟩ := (dats m 0 c).toR_finds 1 t Y (((dats m 0 c).toR.override_finds rfl t Y).mp h)
  exact hd.trans (before0_1 m c t d)
theorem finds0_2 (c : Dev nD) (t : Fin cfg0.N) (Y) (h : (rdat m c).Finds 2 t Y) : Y = iblk m c 2 t := by
  obtain ⟨d, hd⟩ := (dats m 0 c).toR_finds 2 t Y (((dats m 0 c).toR.override_finds rfl t Y).mp h)
  exact hd.trans (before0_2 m c t d)
theorem finds0_3 (c : Dev nD) (t : Fin cfg0.N) (Y) (h : (rdat m c).Finds 3 t Y) : Y = iblk m c 3 t := by
  obtain ⟨d, hd⟩ := (dats m 0 c).toR_finds 3 t Y (((dats m 0 c).toR.override_finds rfl t Y).mp h)
  exact hd.trans (before0_3 m c t d)
theorem finds0_4 (c : Dev nD) (t : Fin cfg0.N) (Y) (h : (rdat m c).Finds 4 t Y) : Y = iblk m c 4 t := by
  obtain ⟨d, hd⟩ := (dats m 0 c).toR_finds 4 t Y (((dats m 0 c).toR.override_finds rfl t Y).mp h)
  exact hd.trans (before0_4 m c t d)
theorem finds0_5 (c : Dev nD) (t : Fin cfg0.N) (Y) (h : (rdat m c).Finds 5 t Y) : Y = iblk m c 5 t := by
  obtain ⟨d, hd⟩ := (dats m 0 c).toR_finds 5 t Y (((dats m 0 c).toR.override_finds rfl t Y).mp h)
  exact hd.trans (before0_5 m c t d)
theorem finds0_6 (c : Dev nD) (t : Fin cfg0.N) (Y) (h : (rdat m c).Finds 6 t Y) : Y = iblk m c 6 t := by
  obtain ⟨d, hd⟩ := (dats m 0 c).toR_finds 6 t Y (((dats m 0 c).toR.override_finds rfl t Y).mp h)
  exact hd.trans (before0_6 m c t d)
theorem finds0_7 (c : Dev nD) (t : Fin cfg0.N) (Y) (h : (rdat m c).Finds 7 t Y) : Y = iblk m c 7 t := by
  obtain ⟨d, hd⟩ := (dats m 0 c).toR_finds 7 t Y (((dats m 0 c).toR.override_finds rfl t Y).mp h)
  exact hd.trans (before0_7 m c t d)

/-! ## The body obligation -/

/-- What the body is called with, -/
def bodyPre (c : Dev nD) (t : Fin cfg0.N) (Y8 : Vec F S1x256x1920 .bf16) (Y9 : Vec F S1x256x1920 .fp8e4m3) (Y10 : Vec F S48x256 .f32) (Y11 : Vec F S1x256x7680 .fp8e4m3) (Y12 : Vec F S48x256 .f32) : sProp 𝕄 :=
  iprop(Pipeline.ΦA spec0 c ∗ (rdat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare Y8
    ∗ owns (c : Thread nD τ) (ms0_9 t) fullShare Y9
    ∗ owns (c : Thread nD τ) (ms0_10 t) fullShare Y10
    ∗ owns (c : Thread nD τ) (ms0_11 t) fullShare Y11
    ∗ owns (c : Thread nD τ) (ms0_12 t) fullShare Y12)

/-- and what it returns. -/
def bodyPost (c : Dev nD) (t : Fin cfg0.N) (Y10 : Vec F S48x256 .f32) (Y12 : Vec F S48x256 .f32) : sProp 𝕄 :=
  iprop(Pipeline.ΦA spec0 c ∗ (rdat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (yAt m c t)
    ∗ owns (c : Thread nD τ) (ms0_9 t) fullShare (c2At m c t)
    ∗ owns (c : Thread nD τ) (ms0_10 t) fullShare (rowSet (t.val) (s2At m c t) Y10)
    ∗ owns (c : Thread nD τ) (ms0_11 t) fullShare (chAt m c t)
    ∗ owns (c : Thread nD τ) (ms0_12 t) fullShare (rowSet (t.val) (shAt m c t) Y12))

set_option maxHeartbeats 1200000 in
theorem sound_body (c : Dev nD) (t : Fin cfg0.N) (Y8 : Vec F S1x256x1920 .bf16) (Y9 : Vec F S1x256x1920 .fp8e4m3) (Y10 : Vec F S48x256 .f32) (Y11 : Vec F S1x256x7680 .fp8e4m3) (Y12 : Vec F S48x256 .f32) :
    bodyPre m c t Y8 Y9 Y10 Y11 Y12 ⊢ wp frame (wpE (defs₀ (F := F)) Variants.none c none) Set.univ (bodyAt0 t) (fun _ => bodyPost m c t Y10 Y12) := by
  unfold bodyPre bodyPost bodyAt0
  rw [PhiA0_eq]
  iintro ⟨⟨HS0, Hg⟩, Ho, H0, H1, H2, H3, H4, H5, H6, H7, H8, H9, H10, H11, H12⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) Y10 Y12).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexists _; iexact H11
  isplitl [H12]; · iexact H12
  isplitl [HS0]; · iexact HS0
  iintro ⟨H0, H1, H2, H3, H4, H5, H6, H7, ⟨%e8, H8⟩, ⟨%e9, H9⟩, H10, ⟨%e11, H11⟩, H12, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro
    rw [run_y]
    exact (View.read_writes_eq_canon _ _ _ (fun y => ⟨_, List.mem_singleton_self _, View.mem_set_unit_zero (by funext a; fin_cases a <;> rfl) inb_S1x256x1920_S1x256x1920_0_0_0 y⟩)).trans
      (View.canon_unit_zero (by funext a; fin_cases a <;> rfl) _ _)
  isplitl [H9]
  · unfold owns; iexists _; isplitr
    swap; · iexact H9
    ipureintro; rw [run_c2]; exact View.read_writes_eq_canon _ _ _ (cover_rows _ _ _)
  isplitl [H10]
  · unfold owns; iexists _; isplitr
    swap; · iexact H10
    ipureintro; rw [run_s2]; exact read_row t (ms0_10 t) (hs0_10 t) _ _
  isplitl [H11]
  · unfold owns; iexists _; isplitr
    swap; · iexact H11
    ipureintro; rw [run_ch]; exact View.read_writes_eq_canon _ _ _ (cover_codes _ _)
  unfold owns; iexists _; isplitr
  swap; · iexact H12
  ipureintro; rw [run_sh]; exact read_row t (ms0_12 t) (hs0_12 t) _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem leaves_self (c : Dev nD) (w : Fin cfg0.W) (t : Fin cfg0.N) : (dats m 0 c).Leaves w t ((dats m 0 c).after w t) := by
  rw [Dat.Leaves.live_iff _ (.inl rfl)]

theorem after_exact (c : Dev nD) (w : Fin cfg0.W) (h : ovr m c w = none) (t : Fin cfg0.N) (Y X) (hX : (dats m 0 c).after w t = X) : (rdat m c).after w t Y X := by
  subst hX
  unfold rdat
  rw [RDat.override_after_of_eq_none _ h]
  exact leaves_self m c w t

theorem after_ten (c : Dev nD) (t : Fin cfg0.N) (Y) : (rdat m c).after 10 t Y (rowSet t.val (s2At m c t) Y) := by
  unfold rdat
  rw [RDat.override_after_of_eq_some _ (w := 10) rfl]

theorem after_twelve (c : Dev nD) (t : Fin cfg0.N) (Y) : (rdat m c).after 12 t Y (rowSet t.val (shAt m c t) Y) := by
  unfold rdat
  rw [RDat.override_after_of_eq_some _ (w := 12) rfl]

theorem body_obligation (c : Dev nD) : (rdat (F := F) m c).BodyObligation (defs₀ (F := F)) Variants.none () Set.univ := fun t Y hY => by
  rw [bigSep_W0, bigSep_W0, defs₀_row,
    show (rdat m c).Φ t.succ = Pipeline.ΦA spec0 c from rfl, show (rdat m c).Φ t.castSucc = Pipeline.ΦA spec0 c from rfl, show (rdat m c).owesAt () t.succ = (rdat m c).owesAt () t.castSucc from rfl]
  rw [finds0_0 m c t (Y 0) (hY 0), finds0_1 m c t (Y 1) (hY 1), finds0_2 m c t (Y 2) (hY 2), finds0_3 m c t (Y 3) (hY 3), finds0_4 m c t (Y 4) (hY 4), finds0_5 m c t (Y 5) (hY 5), finds0_6 m c t (Y 6) (hY 6), finds0_7 m c t (Y 7) (hY 7)]
  refine triple_restated (sound_body m c t (Y 8) (Y 9) (Y 10) (Y 11) (Y 12)) rfl .rfl fun _ => ?_
  unfold bodyPost
  iintro ⟨HP, Ho, H0, H1, H2, H3, H4, H5, H6, H7, H8, H9, H10, H11, H12⟩
  isplitl [HP]; · iexact HP
  isplitl [Ho]; · iexact Ho
  isplitl [H0]
  · iexists _; isplitr
    swap; · iexact H0
    ipureintro; exact after_exact m c 0 rfl t _ _ (after0_0 m c t)
  isplitl [H1]
  · iexists _; isplitr
    swap; · iexact H1
    ipureintro; exact after_exact m c 1 rfl t _ _ (after0_1 m c t)
  isplitl [H2]
  · iexists _; isplitr
    swap; · iexact H2
    ipureintro; exact after_exact m c 2 rfl t _ _ (after0_2 m c t)
  isplitl [H3]
  · iexists _; isplitr
    swap; · iexact H3
    ipureintro; exact after_exact m c 3 rfl t _ _ (after0_3 m c t)
  isplitl [H4]
  · iexists _; isplitr
    swap; · iexact H4
    ipureintro; exact after_exact m c 4 rfl t _ _ (after0_4 m c t)
  isplitl [H5]
  · iexists _; isplitr
    swap; · iexact H5
    ipureintro; exact after_exact m c 5 rfl t _ _ (after0_5 m c t)
  isplitl [H6]
  · iexists _; isplitr
    swap; · iexact H6
    ipureintro; exact after_exact m c 6 rfl t _ _ (after0_6 m c t)
  isplitl [H7]
  · iexists _; isplitr
    swap; · iexact H7
    ipureintro; exact after_exact m c 7 rfl t _ _ (after0_7 m c t)
  isplitl [H8]
  · iexists _; isplitr
    swap; · iexact H8
    ipureintro; exact after_exact m c 8 rfl t _ _ (after0_8 m c t)
  isplitl [H9]
  · iexists _; isplitr
    swap; · iexact H9
    ipureintro; exact after_exact m c 9 rfl t _ _ (after0_9 m c t)
  isplitl [H10]
  · iexists _; isplitr
    swap; · iexact H10
    ipureintro; exact after_ten m c t _
  isplitl [H11]
  · iexists _; isplitr
    swap; · iexact H11
    ipureintro; exact after_exact m c 11 rfl t _ _ (after0_11 m c t)
  iexists _; isplitr
  swap; · iexact H12
  ipureintro; exact after_twelve m c t _

/-! ## The run and the frame -/

set_option backward.isDefEq.respectTransparency.types false in
/-- The whole run: every array of the pipeline at what the relational data say, every other buffer as the region found it,
    every semaphore at zero. -/
theorem run_main : θ_run defs (onTc (τ := τ) (main (F := F))) (s₀ m ρ) (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c => (dats m 0 c).share_full fun _ => rfl)
    (howed := fun _ _ => rfl) (V := V m) (hmain := hmain m Variants.none) (hA := A_eq m) (hΦ := fun _ _ => rfl)

/-- The arguments end as they were. -/
theorem kept (r : PUnit × MemSt nD τ sig (Elt F)) (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Pipeline.RDat.FramePost.arr_in h c 0 rfl).trans (V_main_arg0 m c),
    ((h c).2 main_arg1 (Pipeline.mem_restRefs_of main_arg1 (by decide) (by decide))).trans (V_main_arg1 m c),
    (Pipeline.RDat.FramePost.arr_in h c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (Pipeline.RDat.FramePost.arr_in h c 5 rfl).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame of the MLP-half program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => kept m r h.1 c, h.2⟩) (run_main m ρ)

end Cert.Mlp

end
-- ==== Proof.Common.Spec.lean ====
/- The mathematics of one token over the extended reals: LayerNorm, the per-token quantiser, a linear layer on codes, GELU;
   and the two facts of algebra in which the kernels differ from it: a product with a reciprocal is the quotient, and a
   largest magnitude taken from zero is the one taken from minus infinity. -/
module

public import Idealize.ShloMosaic.PureOps.Ideal.Laws
public import Idealize.ShloMosaic.Lib.IdealHost

@[expose] public section

noncomputable section

namespace Cert.Spec

open Idealize.ShloMosaic
open scoped BigOperators

/-- Extended reals, as the elements of any float format. -/
abbrev E := EReal

/-! ### The constants, by their words -/

abbrev one : E := Ideal.ofBits .f32 0x3F800000#32
abbrev zero : E := Ideal.ofBits .f32 0x00000000#32
abbrev top : E := Ideal.ofBits .f32 0x43E00000#32
abbrev bot : E := Ideal.ofBits .f32 0xC3E00000#32
abbrev eps : E := Ideal.ofBits .f32 0x358637BD#32
abbrev width : E := Ideal.ofBits .f32 0x44F00000#32
abbrev least : E := Ideal.ofBits .f32 0xFF800000#32

theorem one_eq : one = 1 := Ideal.ofBits_one_f32
theorem top_eq : top = ((448 : ℝ) : EReal) := by
  simp [top, Ideal.ofBits, Ideal.ieee]; rw [← EReal.coe_mul]; norm_num
theorem width_eq : width = ((1920 : ℝ) : EReal) := by
  simp [width, Ideal.ofBits, Ideal.ieee]; rw [← EReal.coe_mul]; norm_num
theorem eps_pos : 0 < eps := by
  simp [eps, Ideal.ofBits, Ideal.ieee]; rw [← EReal.coe_mul]; exact EReal.coe_pos.mpr (by positivity)

/-! ### One token -/

/-- The largest magnitude of a row. -/
def amax {n : ℕ} (f : Fin n → E) : E := Finset.univ.fold max least fun k => max (f k) (-(f k))
/-- The scale that a largest magnitude gives: one for a row of zeros. -/
def scaleOf (a : E) : E := Scalar.select (Ideal.cmp .oeq a zero) one (Ideal.div a top)
/-- The scale of a row. -/
def rowScale {n : ℕ} (f : Fin n → E) : E := scaleOf (amax f)
/-- The code of a value at a scale. -/
def code (v s : E) : E := min top (max bot (Ideal.div v s))
/-- The codes of a row. -/
def rowCode {n : ℕ} (f : Fin n → E) (k : Fin n) : E := code (f k) (rowScale f)

def mean (x : Fin 1920 → E) : E := Ideal.div (∑ k, x k) width
def dev (x : Fin 1920 → E) (k : Fin 1920) : E := x k - mean x
def var (x : Fin 1920 → E) : E := Ideal.div (∑ k, dev x k * dev x k) width
/-- The root of the variance. -/
def root (x : Fin 1920 → E) : E := Ideal.sqrt (var x + eps)
/-- LayerNorm, modulated. -/
def ln (x mul add : Fin 1920 → E) (d : Fin 1920) : E := Ideal.div (dev x d) (root x) * mul d + add d

/-- A linear layer on codes, at one column. -/
def lin {n : ℕ} (c : Fin n → E) (s : E) (w : Fin n → E) (ws b : E) : E := (∑ k, c k * w k) * s * ws + b

/-- GELU in the tanh form. -/
def gelu (t : E) : E :=
  t * (Ideal.ofBits .f32 0x3F000000#32 * (one + Ideal.tanh (Ideal.ofBits .f32 0x3F4C422A#32 * (t + Ideal.ofBits .f32 0x3D372713#32 * (t * (t * t))))))

/-! ### Algebra -/

/-- A product with the reciprocal is the quotient. -/
theorem mul_recip (v : E) {s : E} (h : s ≠ 0) : v * Ideal.div one s = Ideal.div v s := by
  rw [one_eq]; unfold Ideal.div; rw [if_neg h, if_neg h, one_mul]

theorem scaleOf_ne_zero (a : E) : scaleOf a ≠ 0 := by
  unfold scaleOf
  by_cases h : a = 0
  · subst h
    have : Ideal.cmp .oeq (0 : EReal) zero = 1#1 := by simp [Ideal.cmp, zero]
    rw [this]
    show one ≠ 0
    rw [one_eq]; exact one_ne_zero
  · have : Ideal.cmp .oeq a zero = 0#1 := by simp [Ideal.cmp, zero, h]
    rw [this]
    show Ideal.div a top ≠ 0
    rw [top_eq, Ideal.div_coe (by norm_num)]
    intro e
    rcases mul_eq_zero.mp e with e | e
    · exact h e
    · have := EReal.coe_eq_zero.mp e
      norm_num at this

theorem rowScale_ne_zero {n : ℕ} (f : Fin n → E) : rowScale f ≠ 0 := scaleOf_ne_zero _

theorem sq_nonneg' (a : E) : 0 ≤ a * a := by
  rcases le_total 0 a with h | h
  · exact mul_nonneg h h
  · have h' : 0 ≤ -a := by simpa using EReal.neg_le_neg_iff.mpr h
    have := mul_nonneg h' h'
    rwa [neg_mul_neg] at this

theorem var_nonneg (x : Fin 1920 → E) : 0 ≤ var x := by
  unfold var
  rw [width_eq, Ideal.div_coe (by norm_num)]
  exact mul_nonneg (Finset.sum_nonneg fun _ _ => sq_nonneg' _) (EReal.coe_nonneg.mpr (by norm_num))

theorem sqrt_ne_zero {a : E} (h : 0 < a) : Ideal.sqrt a ≠ 0 := by
  induction a using EReal.rec with
  | bot => exact absurd h (by simp)
  | top => exact (show (⊤ : EReal) ≠ 0 from EReal.top_ne_zero)
  | coe r =>
    have hr : 0 < r := EReal.coe_pos.mp h
    show (if r < 0 then ⊥ else (Real.sqrt r : EReal)) ≠ 0
    rw [if_neg (not_lt.mpr hr.le)]
    intro e
    exact (Real.sqrt_pos.mpr hr).ne' (EReal.coe_eq_zero.mp e)

theorem root_ne_zero (x : Fin 1920 → E) : root x ≠ 0 :=
  sqrt_ne_zero (lt_of_lt_of_le eps_pos (le_add_of_nonneg_left (var_nonneg x)))

theorem abs_nonneg' (a : E) : 0 ≤ max a (-a) := by
  rcases le_total 0 a with h | h
  · exact le_max_of_le_left h
  · exact le_max_of_le_right (by simpa using EReal.neg_le_neg_iff.mpr h)

theorem amax_le_iff {n : ℕ} (f : Fin n → E) (c : E) : amax f ≤ c ↔ least ≤ c ∧ ∀ k, max (f k) (-(f k)) ≤ c := by
  unfold amax; rw [Finset.fold_max_le]; simp

end Cert.Spec
-- ==== Proof.Common.Layout.lean ====
/- Casts, broadcasts and reductions of the shapes that a row-wise kernel uses, read at an index. -/
module

public import Idealize.ShloMosaic.Lib.Pipeline.Value
public import Idealize.ShloMosaic.Lib.ValueIdx
public import Idealize.ShloMosaic.Lib.MatmulPlain

@[expose] public section

noncomputable section

namespace Cert.Layout

open Idealize.ShloMosaic Idealize.ShloMosaic.ValueIdx
open scoped BigOperators

section Any
variable {α : Type} {a b n m : ℕ}

theorem cast_self {s : Shape} (x : s.Idx → α) (h : s.ShapeCasts s) : shapeCast s x h = x :=
  funext fun j => shapeCast_apply x h j j rfl

theorem cast_col (x : (⟨1, ![n]⟩ : Shape).Idx → α) (h) (i : Fin n) (j : Fin 1) : shapeCast ⟨2, ![n, 1]⟩ x h (ix2 i j) = x (ix1 i) :=
  shapeCast_apply x h _ _ (by
    rw [Shape.rowMajor_val_two, Shape.rowMajor_val_one]
    show i.val = i.val * 1 + j.val
    omega)

theorem cast_drop (x : (⟨3, ![1, n, m]⟩ : Shape).Idx → α) (h) (i : Fin n) (j : Fin m) : shapeCast ⟨2, ![n, m]⟩ x h (ix2 i j) = x (ix3 0 i j) :=
  shapeCast_apply x h _ _ (by
    rw [Shape.rowMajor_val_two, Shape.rowMajor_val_three]
    show (0 * n + i.val) * m + j.val = i.val * m + j.val
    rw [Nat.zero_mul, Nat.zero_add])

theorem cast_add (x : (⟨2, ![n, m]⟩ : Shape).Idx → α) (h) (k : Fin 1) (i : Fin n) (j : Fin m) : shapeCast ⟨3, ![1, n, m]⟩ x h (ix3 k i j) = x (ix2 i j) :=
  shapeCast_apply x h _ _ (by
    rw [Shape.rowMajor_val_two, Shape.rowMajor_val_three]
    show i.val * m + j.val = (k.val * n + i.val) * m + j.val
    rw [show k.val = 0 by omega, Nat.zero_mul, Nat.zero_add])

theorem cast_unit (x : (⟨2, ![a, b]⟩ : Shape).Idx → α) (h) (i : Fin a) (j : Fin b) (k : Fin 1) : shapeCast ⟨3, ![a, b, 1]⟩ x h (ix3 i j k) = x (ix2 i j) :=
  shapeCast_apply x h _ _ (by
    rw [Shape.rowMajor_val_two, Shape.rowMajor_val_three]
    show i.val * b + j.val = (i.val * b + j.val) * 1 + k.val
    omega)

theorem cast_ununit (x : (⟨3, ![a, b, 1]⟩ : Shape).Idx → α) (h) (i : Fin a) (j : Fin b) : shapeCast ⟨2, ![a, b]⟩ x h (ix2 i j) = x (ix3 i j 0) :=
  shapeCast_apply x h _ _ (by
    rw [Shape.rowMajor_val_two, Shape.rowMajor_val_three]
    show (i.val * b + j.val) * 1 + 0 = i.val * b + j.val
    omega)

/-- The two leading axes merged … -/
theorem cast_merge {N : ℕ} (x : (⟨3, ![a, b, m]⟩ : Shape).Idx → α) (h) (i : Fin a) (j : Fin b) (k : Fin m) (r : Fin N) (hr : r.val = i.val * b + j.val) :
    shapeCast ⟨2, ![N, m]⟩ x h (ix2 r k) = x (ix3 i j k) :=
  shapeCast_apply x h _ _ (by
    rw [Shape.rowMajor_val_two, Shape.rowMajor_val_three]
    show (i.val * b + j.val) * m + k.val = r.val * m + k.val
    rw [hr])

/-- … and taken apart again. -/
theorem cast_split {N : ℕ} (x : (⟨2, ![N, m]⟩ : Shape).Idx → α) (h) (i : Fin a) (j : Fin b) (k : Fin m) (r : Fin N) (hr : r.val = i.val * b + j.val) :
    shapeCast ⟨3, ![a, b, m]⟩ x h (ix3 i j k) = x (ix2 r k) :=
  shapeCast_apply x h _ _ (by
    rw [Shape.rowMajor_val_two, Shape.rowMajor_val_three]
    show r.val * m + k.val = (i.val * b + j.val) * m + k.val
    rw [hr])

theorem bcast_col (x : (⟨2, ![n, 1]⟩ : Shape).Idx → α) (h) (i : Fin n) (j : Fin m) : broadcastTo ⟨2, ![n, m]⟩ x h (ix2 i j) = x (ix2 i 0) :=
  broadcastTo_apply x h _ _ (Fin.forall_fin_two.mpr ⟨by
    show i.val = if n = 1 then 0 else i.val
    split <;> omega, by
    show 0 = if 1 = 1 then 0 else _
    rfl⟩)

theorem bcast_row (x : (⟨2, ![1, m]⟩ : Shape).Idx → α) (h) (i : Fin n) (j : Fin m) : broadcastTo ⟨2, ![n, m]⟩ x h (ix2 i j) = x (ix2 0 j) :=
  broadcastTo_apply x h _ _ (Fin.forall_fin_two.mpr ⟨by
    show 0 = if 1 = 1 then 0 else _
    rfl, by
    show j.val = if m = 1 then 0 else j.val
    split <;> omega⟩)

theorem forall_three {P : Fin 3 → Prop} (h0 : P 0) (h1 : P 1) (h2 : P 2) : ∀ i, P i := fun i => by
  fin_cases i
  · exact h0
  · exact h1
  · exact h2

theorem bcast3_col (x : (⟨3, ![a, b, 1]⟩ : Shape).Idx → α) (h) (i : Fin a) (j : Fin b) (k : Fin m) :
    broadcastTo ⟨3, ![a, b, m]⟩ x h (ix3 i j k) = x (ix3 i j 0) :=
  broadcastTo_apply x h _ _ (forall_three (by
    show i.val = if a = 1 then 0 else i.val
    split <;> omega) (by
    show j.val = if b = 1 then 0 else j.val
    split <;> omega) (by
    show 0 = if 1 = 1 then 0 else _
    rfl))

theorem bcast3_mid (x : (⟨3, ![a, 1, m]⟩ : Shape).Idx → α) (h) (i : Fin a) (j : Fin b) (k : Fin m) :
    broadcastTo ⟨3, ![a, b, m]⟩ x h (ix3 i j k) = x (ix3 i 0 k) :=
  broadcastTo_apply x h _ _ (forall_three (by
    show i.val = if a = 1 then 0 else i.val
    split <;> omega) (by
    show 0 = if 1 = 1 then 0 else _
    rfl) (by
    show k.val = if m = 1 then 0 else k.val
    split <;> omega))

theorem bcast3_row (x : (⟨3, ![1, 1, m]⟩ : Shape).Idx → α) (h) (i : Fin a) (j : Fin b) (k : Fin m) :
    broadcastTo ⟨3, ![a, b, m]⟩ x h (ix3 i j k) = x (ix3 0 0 k) :=
  broadcastTo_apply x h _ _ (forall_three (by
    show 0 = if 1 = 1 then 0 else _
    rfl) (by
    show 0 = if 1 = 1 then 0 else _
    rfl) (by
    show k.val = if m = 1 then 0 else k.val
    split <;> omega))

end Any

section Canon
variable {Val : EltTy → Type} [∀ e, Nonempty (Val e)] {s : Shape} {e : EltTy}

/-- A list of stores read at an index of the last one … -/
theorem canon_head {P : List (View.Piece Val s e)} (r : Rect s) (w : r.shape.Idx → Val e) (L : List (View.Piece Val s e)) (hP : P = ⟨r, w⟩ :: L)
    (y : s.Idx) (x : r.shape.Idx) (hy : y = r.emb x) : View.canon P y = w x := by
  subst hP; subst hy; exact View.canon_cons_emb r w L x

/-- … and at an index off it. -/
theorem canon_tail {P : List (View.Piece Val s e)} (p : View.Piece Val s e) (L : List (View.Piece Val s e)) (hP : P = p :: L)
    (y : s.Idx) (h : y ∉ p.1.set) : View.canon P y = View.canon L y := by
  subst hP; exact View.canon_cons_of_not_mem p L h

end Canon

section AtIdeal
variable {φ : FTy} {a b n m : ℕ}

theorem sum_rows (x : FVec Ideal ⟨2, ![n, m]⟩ φ) (acc : BitVec φ.bits) (h : (⟨2, ![n, m]⟩ : Shape).Reduces [1] ⟨1, ![n]⟩) (hφ : FKind.Formats φ)
    (hacc : acc = FKind.add.neutral φ hφ) (i : Fin n) :
    multiReduction .add [1] ⟨1, ![n]⟩ x acc h hφ hacc (ix1 i) = ∑ k : Fin m, (x (ix2 i k) : EReal) := by
  refine (Ideal.multiReduction_add_single (a := 1) x acc h hφ hacc (ix1 i)).trans (Finset.sum_congr rfl fun k _ => congrArg x ?_)
  rw [eq_ix2 (h.lift (ix1 i) k)]; rfl

theorem max_rows (x : FVec Ideal ⟨2, ![n, m]⟩ φ) (acc : BitVec φ.bits) (h : (⟨2, ![n, m]⟩ : Shape).Reduces [1] ⟨1, ![n]⟩) (hφ : FKind.Formats φ)
    (hacc : acc = FKind.maximumf.neutral φ hφ) (i : Fin n) :
    multiReduction .maximumf [1] ⟨1, ![n]⟩ x acc h hφ hacc (ix1 i) = (Finset.univ : Finset (Fin m)).fold max (Ideal.ofBits φ acc : EReal) fun k => x (ix2 i k) := by
  refine (Ideal.multiReduction_maximumf_single (a := 1) x acc h hφ hacc (ix1 i)).trans ?_
  refine congrArg (fun f => (Finset.univ : Finset (Fin m)).fold max (Ideal.ofBits φ acc : EReal) f) (funext fun k => congrArg x ?_)
  rw [eq_ix2 (h.lift (ix1 i) k)]; rfl

theorem sum_rows3 (x : FVec Ideal ⟨3, ![a, b, m]⟩ φ) (acc : BitVec φ.bits) (h : (⟨3, ![a, b, m]⟩ : Shape).Reduces [2] ⟨2, ![a, b]⟩) (hφ : FKind.Formats φ)
    (hacc : acc = FKind.add.neutral φ hφ) (i : Fin a) (j : Fin b) :
    multiReduction .add [2] ⟨2, ![a, b]⟩ x acc h hφ hacc (ix2 i j) = ∑ k : Fin m, (x (ix3 i j k) : EReal) := by
  refine (Ideal.multiReduction_add_single (a := 2) x acc h hφ hacc (ix2 i j)).trans (Finset.sum_congr rfl fun k _ => congrArg x ?_)
  rw [eq_ix3 (h.lift (ix2 i j) k)]; rfl

theorem max_rows3 (x : FVec Ideal ⟨3, ![a, b, m]⟩ φ) (acc : BitVec φ.bits) (h : (⟨3, ![a, b, m]⟩ : Shape).Reduces [2] ⟨2, ![a, b]⟩) (hφ : FKind.Formats φ)
    (hacc : acc = FKind.maximumf.neutral φ hφ) (i : Fin a) (j : Fin b) :
    multiReduction .maximumf [2] ⟨2, ![a, b]⟩ x acc h hφ hacc (ix2 i j) = (Finset.univ : Finset (Fin m)).fold max (Ideal.ofBits φ acc : EReal) fun k => x (ix3 i j k) := by
  refine (Ideal.multiReduction_maximumf_single (a := 2) x acc h hφ hacc (ix2 i j)).trans ?_
  refine congrArg (fun f => (Finset.univ : Finset (Fin m)).fold max (Ideal.ofBits φ acc : EReal) f) (funext fun k => congrArg x ?_)
  rw [eq_ix3 (h.lift (ix2 i j) k)]; rfl

/-- A plain product from zero. -/
theorem product {M K N : ℕ} {φ₁ φ₂ : FTy} (prec : Option ContractPrecision) (x : FVec Ideal ⟨2, ![M, K]⟩ φ₁) (w : FVec Ideal ⟨2, ![K, N]⟩ φ₂) (r : Fin M) (c : Fin N) :
    FloatOps.matmul (DotDims.plain M K N) prec x w (constant ⟨2, ![M, N]⟩ .f32 0x00000000#32) (ix2 r c) = ∑ k : Fin K, (x (ix2 r k) * w (ix2 k c) : EReal) := by
  rw [Ideal.matmul_plain_apply]
  show Ideal.ofBits .f32 0x00000000#32 + _ = _
  rw [Ideal.ofBits_zero_f32, zero_add]

end AtIdeal

end Cert.Layout
-- ==== Proof.Mlp.Rows.lean ====
/- The LayerNorm tiles of the MLP half over the extended reals: the scales and the codes of a block of tokens are those of
   the specification, row by row. -/
module

public import proofs.«01_k».proof.Proof.Mlp.Body
public import proofs.«01_k».proof.Proof.Common.Spec
public import proofs.«01_k».proof.Proof.Common.Layout

@[expose] public section

set_option maxRecDepth 16384

noncomputable section

namespace Cert.Mlp

open Cert.MlpKernelIdeal Cert.MlpKernelIdeal.Gen
open Idealize.ShloMosaic Idealize.ShloMosaic.ValueIdx
open scoped BigOperators

/-! ### One tile of 32 rows -/

section Tile

variable (mul add : FVec Ideal S1x1920 .f32) (x : Vec Ideal S1x32x1920 .f32) (r : Fin 32)

/-- A row of the tile, a modulation row. -/
abbrev tileRow : Fin 1920 → EReal := fun d => x (ix3 0 r d)
abbrev vecRow (v : FVec Ideal S1x1920 .f32) : Fin 1920 → EReal := fun d => v (ix2 0 d)

theorem ln_tile (d : Fin 1920) : (k0_pay40 mul add (k0_pay39 x) (ix2 r d) : EReal) = Spec.ln (tileRow x r) (vecRow mul) (vecRow add) d := by
  have e : ∀ d, (k0_pay39 x (ix2 r d) : EReal) = tileRow x r d := fun d => Layout.cast_drop x _ r d
  unfold k0_pay40
  generalize k0_pay39 x = z at e
  have hs : ∀ (y : FVec Ideal S32x1920 .f32) (r : Fin 32), multiReduction .add [1] S32 y 0x00000000#32 reduces_S32x1920_S32 (.inl rfl) rfl (ix1 r) = (∑ k : Fin 1920, (y (ix2 r k) : EReal)) :=
    fun y r => Layout.sum_rows y _ _ _ _ r
  have hr : ∀ (y : FVec Ideal S32x1 .f32) (i : S32x1.Idx), sqrt y i = Ideal.sqrt (y i) := fun _ _ => rfl
  simp only [addf_apply, mulf_apply, subf_apply, divf_apply, Layout.bcast_col, Layout.bcast_row, Layout.cast_col, hs, hr, broadcast_apply, e]
  exact congrArg (fun v : EReal => v * vecRow mul d + vecRow add d) (Spec.mul_recip (Spec.dev (tileRow x r) d) (Spec.root_ne_zero (tileRow x r)))

theorem scale_tile : (rowScale mul add x (ix2 r 0) : EReal) = Spec.rowScale (Spec.ln (tileRow x r) (vecRow mul) (vecRow add)) := by
  have e := ln_tile mul add x r
  unfold rowScale k0_pay41
  generalize k0_pay40 mul add (k0_pay39 x) = z at e
  simp only [select_apply, cmpf_apply, divf_apply, Layout.cast_col, broadcast_apply]
  have a : (multiReduction .maximumf [1] S32 (absf z) 0xFF800000#32 reduces_S32x1920_S32 (.inl rfl) rfl (ix1 r) : EReal) = Spec.amax (Spec.ln (tileRow x r) (vecRow mul) (vecRow add)) := by
    refine (Layout.max_rows (absf z) _ _ _ _ r).trans ?_
    refine congrArg (fun f => Finset.univ.fold max Spec.least f) (funext fun k => ?_)
    show max (z (ix2 r k) : EReal) (-(z (ix2 r k) : EReal)) = _
    rw [e]
  exact congrArg Spec.scaleOf a

theorem codes_tile (d : Fin 1920) : (rowCodes mul add x (ix3 0 r d) : EReal) = Spec.rowCode (Spec.ln (tileRow x r) (vecRow mul) (vecRow add)) d := by
  have e := ln_tile mul add x r d
  have s : (k0_pay41 mul add (k0_pay39 x) (ix2 r 0) : EReal) = _ := scale_tile mul add x r
  unfold rowCodes k0_pay42
  generalize k0_pay40 mul add (k0_pay39 x) = z at e
  generalize k0_pay41 mul add (k0_pay39 x) = q at s
  simp only [Layout.cast_add, truncf_apply, minimumf_apply, maximumf_apply, mulf_apply, divf_apply, Layout.bcast_col, broadcast_apply, e, s]
  exact congrArg (fun v : EReal => min Spec.top (max Spec.bot v)) (Spec.mul_recip _ (Spec.rowScale_ne_zero _))

end Tile

/-! ### A block of 256 rows -/

theorem mem_rowRect (n : ℕ) (hn : n < 8) (s : Fin 256) (d : Fin 1920) (h1 : 32 * n ≤ s.val) (h2 : s.val < 32 * n + 32) :
    (ix3 (0 : Fin 1) s d : S1x256x1920.Idx) = (rowRect n).emb (ix3 (0 : Fin 1) (⟨s.val - 32 * n, by omega⟩ : Fin 32) d) := by
  funext a
  apply Fin.ext
  revert a
  refine Layout.forall_three ?_ ?_ ?_
  · rfl
  · show s.val = 32 * (n % 8) + 1 * (s.val - 32 * n); omega
  · show d.val = 0 + 1 * d.val; omega

/-- The stores of the row tiles, read at a row: the tile that holds it. -/
theorem canon_rows {F : FTy → Type} [FloatOps F] (mul add : FVec F S1x1920 .f32) (X : ℕ → Vec F S1x32x1920 .f32) (s : Fin 256) (d : Fin 1920) (k : ℕ)
    (h1 : 32 * k ≤ s.val) (h2 : s.val < 32 * k + 32) : ∀ n, k < n → n ≤ 8 →
    View.canon (rowPieces mul add X n) (ix3 0 s d : S1x256x1920.Idx) = rowCodes mul add (X k) (ix3 0 (⟨s.val - 32 * k, by omega⟩ : Fin 32) d)
  | 0, h, _ => absurd h (by omega)
  | n + 1, h, hn => by
    by_cases e : k = n
    · subst e
      exact Layout.canon_head (Val := Elt F) (e := .fp8e4m3) (rowRect k) (rowCodes mul add (X k)) (rowPieces mul add X k) rfl _ _ (mem_rowRect k (by omega) s d h1 h2)
    · refine (Layout.canon_tail (Val := Elt F) (e := .fp8e4m3) ⟨rowRect n, rowCodes mul add (X n)⟩ (rowPieces mul add X n) rfl _ ?_).trans (canon_rows mul add X s d k h1 h2 n (by omega) (by omega))
      intro hm
      have e : 32 * (n % 8) ≤ s.val := ((Rect.mem_set_unit (inb := inb_rows n)).mp hm 1).1
      omega

section Block

variable (mul add : FVec Ideal S1x1920 .f32) (x0 : Vec Ideal S1x256x1920 .f32) (s : Fin 256)

abbrev blockRow : Fin 1920 → EReal := fun d => x0 (ix3 0 s d)

theorem tileRow_ld (n : ℕ) (hn : n < 8) (h1 : 32 * n ≤ s.val) (h2 : s.val < 32 * n + 32) :
    tileRow (View.ld x0 (rowRect n)) (⟨s.val - 32 * n, by omega⟩ : Fin 32) = blockRow x0 s :=
  funext fun d => congrArg x0 (mem_rowRect n hn s d h1 h2).symm

theorem scale_block : (colScale mul add (fun k => View.ld x0 (rowRect k)) (ix2 s 0) : EReal) = Spec.rowScale (Spec.ln (blockRow x0 s) (vecRow mul) (vecRow add)) := by
  have key : ∀ n : Fin 8, ∀ _h1 : 32 * n.val ≤ s.val, ∀ _h2 : s.val < 32 * n.val + 32,
      (colScale mul add (fun k => View.ld x0 (rowRect k)) (ix2 s 0) : EReal) = rowScale mul add (View.ld x0 (rowRect n.val)) (ix2 (⟨s.val - 32 * n.val, by omega⟩ : Fin 32) 0) := by
    intro n h1 h2
    unfold colScale
    refine concatenate_apply_piece (t := S256x1) 0 _ _ _ n.val (by show n.val < 8; omega) S32x1 (rowScale mul add (View.ld x0 (rowRect n.val))) (by fin_cases n <;> rfl) rfl (32 * n.val)
      (by fin_cases n <;> rfl) _ ?_ ?_
    · intro b hb
      have : b = 1 := by
        revert hb; fin_cases b
        · intro h; exact absurd rfl h
        · intro _; rfl
      subst this; rfl
    · show 32 * n.val + (s.val - 32 * n.val) = s.val
      omega
  have h1 : 32 * (s.val / 32) ≤ s.val := by omega
  have h2 : s.val < 32 * (s.val / 32) + 32 := by omega
  have hn : s.val / 32 < 8 := by omega
  rw [key ⟨s.val / 32, hn⟩ h1 h2, scale_tile, tileRow_ld x0 s _ hn h1 h2]

theorem codes_block (d : Fin 1920) :
    (View.canon (rowPieces mul add (fun k => View.ld x0 (rowRect k)) 8) (ix3 0 s d) : EReal) = Spec.rowCode (Spec.ln (blockRow x0 s) (vecRow mul) (vecRow add)) d := by
  have h1 : 32 * (s.val / 32) ≤ s.val := by omega
  have h2 : s.val < 32 * (s.val / 32) + 32 := by omega
  have hn : s.val / 32 < 8 := by omega
  refine (canon_rows mul add (fun k => View.ld x0 (rowRect k)) s d (s.val / 32) h1 h2 8 hn le_rfl).trans ?_
  refine (codes_tile mul add _ _ d).trans ?_
  rw [tileRow_ld x0 s _ hn h1 h2]

end Block

end Cert.Mlp
-- ==== Proof.Mlp.Tokens.lean ====
/- The feed-forward tiles of the MLP half over the extended reals: the GELU values, their scales and codes, and the results of
   a block of tokens are those of the specification, row by row. -/
module

public import proofs.«01_k».proof.Proof.Mlp.Rows

@[expose] public section

set_option maxRecDepth 16384

noncomputable section

namespace Cert.Mlp

open Cert.MlpKernelIdeal Cert.MlpKernelIdeal.Gen
open Idealize.ShloMosaic Idealize.ShloMosaic.ValueIdx
open scoped BigOperators

/-! ### The GELU tiles -/

/-- Lane `l` of tile `n` among the 7680. -/
abbrev lane (n : ℕ) (hn : n < 60) (l : Fin 128) : Fin 7680 := ⟨128 * n + l.val, by omega⟩

theorem laneRect_idx (n : ℕ) (hn : n < 60) (l : Fin 128) : (laneRect n).emb (ix2 (0 : Fin 1) l) = (ix2 (0 : Fin 1) (lane n hn l) : S1x7680.Idx) := by
  funext a; apply Fin.ext; revert a
  refine Fin.forall_fin_two.mpr ⟨rfl, ?_⟩
  show 128 * (n % 60) + 1 * l.val = 128 * n + l.val
  omega

theorem tileRect_idx (n : ℕ) (hn : n < 60) (s : Fin 256) (l : Fin 128) : (tileRect n).emb (ix2 s l) = (ix2 s (lane n hn l) : S256x7680.Idx) := by
  funext a; apply Fin.ext; revert a
  refine Fin.forall_fin_two.mpr ⟨?_, ?_⟩
  · show 0 + 1 * s.val = s.val; omega
  · show 128 * (n % 60) + 1 * l.val = 128 * n + l.val; omega

theorem codeRect_idx (n : ℕ) (hn : n < 60) (s : Fin 256) (l : Fin 128) : (codeRect n).emb (ix3 (0 : Fin 1) s l) = (ix3 (0 : Fin 1) s (lane n hn l) : S1x256x7680.Idx) := by
  funext a; apply Fin.ext; revert a
  refine Layout.forall_three ?_ ?_ ?_
  · rfl
  · show 0 + 1 * s.val = s.val; omega
  · show 128 * (n % 60) + 1 * l.val = 128 * n + l.val; omega

theorem chunkRect_idx (n : ℕ) (hn : n < 60) (k : Fin 1920) (l : Fin 128) (c : Fin 768) (hc : c.val = 128 * (n % 6) + l.val) :
    (chunkRect (n / 6)).emb (ix2 k c) = (ix2 k (lane n hn l) : S1920x7680.Idx) := by
  funext a; apply Fin.ext; revert a
  refine Fin.forall_fin_two.mpr ⟨?_, ?_⟩
  · show 0 + 1 * k.val = k.val; omega
  · show 768 * (n / 6 % 10) + 1 * c.val = 128 * n + l.val; omega

section Tile

variable (s : FVec Ideal S256x1 .f32) (v : Vec Ideal S1x256x1920 .fp8e4m3) (x2 : Vec Ideal S1920x7680 .fp8e4m3) (x3 x4 : Vec Ideal S1x7680 .f32) (r : Fin 256)

/-- The GELU values of a row. -/
abbrev gRow (j : Fin 7680) : EReal :=
  Spec.gelu (Spec.lin (fun k => v (ix3 0 r k)) (s (ix2 r 0)) (fun k => x2 (ix2 k j)) (x3 (ix2 0 j)) (x4 (ix2 0 j)))

theorem chunk_apply (w : Vec Ideal S1920x768 .fp8e4m3) (c : Fin 768) : (chunk v w (ix2 r c) : EReal) = ∑ k : Fin 1920, (v (ix3 0 r k) * w (ix2 k c) : EReal) := by
  unfold chunk k0_pay48
  refine (Layout.product (M := 256) (K := 1920) (N := 768) none (k0_pay47 v) w r c).trans (Finset.sum_congr rfl fun k _ => ?_)
  exact congrArg (fun z : EReal => z * (w (ix2 k c) : EReal)) (Layout.cast_drop v _ r k)

theorem geluTile_apply (x : FVec Ideal S256x128 .f32) (i : S256x128.Idx) : (geluTile x i : EReal) = Spec.gelu (x i) := rfl

theorem g_tile (n : ℕ) (hn : n < 60) (l : Fin 128) :
    (gTile s v (fun k => View.ld x2 (chunkRect k)) (fun n => View.ld x3 (laneRect n)) (fun n => View.ld x4 (laneRect n)) n (ix2 r l) : EReal)
      = gRow s v x2 x3 x4 r (lane n hn l) := by
  unfold gTile
  rw [geluTile_apply]
  refine congrArg Spec.gelu ?_
  have hc : 128 * (n % 6) + l.val < 768 := by omega
  have e1 : (extractStridedSlice S256x128 ![0, 128 * (n % 6)] (chunk v (View.ld x2 (chunkRect (n / 6)))) (slices_tile n) (ix2 r l) : EReal)
      = ∑ k : Fin 1920, (v (ix3 0 r k) * x2 (ix2 k (lane n hn l)) : EReal) := by
    refine (extractStridedSlice_apply _ _ _ (ix2 r l) (ix2 r (⟨128 * (n % 6) + l.val, hc⟩ : Fin 768)) (Fin.forall_fin_two.mpr ⟨(Nat.zero_add _).symm, rfl⟩)).trans ?_
    refine (chunk_apply v r _ _).trans (Finset.sum_congr rfl fun k _ => ?_)
    exact congrArg (fun z : EReal => (v (ix3 0 r k) : EReal) * z) (congrArg x2 (chunkRect_idx n hn k l _ rfl))
  have e2 : (k0_pay45 s (ix2 r l) : EReal) = s (ix2 r 0) :=
    (Layout.bcast_col _ broadcasts_S256x1_S256x128 r l).trans (congrFun (Layout.cast_self s _) _)
  have e3 : ∀ x : Vec Ideal S1x7680 .f32, (broadcastTo S256x128 (shapeCast S1x128 (View.ld x (laneRect n)) shapeCasts_S1x128_S1x128) broadcasts_S1x128_S256x128 (ix2 r l) : EReal) = x (ix2 0 (lane n hn l)) :=
    fun x => (Layout.bcast_row _ broadcasts_S1x128_S256x128 r l).trans ((congrFun (Layout.cast_self _ _) _).trans (congrArg x (laneRect_idx n hn l)))
  simp only [addf_apply, mulf_apply, e1, e2, e3]
  rfl

end Tile

/-! ### The largest magnitudes -/

theorem amaxUpto_le_iff (g : ℕ → FVec Ideal S256x128 .f32) (i : S256x128.Idx) (c : EReal) :
    ∀ n, (amaxUpto g n i : EReal) ≤ c ↔ Spec.zero ≤ c ∧ ∀ k < n, max (g k i : EReal) (-(g k i : EReal)) ≤ c
  | 0 => by simp [amaxUpto, k0_pay46, broadcast_apply, Spec.zero]
  | n + 1 => by
    have h : (amaxUpto g (n + 1) i : EReal) = max (amaxUpto g n i : EReal) (max (g n i : EReal) (-(g n i : EReal))) := rfl
    rw [h, max_le_iff, amaxUpto_le_iff g i c n]
    constructor
    · rintro ⟨⟨h0, h1⟩, h2⟩
      refine ⟨h0, fun k hk => ?_⟩
      rcases Nat.lt_succ_iff_lt_or_eq.mp hk with hk | rfl
      · exact h1 k hk
      · exact h2
    · rintro ⟨h0, h1⟩
      exact ⟨⟨h0, fun k hk => h1 k (by omega)⟩, h1 n (by omega)⟩

/-- The lanes' largest magnitudes from zero, and then the largest of the lanes: the largest magnitude of the row. -/
theorem scale2_apply (g : ℕ → FVec Ideal S256x128 .f32) (r : Fin 256) (f : Fin 7680 → EReal)
    (hg : ∀ n (hn : n < 60) (l : Fin 128), (g n (ix2 r l) : EReal) = f (lane n hn l)) :
    (colScale2 (amaxUpto g 60) (ix2 r 0) : EReal) = Spec.rowScale f := by
  unfold colScale2
  simp only [select_apply, cmpf_apply, divf_apply, Layout.cast_col, broadcast_apply]
  have a : (multiReduction .maximumf [1] S256 (amaxUpto g 60) 0xFF800000#32 reduces_S256x128_S256 (.inl rfl) rfl (ix1 r) : EReal) = Spec.amax f := by
    refine (Layout.max_rows (amaxUpto g 60) _ _ _ _ r).trans ?_
    refine eq_of_forall_ge_iff fun c => ?_
    rw [Finset.fold_max_le, Spec.amax_le_iff]
    refine and_congr_right fun _ => ?_
    constructor
    · intro h k
      have hk : k.val / 128 < 60 := by omega
      have := ((amaxUpto_le_iff g _ c 60).mp (h (⟨k.val % 128, by omega⟩ : Fin 128) (Finset.mem_univ _))).2 (k.val / 128) hk
      rw [hg _ hk] at this
      have e : lane (k.val / 128) hk ⟨k.val % 128, by omega⟩ = k := Fin.ext (by show 128 * (k.val / 128) + k.val % 128 = k.val; omega)
      rwa [e] at this
    · intro h l _
      refine (amaxUpto_le_iff g _ c 60).mpr ⟨?_, fun n hn => ?_⟩
      · refine le_trans (le_of_eq_of_le ?_ (Spec.abs_nonneg' (f 0))) (h 0)
        exact Ideal.ofBits_zero_f32
      · rw [hg n hn l]; exact h _
  exact congrArg Spec.scaleOf a

/-! ### The stores, read at a lane -/

theorem canon_tiles {F : FTy → Type} [FloatOps F] (g : ℕ → FVec F S256x128 .f32) (r : Fin 256) (l : Fin 128) (k : ℕ) (hk : k < 60) : ∀ n, k < n → n ≤ 60 →
    View.canon (tilePieces g n) (ix2 r (lane k hk l) : S256x7680.Idx) = g k (ix2 r l)
  | 0, h, _ => absurd h (by omega)
  | n + 1, h, hn => by
    by_cases e : k = n
    · subst e
      exact (Layout.canon_head (Val := Elt F) (e := .f32) (tileRect k) (shapeCast S256x128 (g k) shapeCasts_S256x128_S256x128) (tilePieces g k) rfl _ (ix2 r l) (tileRect_idx k hk r l).symm).trans
        (congrFun (Layout.cast_self (g k) _) _)
    · refine (Layout.canon_tail (Val := Elt F) (e := .f32) ⟨tileRect n, shapeCast S256x128 (g n) shapeCasts_S256x128_S256x128⟩ (tilePieces g n) rfl _ ?_).trans (canon_tiles g r l k hk n (by omega) (by omega))
      intro hm
      have e : 128 * (n % 60) ≤ 128 * k + l.val := ((Rect.mem_set_unit (inb := inb_tile n)).mp hm 1).1
      omega

theorem canon_codes {F : FTy → Type} [FloatOps F] (s : FVec F S256x1 .f32) (G : ℕ → Vec F S256x128 .f32) (r : Fin 256) (l : Fin 128) (k : ℕ) (hk : k < 60) : ∀ n, k < n → n ≤ 60 →
    View.canon (codePieces s G n) (ix3 0 r (lane k hk l) : S1x256x7680.Idx) = codeTile s (G k) (ix3 0 r l)
  | 0, h, _ => absurd h (by omega)
  | n + 1, h, hn => by
    by_cases e : k = n
    · subst e
      exact Layout.canon_head (Val := Elt F) (e := .fp8e4m3) (codeRect k) (codeTile s (G k)) (codePieces s G k) rfl _ (ix3 0 r l) (codeRect_idx k hk r l).symm
    · refine (Layout.canon_tail (Val := Elt F) (e := .fp8e4m3) ⟨codeRect n, codeTile s (G n)⟩ (codePieces s G n) rfl _ ?_).trans (canon_codes s G r l k hk n (by omega) (by omega))
      intro hm
      have e : 128 * (n % 60) ≤ 128 * k + l.val := ((Rect.mem_set_unit (inb := inb_code n)).mp hm 2).1
      omega

theorem codeTile_apply (s : FVec Ideal S256x1 .f32) (g : Vec Ideal S256x128 .f32) (r : Fin 256) (l : Fin 128) (hs : (s (ix2 r 0) : EReal) ≠ 0) :
    (codeTile s g (ix3 0 r l) : EReal) = Spec.code (g (ix2 r l)) (s (ix2 r 0)) := by
  unfold codeTile
  simp only [Layout.cast_add, truncf_apply, minimumf_apply, maximumf_apply, mulf_apply, divf_apply, Layout.bcast_col, Layout.cast_self, broadcast_apply]
  exact congrArg (fun v : EReal => min Spec.top (max Spec.bot v)) (Spec.mul_recip _ hs)

theorem toRow_apply (s : FVec Ideal S256x1 .f32) (r : Fin 256) : (toRow s (ix2 0 r) : EReal) = s (ix2 r 0) := by
  unfold toRow k0_pay44
  refine (extractStridedSlice_apply _ _ _ (ix2 0 r) (ix2 (0 : Fin 128) r) (Fin.forall_fin_two.mpr ⟨rfl, (Nat.zero_add _).symm⟩)).trans ?_
  refine (transpose_apply _ _ _ (ix2 (0 : Fin 128) r) (ix2 r (0 : Fin 128)) (Fin.forall_fin_two.mpr ⟨rfl, rfl⟩)).trans ?_
  exact (Layout.bcast_col _ broadcasts_S256x1_S256x128 r 0).trans (congrFun (Layout.cast_self s _) _)

/-- The last stage at an index. -/
theorem y_apply (γ : FVec Ideal S1x1920 .f32) (s : FVec Ideal S256x1 .f32) (v : Vec Ideal S1x256x7680 .fp8e4m3) (x5 : Vec Ideal S7680x1920 .fp8e4m3) (x6 x7 : Vec Ideal S1x1920 .f32)
    (x0 : Vec Ideal S1x256x1920 .f32) (r : Fin 256) (d : Fin 1920) :
    (k0_pay1 γ (k0_pay362 s v x5 x6 x7) x0 (ix3 0 r d) : EReal)
      = (x0 (ix3 0 r d) : EReal) + (γ (ix2 0 d) : EReal) * Spec.lin (fun k => v (ix3 0 r k)) (s (ix2 r 0)) (fun k => x5 (ix2 k d)) (x6 (ix2 0 d)) (x7 (ix2 0 d)) := by
  have e : matmul (F := Ideal) (φ₁ := .fp8e4m3) (φ₂ := .fp8e4m3) dot_S256x7680_S7680x1920_S256x1920_1_0_0_1_n_n none (shapeCast S256x7680 v shapeCasts_S1x256x7680_S256x7680) x5 (constant S256x1920 .f32 0x00000000#32) (ix2 r d)
      = ∑ k : Fin 7680, (v (ix3 0 r k) * x5 (ix2 k d) : EReal) := by
    refine (Layout.product (φ₁ := .fp8e4m3) (φ₂ := .fp8e4m3) (M := 256) (K := 7680) (N := 1920) none _ x5 r d).trans (Finset.sum_congr rfl fun k _ => ?_)
    exact congrArg (fun z : EReal => z * (x5 (ix2 k d) : EReal)) (Layout.cast_drop v _ r k)
  unfold k0_pay1 k0_pay362
  simp only [Layout.cast_add, truncf_apply, addf_apply, mulf_apply, Layout.bcast_col, Layout.bcast_row, Layout.cast_self, Layout.cast_drop, e]
  rfl

end Cert.Mlp
-- ==== Proof.Mlp.Spec.lean ====
/- The results of the MLP half as functions of its arguments, token by token. -/
module

public import proofs.«01_k».proof.Proof.Common.Spec
public import Idealize.ShloMosaic.Lib.ValueIdx

@[expose] public section

noncomputable section

namespace Cert.MlpSpec

open Idealize.ShloMosaic Idealize.ShloMosaic.ValueIdx

variable (X : Vec Ideal ⟨3, ![48, 256, 1920]⟩ .f32) (A : Vec Ideal ⟨3, ![48, 6, 1920]⟩ .f32)
  (W1 : Vec Ideal ⟨2, ![1920, 7680]⟩ .fp8e4m3) (w1s b1 : Vec Ideal ⟨1, ![7680]⟩ .f32)
  (W2 : Vec Ideal ⟨2, ![7680, 1920]⟩ .fp8e4m3) (w2s b2 : Vec Ideal ⟨1, ![1920]⟩ .f32) (b : Fin 48) (s : Fin 256)

/-- The modulated LayerNorm of a token. -/
def h : Fin 1920 → EReal :=
  Spec.ln (fun d => X (ix3 b s d)) (fun d => Spec.one + (A (ix3 b (3 : Fin 6) d) : EReal)) (fun d => A (ix3 b (5 : Fin 6) d))

/-- The GELU values of a token. -/
def g (j : Fin 7680) : EReal :=
  Spec.gelu (Spec.lin (Spec.rowCode (h X A b s)) (Spec.rowScale (h X A b s)) (fun k => W1 (ix2 k j)) (w1s (ix1 j)) (b1 (ix1 j)))

/-- The result of a token. -/
def y (d : Fin 1920) : EReal :=
  (X (ix3 b s d) : EReal) + (A (ix3 b (1 : Fin 6) d) : EReal)
    * Spec.lin (Spec.rowCode (g X A W1 w1s b1 b s)) (Spec.rowScale (g X A W1 w1s b1 b s)) (fun k => W2 (ix2 k d)) (w2s (ix1 d)) (b2 (ix1 d))

end Cert.MlpSpec
-- ==== Proof.Mlp.Blocks.lean ====
/- The blocks of a grid point of the MLP half over the extended reals: what the body stores for the tokens of a batch is the
   specification's, given what the input blocks hold. -/
module

public import proofs.«01_k».proof.Proof.Mlp.Tokens
public import proofs.«01_k».proof.Proof.Mlp.Spec

@[expose] public section

set_option maxRecDepth 16384

noncomputable section

namespace Cert.Mlp

open Cert.MlpKernelIdeal Cert.MlpKernelIdeal.Gen
open Idealize.ShloMosaic Idealize.ShloMosaic.ValueIdx
open scoped BigOperators

theorem off1_eq : ∀ t : Fin grid0.N, k0_off1 (grid0.coords t) = ![1, t.val, 0] := by decide +kernel
theorem off2_eq : ∀ t : Fin grid0.N, k0_off2 (grid0.coords t) = ![3, t.val, 0] := by decide +kernel
theorem off3_eq : ∀ t : Fin grid0.N, k0_off3 (grid0.coords t) = ![5, t.val, 0] := by decide +kernel

section Point

variable (t : Fin grid0.N) (b : Fin 48) (hb : t.val = b.val)
  (x0 : Vec Ideal S1x256x1920 .f32) (x1 : Vec Ideal S6x48x1920 .f32) (x2 : Vec Ideal S1920x7680 .fp8e4m3) (x3 x4 : Vec Ideal S1x7680 .f32)
  (x5 : Vec Ideal S7680x1920 .fp8e4m3) (x6 x7 : Vec Ideal S1x1920 .f32)
  (X : Vec Ideal ⟨3, ![48, 256, 1920]⟩ .f32) (A : Vec Ideal ⟨3, ![48, 6, 1920]⟩ .f32)
  (W1 : Vec Ideal ⟨2, ![1920, 7680]⟩ .fp8e4m3) (w1s b1 : Vec Ideal ⟨1, ![7680]⟩ .f32)
  (W2 : Vec Ideal ⟨2, ![7680, 1920]⟩ .fp8e4m3) (w2s b2 : Vec Ideal ⟨1, ![1920]⟩ .f32)

theorem row_of (k : Fin 6) (off : Fin 3 → ℕ) (inb : ∀ a, off a + S1x1x1920.size a ≤ S6x48x1920.size a) (ho : off = ![k.val, b.val, 0]) (d : Fin 1920) :
    (shapeCast S1x1920 (View.ld x1 (Rect.unit off S1x1x1920.size inb)) shapeCasts_S1x1x1920_S1x1920 (ix2 0 d) : EReal) = x1 (ix3 k b d) := by
  subst ho
  refine (Layout.cast_drop _ shapeCasts_S1x1x1920_S1x1920 0 d).trans (congrArg x1 ?_)
  funext a; apply Fin.ext; revert a
  refine Layout.forall_three ?_ ?_ ?_
  · show k.val + 1 * 0 = k.val; omega
  · show b.val + 1 * 0 = b.val; omega
  · show 0 + 1 * d.val = d.val; omega

variable (h0 : ∀ s d, (x0 (ix3 0 s d) : EReal) = X (ix3 b s d)) (h1 : ∀ k d, (x1 (ix3 k b d) : EReal) = A (ix3 b k d)) (h2 : x2 = W1)
  (h3 : ∀ j, (x3 (ix2 0 j) : EReal) = w1s (ix1 j)) (h4 : ∀ j, (x4 (ix2 0 j) : EReal) = b1 (ix1 j)) (h5 : x5 = W2)
  (h6 : ∀ j, (x6 (ix2 0 j) : EReal) = w2s (ix1 j)) (h7 : ∀ j, (x7 (ix2 0 j) : EReal) = b2 (ix1 j))

include hb h1 in
theorem gamma_apply (d : Fin 1920) : (gammaRow (grid0.coords t) x1 (ix2 0 d) : EReal) = A (ix3 b (1 : Fin 6) d) :=
  (row_of b x1 1 _ (k0_off1_inb (grid0.coords t)) (by rw [off1_eq, hb]; rfl) d).trans (h1 1 d)

include hb h1 in
theorem mul_apply (d : Fin 1920) : (mulRow (grid0.coords t) x1 (ix2 0 d) : EReal) = Spec.one + (A (ix3 b (3 : Fin 6) d) : EReal) :=
  congrArg (fun v : EReal => Spec.one + v) ((row_of b x1 3 _ (k0_off2_inb (grid0.coords t)) (by rw [off2_eq, hb]; rfl) d).trans (h1 3 d))

include hb h1 in
theorem add_apply (d : Fin 1920) : (addRow (grid0.coords t) x1 (ix2 0 d) : EReal) = A (ix3 b (5 : Fin 6) d) :=
  (row_of b x1 5 _ (k0_off3_inb (grid0.coords t)) (by rw [off3_eq, hb]; rfl) d).trans (h1 5 d)

include hb h0 h1 in
theorem ln_eq (s : Fin 256) : Spec.ln (blockRow x0 s) (vecRow (mulRow (grid0.coords t) x1)) (vecRow (addRow (grid0.coords t) x1)) = MlpSpec.h X A b s := by
  unfold MlpSpec.h
  rw [show blockRow x0 s = fun d => (X (ix3 b s d) : EReal) from funext (h0 s), show vecRow (mulRow (grid0.coords t) x1) = _ from funext (mul_apply t b hb x1 A h1),
    show vecRow (addRow (grid0.coords t) x1) = _ from funext (add_apply t b hb x1 A h1)]

include hb h0 h1 in
theorem sCol_apply (s : Fin 256) : (sCol (grid0.coords t) x0 x1 (ix2 s 0) : EReal) = Spec.rowScale (MlpSpec.h X A b s) := by
  rw [← ln_eq t b hb x0 x1 X A h0 h1 s]; exact scale_block _ _ x0 s

include hb h0 h1 in
theorem c2Blk_apply (s : Fin 256) (d : Fin 1920) : (c2Blk (grid0.coords t) x0 x1 (ix3 0 s d) : EReal) = Spec.rowCode (MlpSpec.h X A b s) d := by
  rw [← ln_eq t b hb x0 x1 X A h0 h1 s]; exact codes_block _ _ x0 s d

include hb h0 h1 h2 h3 h4 in
theorem gT_apply (n : ℕ) (hn : n < 60) (s : Fin 256) (l : Fin 128) :
    (gT (grid0.coords t) x0 x1 x2 x3 x4 n (ix2 s l) : EReal) = MlpSpec.g X A W1 w1s b1 b s (lane n hn l) := by
  subst h2
  refine (g_tile _ _ x2 x3 x4 s n hn l).trans ?_
  unfold MlpSpec.g gRow
  rw [h3, h4, sCol_apply t b hb x0 x1 X A h0 h1 s, show (fun k => (c2Blk (grid0.coords t) x0 x1 (ix3 0 s k) : EReal)) = _ from funext (c2Blk_apply t b hb x0 x1 X A h0 h1 s)]

include hb h0 h1 h2 h3 h4 in
theorem shCol_apply (s : Fin 256) : (shCol (grid0.coords t) x0 x1 x2 x3 x4 (ix2 s 0) : EReal) = Spec.rowScale (MlpSpec.g X A W1 w1s b1 b s) :=
  scale2_apply _ s _ fun n hn l => gT_apply t b hb x0 x1 x2 x3 x4 X A W1 w1s b1 h0 h1 h2 h3 h4 n hn s l

include hb h0 h1 h2 h3 h4 in
theorem chBlk_apply (s : Fin 256) (j : Fin 7680) : (chBlk (grid0.coords t) x0 x1 x2 x3 x4 (ix3 0 s j) : EReal) = Spec.rowCode (MlpSpec.g X A W1 w1s b1 b s) j := by
  have hk : j.val / 128 < 60 := by omega
  have e : lane (j.val / 128) hk ⟨j.val % 128, by omega⟩ = j := Fin.ext (by show 128 * (j.val / 128) + j.val % 128 = j.val; omega)
  rw [← e]
  generalize j.val / 128 = n at hk
  generalize (⟨j.val % 128, by omega⟩ : Fin 128) = l
  have hs := shCol_apply t b hb x0 x1 x2 x3 x4 X A W1 w1s b1 h0 h1 h2 h3 h4 s
  refine (canon_codes (shCol (grid0.coords t) x0 x1 x2 x3 x4) (fun n => View.ld (gBlk (grid0.coords t) x0 x1 x2 x3 x4) (tileRect n)) s l n hk 60 hk le_rfl).trans ?_
  refine (codeTile_apply _ _ s l (by rw [hs]; exact Spec.rowScale_ne_zero _)).trans ?_
  rw [hs]
  have hg : (View.ld (gBlk (grid0.coords t) x0 x1 x2 x3 x4) (tileRect n) (ix2 s l) : EReal) = MlpSpec.g X A W1 w1s b1 b s (lane n hk l) := by
    refine (congrArg (gBlk (grid0.coords t) x0 x1 x2 x3 x4) (tileRect_idx n hk s l)).trans ?_
    exact (canon_tiles (gT (grid0.coords t) x0 x1 x2 x3 x4) s l n hk 60 hk le_rfl).trans (gT_apply t b hb x0 x1 x2 x3 x4 X A W1 w1s b1 h0 h1 h2 h3 h4 n hk s l)
  exact congrArg (fun v : EReal => Spec.code v (Spec.rowScale (MlpSpec.g X A W1 w1s b1 b s))) hg

include hb h0 h1 h2 h3 h4 h5 h6 h7 in
theorem yBlk_apply (s : Fin 256) (d : Fin 1920) : (yBlk (grid0.coords t) x0 x1 x2 x3 x4 x5 x6 x7 (ix3 0 s d) : EReal) = MlpSpec.y X A W1 w1s b1 W2 w2s b2 b s d := by
  subst h5
  refine (y_apply _ _ _ x5 x6 x7 x0 s d).trans ?_
  unfold MlpSpec.y
  rw [h0, h6, h7, gamma_apply t b hb x1 A h1 d, shCol_apply t b hb x0 x1 x2 x3 x4 X A W1 w1s b1 h0 h1 h2 h3 h4 s,
    show (fun k => (chBlk (grid0.coords t) x0 x1 x2 x3 x4 (ix3 0 s k) : EReal)) = _ from funext (chBlk_apply t b hb x0 x1 x2 x3 x4 X A W1 w1s b1 h0 h1 h2 h3 h4 s)]

end Point

end Cert.Mlp
-- ==== Proof.Mlp.Inputs.lean ====
/- The input blocks of a grid point of the MLP half, in terms of the arguments: the block of the stream is the batch of the
   point; every other input is whole at every point. -/
module

public import proofs.«01_k».proof.Proof.Mlp.Frame
public import Idealize.ShloMosaic.Lib.Pipeline.ValueKit

@[expose] public section

set_option maxRecDepth 16384

noncomputable section

namespace Cert.Mlp

open Cert.MlpKernelIdeal Cert.MlpKernelIdeal.Gen
open Idealize.ShloMosaic hiding ix1 ix2 ix3
open Idealize.ShloMosaic.TcCoe Idealize.ShloMosaic.ValueIdx

variable (m : (ℓ : Loc nD τ sig) → Buf (Elt Ideal) ℓ) (c : Dev nD)

abbrev argX : Vec Ideal S48x256x1920 .f32 := m ((c : Thread nD τ).loc main_arg0)
abbrev argA : Vec Ideal S48x6x1920 .f32 := m ((c : Thread nD τ).loc main_arg1)
abbrev argW1 : Vec Ideal S1920x7680 .fp8e4m3 := m ((c : Thread nD τ).loc main_arg2)
abbrev argW1s : Vec Ideal S7680 .f32 := m ((c : Thread nD τ).loc main_arg3)
abbrev argB1 : Vec Ideal S7680 .f32 := m ((c : Thread nD τ).loc main_arg4)
abbrev argW2 : Vec Ideal S7680x1920 .fp8e4m3 := m ((c : Thread nD τ).loc main_arg5)
abbrev argW2s : Vec Ideal S1920 .f32 := m ((c : Thread nD τ).loc main_arg6)
abbrev argB2 : Vec Ideal S1920 .f32 := m ((c : Thread nD τ).loc main_arg7)

theorem index0 : ∀ t : Fin cfg0.N, win0_0.index t = ![t.val, 0, 0] := (by decide +kernel : ∀ t : Fin grid0.N, win0_0.index t = ![t.val, 0, 0])
theorem index1 : ∀ t : Fin cfg0.N, win0_1.index t = ![0, 0, 0] := (by decide +kernel : ∀ t : Fin grid0.N, win0_1.index t = ![0, 0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])

variable (t : Fin cfg0.N)

theorem in0 (b : Fin 48) (hb : t.val = b.val) (s : Fin 256) (d : Fin 1920) : (iblk m c 0 t (ix3 0 s d) : EReal) = argX m c (ix3 b s d) := by
  blk_ext! [iblk, V, index0 t]

theorem in1 (b : Fin 48) (k : Fin 6) (d : Fin 1920) : (iblk m c 1 t (ix3 k b d) : EReal) = argA m c (ix3 b k d) := by
  blk_ext! [iblk, V, index1 t]

theorem in2 : iblk m c 2 t = argW1 m c := by
  blk_ext! [iblk, V, index2 t]

theorem in3 (j : Fin 7680) : (iblk m c 3 t (ix2 0 j) : EReal) = argW1s m c (ix1 j) := by
  blk_ext! [iblk, V, index3 t]

theorem in4 (j : Fin 7680) : (iblk m c 4 t (ix2 0 j) : EReal) = argB1 m c (ix1 j) := by
  blk_ext! [iblk, V, index4 t]

theorem in5 : iblk m c 5 t = argW2 m c := by
  blk_ext! [iblk, V, index5 t]

theorem in6 (j : Fin 1920) : (iblk m c 6 t (ix2 0 j) : EReal) = argW2s m c (ix1 j) := by
  blk_ext! [iblk, V, index6 t]

theorem in7 (j : Fin 1920) : (iblk m c 7 t (ix2 0 j) : EReal) = argB2 m c (ix1 j) := by
  blk_ext! [iblk, V, index7 t]

end Cert.Mlp
-- ==== Proof.Mlp.Arrays.lean ====
/- What the result arrays of the MLP half hold after the run: the specification's values of the arguments. -/
module

public import proofs.«01_k».proof.Proof.Mlp.Blocks
public import proofs.«01_k».proof.Proof.Mlp.Inputs

@[expose] public section

set_option maxRecDepth 16384

noncomputable section

namespace Cert.Mlp

open Cert.MlpKernelIdeal Cert.MlpKernelIdeal.Gen
open Idealize.ShloMosaic hiding ix1 ix2 ix3
open Idealize.SL.Sem
open Idealize.ShloMosaic.TcCoe Idealize.ShloMosaic.ValueIdx
open Idealize.ShloMosaic.Pipeline (Dat RDat Cfg Window)

variable (m : (ℓ : Loc nD τ sig) → Buf (Elt Ideal) ℓ) (c : Dev nD)

/-- The results as functions of the arguments. -/
def yFn : Vec Ideal S48x256x1920 .bf16 := fun i => MlpSpec.y (argX m c) (argA m c) (argW1 m c) (argW1s m c) (argB1 m c) (argW2 m c) (argW2s m c) (argB2 m c) (i 0) (i 1) (i 2)
def c2Fn : Vec Ideal S48x256x1920 .fp8e4m3 := fun i => Spec.rowCode (MlpSpec.h (argX m c) (argA m c) (i 0) (i 1)) (i 2)
def s2Fn : Vec Ideal S48x256 .f32 := fun i => Spec.rowScale (MlpSpec.h (argX m c) (argA m c) (i 0) (i 1))
def chFn : Vec Ideal S48x256x7680 .fp8e4m3 := fun i => Spec.rowCode (MlpSpec.g (argX m c) (argA m c) (argW1 m c) (argW1s m c) (argB1 m c) (i 0) (i 1)) (i 2)
def shFn : Vec Ideal S48x256 .f32 := fun i => Spec.rowScale (MlpSpec.g (argX m c) (argA m c) (argW1 m c) (argW1s m c) (argB1 m c) (i 0) (i 1))

theorem index8 : ∀ t : Fin cfg0.N, win0_8.index t = ![t.val, 0, 0] := (by decide +kernel : ∀ t : Fin grid0.N, win0_8.index t = ![t.val, 0, 0])
theorem index9 : ∀ t : Fin cfg0.N, win0_9.index t = ![t.val, 0, 0] := (by decide +kernel : ∀ t : Fin grid0.N, win0_9.index t = ![t.val, 0, 0])
theorem index11 : ∀ t : Fin cfg0.N, win0_11.index t = ![t.val, 0, 0] := (by decide +kernel : ∀ t : Fin grid0.N, win0_11.index t = ![t.val, 0, 0])

/-- The batch of a grid point. -/
def batch (t : Fin cfg0.N) : Fin 48 := ⟨t.val, t.isLt.trans_eq N_0⟩

section Values

variable (t : Fin cfg0.N) (s : Fin 256)

theorem yAt_apply (d : Fin 1920) : (yAt m c t (ix3 0 s d) : EReal) = MlpSpec.y (argX m c) (argA m c) (argW1 m c) (argW1s m c) (argB1 m c) (argW2 m c) (argW2s m c) (argB2 m c) (batch t) s d :=
  yBlk_apply t (batch t) rfl _ _ _ _ _ _ _ _ (argX m c) (argA m c) (argW1 m c) (argW1s m c) (argB1 m c) (argW2 m c) (argW2s m c) (argB2 m c) (in0 m c t (batch t) rfl) (in1 m c t (batch t)) (in2 m c t) (in3 m c t) (in4 m c t) (in5 m c t) (in6 m c t) (in7 m c t) s d

theorem c2At_apply (d : Fin 1920) : (c2At m c t (ix3 0 s d) : EReal) = Spec.rowCode (MlpSpec.h (argX m c) (argA m c) (batch t) s) d :=
  c2Blk_apply t (batch t) rfl _ _ (argX m c) (argA m c) (in0 m c t (batch t) rfl) (in1 m c t (batch t)) s d

theorem chAt_apply (j : Fin 7680) : (chAt m c t (ix3 0 s j) : EReal) = Spec.rowCode (MlpSpec.g (argX m c) (argA m c) (argW1 m c) (argW1s m c) (argB1 m c) (batch t) s) j :=
  chBlk_apply t (batch t) rfl _ _ _ _ _ (argX m c) (argA m c) (argW1 m c) (argW1s m c) (argB1 m c) (in0 m c t (batch t) rfl) (in1 m c t (batch t)) (in2 m c t) (in3 m c t) (in4 m c t) s j

theorem s2At_apply : (s2At m c t (ix2 0 s) : EReal) = Spec.rowScale (MlpSpec.h (argX m c) (argA m c) (batch t) s) :=
  (toRow_apply _ s).trans (sCol_apply t (batch t) rfl _ _ (argX m c) (argA m c) (in0 m c t (batch t) rfl) (in1 m c t (batch t)) s)

theorem shAt_apply : (shAt m c t (ix2 0 s) : EReal) = Spec.rowScale (MlpSpec.g (argX m c) (argA m c) (argW1 m c) (argW1s m c) (argB1 m c) (batch t) s) :=
  (toRow_apply _ s).trans (shCol_apply t (batch t) rfl _ _ _ _ _ (argX m c) (argA m c) (argW1 m c) (argW1s m c) (argB1 m c) (in0 m c t (batch t) rfl) (in1 m c t (batch t)) (in2 m c t) (in3 m c t) (in4 m c t) s)

end Values

/-! ## The arrays written block by block -/

theorem final8 : (dats m 0 c).arrAt 8 cfg0.N = yFn m c := by
  refine (dats m 0 c).arrAt_eq_of_covers 8 _ (by decide +kernel) fun t hf y => ?_
  blk_simp
  rw [after0_8]
  have e : (win0_8.blk t).view.emb y = ix3 (batch t) (y 1) (y 2) := by blk_ext [index8 t, batch]
  rw [e]
  have ey : y = ix3 0 (y 1) (y 2) := by blk_ext []
  exact (congrArg (yAt m c t) ey).trans (yAt_apply m c t _ _)

theorem final9 : (dats m 0 c).arrAt 9 cfg0.N = c2Fn m c := by
  refine (dats m 0 c).arrAt_eq_of_covers 9 _ (by decide +kernel) fun t hf y => ?_
  blk_simp
  rw [after0_9]
  have e : (win0_9.blk t).view.emb y = ix3 (batch t) (y 1) (y 2) := by blk_ext [index9 t, batch]
  rw [e]
  have ey : y = ix3 0 (y 1) (y 2) := by blk_ext []
  exact (congrArg (c2At m c t) ey).trans (c2At_apply m c t _ _)

theorem final11 : (dats m 0 c).arrAt 11 cfg0.N = chFn m c := by
  refine (dats m 0 c).arrAt_eq_of_covers 11 _ (by decide +kernel) fun t hf y => ?_
  blk_simp
  rw [after0_11]
  have e : (win0_11.blk t).view.emb y = ix3 (batch t) (y 1) (y 2) := by blk_ext [index11 t, batch]
  rw [e]
  have ey : y = ix3 0 (y 1) (y 2) := by blk_ext []
  exact (congrArg (chAt m c t) ey).trans (chAt_apply m c t _ _)

/-! ## The resident arrays, row by row -/

theorem after10_iff (t : Fin cfg0.N) (Y X : Vec Ideal S48x256 .f32) : (rdat m c).after 10 t Y X ↔ X = rowSet t.val (s2At m c t) Y := by
  unfold rdat
  rw [RDat.override_after_of_eq_some _ (w := 10) rfl]

/-- After a point the rows up to the point's are the specification's. -/
theorem leaves10 (n : ℕ) : ∀ (hn : n < cfg0.N) (X : Vec Ideal S48x256 .f32), (rdat m c).Leaves 10 ⟨n, hn⟩ X → ∀ (b : Fin 48) (s : Fin 256), b.val ≤ n → X (ix2 b s) = s2Fn m c (ix2 b s) := by
  have row (n : ℕ) (hn : n < cfg0.N) (Y : Vec Ideal S48x256 .f32) (b : Fin 48) (s : Fin 256) (hb : b.val = n) : rowSet n (s2At m c ⟨n, hn⟩) Y (ix2 b s) = s2Fn m c (ix2 b s) := by
    unfold rowSet
    rw [if_pos (show (ix2 b s 0).val = n from hb)]
    refine (s2At_apply m c ⟨n, hn⟩ s).trans ?_
    rw [show batch ⟨n, hn⟩ = b from Fin.ext hb.symm]
    rfl
  induction n with
  | zero =>
    rintro hn X ⟨Y, -, hX⟩ b s hb
    rw [(after10_iff m c _ _ _).mp hX]
    exact row 0 hn Y b s (Nat.le_zero.mp hb)
  | succ n ih =>
    rintro hn X ⟨Y, hY, hX⟩ b s hb
    rw [(after10_iff m c _ _ _).mp hX]
    by_cases h : b.val = n + 1
    · exact row (n + 1) hn Y b s h
    · have hN : n + 1 < 48 := hn.trans_eq N_0
      unfold rowSet
      rw [if_neg (show ¬ (ix2 b s 0).val = n + 1 from h)]
      rcases (RDat.finds_of_pos (rd := rdat m c) (w := 10) (t := ⟨n + 1, hn⟩) rfl (Nat.succ_ne_zero n) Y).mp hY with hf | hl
      · have := (flush0_10 _).mp hf
        simp only [Nat.add_sub_cancel] at this
        omega
      · exact ih _ Y hl b s (by omega)

theorem final10 (G : Vec Ideal S48x256 .f32) (hG : (rdat m c).ArrAt 10 cfg0.N G) : G = s2Fn m c := by
  obtain ⟨X, hX, hA⟩ := hG.emb_eq_of_wholeAt (t₀ := ⟨47, by decide⟩) (by decide +kernel)
  funext i
  rw [ValueIdx.eq_ix2 i]
  exact (hA (ix2 (i 0) (i 1))).trans (leaves10 m c 47 _ X hX (i 0) (i 1) (Nat.le_of_lt_succ (i 0).isLt))

theorem after12_iff (t : Fin cfg0.N) (Y X : Vec Ideal S48x256 .f32) : (rdat m c).after 12 t Y X ↔ X = rowSet t.val (shAt m c t) Y := by
  unfold rdat
  rw [RDat.override_after_of_eq_some _ (w := 12) rfl]

/-- After a point the rows up to the point's are the specification's. -/
theorem leaves12 (n : ℕ) : ∀ (hn : n < cfg0.N) (X : Vec Ideal S48x256 .f32), (rdat m c).Leaves 12 ⟨n, hn⟩ X → ∀ (b : Fin 48) (s : Fin 256), b.val ≤ n → X (ix2 b s) = shFn m c (ix2 b s) := by
  have row (n : ℕ) (hn : n < cfg0.N) (Y : Vec Ideal S48x256 .f32) (b : Fin 48) (s : Fin 256) (hb : b.val = n) : rowSet n (shAt m c ⟨n, hn⟩) Y (ix2 b s) = shFn m c (ix2 b s) := by
    unfold rowSet
    rw [if_pos (show (ix2 b s 0).val = n from hb)]
    refine (shAt_apply m c ⟨n, hn⟩ s).trans ?_
    rw [show batch ⟨n, hn⟩ = b from Fin.ext hb.symm]
    rfl
  induction n with
  | zero =>
    rintro hn X ⟨Y, -, hX⟩ b s hb
    rw [(after12_iff m c _ _ _).mp hX]
    exact row 0 hn Y b s (Nat.le_zero.mp hb)
  | succ n ih =>
    rintro hn X ⟨Y, hY, hX⟩ b s hb
    rw [(after12_iff m c _ _ _).mp hX]
    by_cases h : b.val = n + 1
    · exact row (n + 1) hn Y b s h
    · have hN : n + 1 < 48 := hn.trans_eq N_0
      unfold rowSet
      rw [if_neg (show ¬ (ix2 b s 0).val = n + 1 from h)]
      rcases (RDat.finds_of_pos (rd := rdat m c) (w := 12) (t := ⟨n + 1, hn⟩) rfl (Nat.succ_ne_zero n) Y).mp hY with hf | hl
      · have := (flush0_12 _).mp hf
        simp only [Nat.add_sub_cancel] at this
        omega
      · exact ih _ Y hl b s (by omega)

theorem final12 (G : Vec Ideal S48x256 .f32) (hG : (rdat m c).ArrAt 12 cfg0.N G) : G = shFn m c := by
  obtain ⟨X, hX, hA⟩ := hG.emb_eq_of_wholeAt (t₀ := ⟨47, by decide⟩) (by decide +kernel)
  funext i
  rw [ValueIdx.eq_ix2 i]
  exact (hA (ix2 (i 0) (i 1))).trans (leaves12 m c 47 _ X hX (i 0) (i 1) (Nat.le_of_lt_succ (i 0).isLt))

/-! ## The run -/

variable (ρ : Dev nD → PrngReg)

/-- After the run the result arrays hold the specification's values and the arguments are as they were. -/
theorem run : θ_run defs (onTc (τ := τ) (main (F := Ideal))) ⟨m, fun _ => 0, ρ⟩ (fun r => ∀ c : Dev nD,
      r.2.mem ((c.tc : Thread nD τ).loc main_v5_0) = yFn m c
      ∧ r.2.mem ((c.tc : Thread nD τ).loc main_v5_1) = c2Fn m c
      ∧ r.2.mem ((c.tc : Thread nD τ).loc main_v5_2) = s2Fn m c
      ∧ r.2.mem ((c.tc : Thread nD τ).loc main_v5_3) = chFn m c
      ∧ r.2.mem ((c.tc : Thread nD τ).loc main_v5_4) = shFn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((Dat.toR_arrAt_iff _ 8 _ _).mp (((dats m 0 c).toR.override_arrAt rfl _ _).mp ((h.1 c).1 8))).trans (final8 m c),
      ((Dat.toR_arrAt_iff _ 9 _ _).mp (((dats m 0 c).toR.override_arrAt rfl _ _).mp ((h.1 c).1 9))).trans (final9 m c),
      final10 m c _ ((h.1 c).1 10),
      ((Dat.toR_arrAt_iff _ 11 _ _).mp (((dats m 0 c).toR.override_arrAt rfl _ _).mp ((h.1 c).1 11))).trans (final11 m c),
      final12 m c _ ((h.1 c).1 12),
      kept m r h.1 c⟩) (run_main m ρ)

end Cert.Mlp
-- ==== Proof.MlpRef.Inputs.lean ====
/- The inputs of the reference of the MLP half, in terms of its arguments: every input is whole. -/
module

public import proofs.«01_k».proof.Proof.Gen.MlpReferenceIdeal.Frame
public import Idealize.ShloMosaic.Lib.Pipeline.ValueKit

@[expose] public section

set_option maxRecDepth 16384

noncomputable section

namespace Cert.MlpRef

open Cert.MlpReferenceIdeal Cert.MlpReferenceIdeal.Gen
open Idealize.ShloMosaic hiding ix1 ix2 ix3
open Idealize.ShloMosaic.TcCoe Idealize.ShloMosaic.ValueIdx

variable (m : (ℓ : Loc nD τ sig) → Buf (Elt Ideal) ℓ) (c : Dev nD)

abbrev argX : Vec Ideal S48x256x1920 .f32 := m ((c : Thread nD τ).loc main_arg0)
abbrev argA : Vec Ideal S48x6x1920 .f32 := m ((c : Thread nD τ).loc main_arg1)
abbrev argW1 : Vec Ideal S1920x7680 .fp8e4m3 := m ((c : Thread nD τ).loc main_arg2)
abbrev argW1s : Vec Ideal S7680 .f32 := m ((c : Thread nD τ).loc main_arg3)
abbrev argB1 : Vec Ideal S7680 .f32 := m ((c : Thread nD τ).loc main_arg4)
abbrev argW2 : Vec Ideal S7680x1920 .fp8e4m3 := m ((c : Thread nD τ).loc main_arg5)
abbrev argW2s : Vec Ideal S1920 .f32 := m ((c : Thread nD τ).loc main_arg6)
abbrev argB2 : Vec Ideal S1920 .f32 := m ((c : Thread nD τ).loc main_arg7)

theorem index0 : ∀ t : Fin cfg0.N, win0_0.index t = ![0, 0, 0] := (by decide +kernel : ∀ t : Fin grid0.N, win0_0.index t = ![0, 0, 0])
theorem index1 : ∀ t : Fin cfg0.N, win0_1.index t = ![0, 0, 0] := (by decide +kernel : ∀ t : Fin grid0.N, win0_1.index t = ![0, 0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])

variable (t : Fin cfg0.N)

theorem in0 : iblk m c 0 t = argX m c := by
  blk_ext! [iblk, V, index0 t]

theorem in1 : iblk m c 1 t = argA m c := by
  blk_ext! [iblk, V, index1 t]

theorem in2 : iblk m c 2 t = argW1 m c := by
  blk_ext! [iblk, V, index2 t]

theorem in3 (j : Fin 7680) : (iblk m c 3 t (ix2 0 j) : EReal) = argW1s m c (ix1 j) := by
  blk_ext! [iblk, V, index3 t]

theorem in4 (j : Fin 7680) : (iblk m c 4 t (ix2 0 j) : EReal) = argB1 m c (ix1 j) := by
  blk_ext! [iblk, V, index4 t]

theorem in5 : iblk m c 5 t = argW2 m c := by
  blk_ext! [iblk, V, index5 t]

theorem in6 (j : Fin 1920) : (iblk m c 6 t (ix2 0 j) : EReal) = argW2s m c (ix1 j) := by
  blk_ext! [iblk, V, index6 t]

theorem in7 (j : Fin 1920) : (iblk m c 7 t (ix2 0 j) : EReal) = argB2 m c (ix1 j) := by
  blk_ext! [iblk, V, index7 t]

end Cert.MlpRef
-- ==== Proof.MlpRef.Values.lean ====
/- The reference of the MLP half over the extended reals: each stage at an index, and the result arrays after the run as the
   specification's values of the arguments. -/
module

public import proofs.«01_k».proof.Proof.Common.Layout
public import proofs.«01_k».proof.Proof.Mlp.Spec
public import proofs.«01_k».proof.Proof.MlpRef.Inputs
public import proofs.«01_k».proof.Proof.Gen.MlpReferenceIdeal.Value

@[expose] public section

set_option maxRecDepth 16384

noncomputable section

namespace Cert.MlpRef

open Cert.MlpReferenceIdeal Cert.MlpReferenceIdeal.Gen
open Idealize.ShloMosaic hiding ix1 ix2 ix3
open Idealize.SL.Sem
open Idealize.ShloMosaic.TcCoe Idealize.ShloMosaic.ValueIdx
open scoped BigOperators

/-! ### The stages at an index -/

section Stages

variable (v0 : Vec Ideal S48x256x1920 .f32) (v2 v3 : Vec Ideal S48x1x1920 .f32) (b : Fin 48) (s : Fin 256)

/-- The modulated LayerNorm of a token, from the loads. -/
abbrev lnRow : Fin 1920 → EReal :=
  Spec.ln (fun d => v0 (ix3 b s d)) (fun d => Spec.one + (v2 (ix3 b 0 d) : EReal)) (fun d => v3 (ix3 b 0 d))

theorem ln_apply (d : Fin 1920) : (k0_pay1 v0 v2 v3 (ix3 b s d) : EReal) = lnRow v0 v2 v3 b s d := by
  have hs : ∀ (y : FVec Ideal S48x256x1920 .f32) (i : Fin 48) (j : Fin 256), multiReduction .add [2] S48x256 y 0x00000000#32 reduces_S48x256x1920_S48x256 (.inl rfl) rfl (ix2 i j) = (∑ k : Fin 1920, (y (ix3 i j k) : EReal)) :=
    fun y i j => Layout.sum_rows3 y _ _ _ _ i j
  have hr : ∀ (y : FVec Ideal S48x256x1 .f32) (i : S48x256x1.Idx), sqrt y i = Ideal.sqrt (y i) := fun _ _ => rfl
  unfold k0_pay1
  simp only [addf_apply, mulf_apply, subf_apply, divf_apply, Layout.bcast3_col, Layout.bcast3_mid, Layout.cast_unit, hs, hr, broadcast_apply]
  rfl

/-- The scale of the rows of a three-dimensional array. -/
theorem scale_rows {n : ℕ} (z : FVec Ideal ⟨3, ![48, 256, n]⟩ .f32) (h : (⟨3, ![48, 256, n]⟩ : Shape).Reduces [2] S48x256) (f : Fin n → EReal) (e : ∀ k, (z (ix3 b s k) : EReal) = f k) :
    ((select (cmpf .oeq (shapeCast S48x256x1 (multiReduction .maximumf [2] S48x256 (absf z) 0xFF800000#32 h (.inl rfl) rfl) shapeCasts_S48x256_S48x256x1) (broadcast S48x256x1 (Scalar.ofBits .f32 0x00000000#32)))
      (broadcast S48x256x1 (Scalar.ofBits .f32 0x3F800000#32 : Ideal .f32))
      (divf (shapeCast S48x256x1 (multiReduction .maximumf [2] S48x256 (absf z) 0xFF800000#32 h (.inl rfl) rfl) shapeCasts_S48x256_S48x256x1) (broadcast S48x256x1 (Scalar.ofBits .f32 0x43E00000#32))) : FVec Ideal S48x256x1 .f32) (ix3 b s 0) : EReal)
      = Spec.rowScale f := by
  simp only [select_apply, cmpf_apply, divf_apply, Layout.cast_unit, broadcast_apply]
  have a : (multiReduction .maximumf [2] S48x256 (absf z) 0xFF800000#32 h (.inl rfl) rfl (ix2 b s) : EReal) = Spec.amax f := by
    refine (Layout.max_rows3 (absf z) _ _ _ _ b s).trans ?_
    refine congrArg (fun f => Finset.univ.fold max Spec.least f) (funext fun k => ?_)
    show max (z (ix3 b s k) : EReal) (-(z (ix3 b s k) : EReal)) = _
    rw [e]
  exact congrArg Spec.scaleOf a

theorem scale1_apply : (k0_pay2 v0 v2 v3 (ix3 b s 0) : EReal) = Spec.rowScale (lnRow v0 v2 v3 b s) := by
  unfold k0_pay2
  exact scale_rows b s (k0_pay1 v0 v2 v3) _ _ (ln_apply v0 v2 v3 b s)

theorem codes1_apply (d : Fin 1920) : (k0_pay4 (k0_pay3 v0 v2 v3) (Scalar.ofBits .f32 0xC3E00000#32) (ix3 b s d) : EReal) = Spec.rowCode (lnRow v0 v2 v3 b s) d := by
  have e := ln_apply v0 v2 v3 b s d
  have f := scale1_apply v0 v2 v3 b s
  unfold k0_pay4 k0_pay3
  simp only [truncf_apply, minimumf_apply, maximumf_apply, divf_apply, Layout.bcast3_col, broadcast_apply, e, f]
  rfl

variable (w1 : Vec Ideal S1920x7680 .fp8e4m3) (w1s b1 : Vec Ideal S1x7680 .f32)

/-- The GELU values of a token, from the loads. -/
abbrev gRow (j : Fin 7680) : EReal :=
  Spec.gelu (Spec.lin (Spec.rowCode (lnRow v0 v2 v3 b s)) (Spec.rowScale (lnRow v0 v2 v3 b s)) (fun k => w1 (ix2 k j)) (w1s (ix2 0 j)) (b1 (ix2 0 j)))

theorem product1 (z : FVec Ideal S48x256x1920 .fp8e4m3) (j : Fin 7680) :
    (shapeCast S48x256x7680 (matmul (F := Ideal) (φ₁ := .fp8e4m3) (φ₂ := .fp8e4m3) dot_S12288x1920_S1920x7680_S12288x7680_1_0_0_1_n_n none (shapeCast S12288x1920 z shapeCasts_S48x256x1920_S12288x1920) w1 (constant S12288x7680 .f32 0x00000000#32))
        shapeCasts_S12288x7680_S48x256x7680 (ix3 b s j) : EReal) = ∑ k : Fin 1920, (z (ix3 b s k) * w1 (ix2 k j) : EReal) := by
  refine (Layout.cast_split _ shapeCasts_S12288x7680_S48x256x7680 b s j (⟨b.val * 256 + s.val, by omega⟩ : Fin 12288) rfl).trans ?_
  refine (Layout.product (φ₁ := .fp8e4m3) (φ₂ := .fp8e4m3) (M := 12288) (K := 1920) (N := 7680) none _ w1 _ j).trans (Finset.sum_congr rfl fun k _ => ?_)
  exact congrArg (fun x : EReal => x * (w1 (ix2 k j) : EReal)) (Layout.cast_merge z _ b s k _ rfl)

theorem g_apply (j : Fin 7680) :
    (k0_pay5 (k0_pay2 v0 v2 v3) (k0_pay3 v0 v2 v3) (Scalar.ofBits .f32 0xC3E00000#32) w1 w1s b1 (ix3 b s j) : EReal) = gRow v0 v2 v3 b s w1 w1s b1 j := by
  have e : ∀ z : FVec Ideal S48x256x1920 .fp8e4m3, _ = _ := fun z => product1 b s w1 z j
  have f := scale1_apply v0 v2 v3 b s
  have c := codes1_apply v0 v2 v3 b s
  unfold k0_pay5
  generalize k0_pay4 (k0_pay3 v0 v2 v3) (Scalar.ofBits .f32 0xC3E00000#32) = z at c
  have t : ∀ i : S48x256x7680.Idx, ∀ y : FVec Ideal S48x256x7680 .f32, tanh y i = Ideal.tanh (y i) := fun _ _ => rfl
  simp only [addf_apply, mulf_apply, t, Layout.bcast3_col, Layout.bcast3_row, Layout.cast_add, Layout.cast_self, broadcast_apply, e, f, c]
  rfl

theorem scale2_apply : (k0_pay6 (k0_pay2 v0 v2 v3) (k0_pay3 v0 v2 v3) (Scalar.ofBits .f32 0xC3E00000#32) w1 w1s b1 (ix3 b s 0) : EReal) = Spec.rowScale (gRow v0 v2 v3 b s w1 w1s b1) := by
  unfold k0_pay6
  exact scale_rows b s (k0_pay5 (k0_pay2 v0 v2 v3) (k0_pay3 v0 v2 v3) (Scalar.ofBits .f32 0xC3E00000#32) w1 w1s b1) _ _ (g_apply v0 v2 v3 b s w1 w1s b1)

theorem codes2_apply (j : Fin 7680) :
    (k0_pay8 (k0_pay5 (k0_pay2 v0 v2 v3) (k0_pay3 v0 v2 v3) (Scalar.ofBits .f32 0xC3E00000#32) w1 w1s b1)
        (k0_pay7 (k0_pay2 v0 v2 v3) (k0_pay3 v0 v2 v3) (Scalar.ofBits .f32 0xC3E00000#32) w1 w1s b1) (ix3 b s j) : EReal)
      = Spec.rowCode (gRow v0 v2 v3 b s w1 w1s b1) j := by
  have e := g_apply v0 v2 v3 b s w1 w1s b1 j
  have f := scale2_apply v0 v2 v3 b s w1 w1s b1
  unfold k0_pay8 k0_pay7
  simp only [truncf_apply, minimumf_apply, maximumf_apply, divf_apply, Layout.bcast3_col, broadcast_apply, e, f]
  rfl

variable (v1 : Vec Ideal S48x1x1920 .f32) (w2 : Vec Ideal S7680x1920 .fp8e4m3) (w2s b2 : Vec Ideal S1x1920 .f32)

theorem product2 (z : FVec Ideal S48x256x7680 .fp8e4m3) (d : Fin 1920) :
    (shapeCast S48x256x1920 (matmul (F := Ideal) (φ₁ := .fp8e4m3) (φ₂ := .fp8e4m3) dot_S12288x7680_S7680x1920_S12288x1920_1_0_0_1_n_n none (shapeCast S12288x7680 z shapeCasts_S48x256x7680_S12288x7680) w2 (constant S12288x1920 .f32 0x00000000#32))
        shapeCasts_S12288x1920_S48x256x1920 (ix3 b s d) : EReal) = ∑ k : Fin 7680, (z (ix3 b s k) * w2 (ix2 k d) : EReal) := by
  refine (Layout.cast_split _ shapeCasts_S12288x1920_S48x256x1920 b s d (⟨b.val * 256 + s.val, by omega⟩ : Fin 12288) rfl).trans ?_
  refine (Layout.product (φ₁ := .fp8e4m3) (φ₂ := .fp8e4m3) (M := 12288) (K := 7680) (N := 1920) none _ w2 _ d).trans (Finset.sum_congr rfl fun k _ => ?_)
  exact congrArg (fun x : EReal => x * (w2 (ix2 k d) : EReal)) (Layout.cast_merge z _ b s k _ rfl)

theorem y_apply (d : Fin 1920) :
    (k0_pay9 v0 v1 (k0_pay5 (k0_pay2 v0 v2 v3) (k0_pay3 v0 v2 v3) (Scalar.ofBits .f32 0xC3E00000#32) w1 w1s b1)
        (k0_pay6 (k0_pay2 v0 v2 v3) (k0_pay3 v0 v2 v3) (Scalar.ofBits .f32 0xC3E00000#32) w1 w1s b1)
        (k0_pay7 (k0_pay2 v0 v2 v3) (k0_pay3 v0 v2 v3) (Scalar.ofBits .f32 0xC3E00000#32) w1 w1s b1) w2 w2s b2 (ix3 b s d) : EReal)
      = (v0 (ix3 b s d) : EReal) + (v1 (ix3 b 0 d) : EReal) * Spec.lin (Spec.rowCode (gRow v0 v2 v3 b s w1 w1s b1)) (Spec.rowScale (gRow v0 v2 v3 b s w1 w1s b1)) (fun k => w2 (ix2 k d)) (w2s (ix2 0 d)) (b2 (ix2 0 d)) := by
  have e : ∀ z : FVec Ideal S48x256x7680 .fp8e4m3, _ = _ := fun z => product2 b s w2 z d
  have f := scale2_apply v0 v2 v3 b s w1 w1s b1
  have c := codes2_apply v0 v2 v3 b s w1 w1s b1
  unfold k0_pay9
  generalize k0_pay8 (k0_pay5 (k0_pay2 v0 v2 v3) (k0_pay3 v0 v2 v3) (Scalar.ofBits .f32 0xC3E00000#32) w1 w1s b1)
        (k0_pay7 (k0_pay2 v0 v2 v3) (k0_pay3 v0 v2 v3) (Scalar.ofBits .f32 0xC3E00000#32) w1 w1s b1) = z at c
  simp only [truncf_apply, addf_apply, mulf_apply, Layout.bcast3_col, Layout.bcast3_mid, Layout.bcast3_row, Layout.cast_add, Layout.cast_self, broadcast_apply, e, f, c]
  rfl

end Stages

/-! ### The loads -/

theorem load_whole3 {a b n : ℕ} {e : EltTy} (x : Vec Ideal ⟨3, ![a, b, n]⟩ e) (inb) : View.ld x (Rect.unit (s := ⟨3, ![a, b, n]⟩) ![0, 0, 0] (⟨3, ![a, b, n]⟩ : Shape).size inb) = x :=
  View.ld_unit_zero (by funext a; fin_cases a <;> rfl) _ _

theorem load_whole2 {a b : ℕ} {e : EltTy} (x : Vec Ideal ⟨2, ![a, b]⟩ e) (inb) : View.ld x (Rect.unit (s := ⟨2, ![a, b]⟩) ![0, 0] (⟨2, ![a, b]⟩ : Shape).size inb) = x :=
  View.ld_unit_zero (by funext a; fin_cases a <;> rfl) _ _

theorem load_row (x : Vec Ideal S48x6x1920 .f32) (k : Fin 6) (off : Fin 3 → ℕ) (ho : off = ![0, k.val, 0]) (inb) (b : Fin 48) (d : Fin 1920) :
    (View.ld x (Rect.unit (s := S48x6x1920) off S48x1x1920.size inb) (ix3 b 0 d) : EReal) = x (ix3 b k d) := by
  subst ho
  refine congrArg x ?_
  funext a; apply Fin.ext; revert a
  refine Layout.forall_three ?_ ?_ ?_
  · show 0 + 1 * b.val = b.val; omega
  · show k.val + 1 * 0 = k.val; omega
  · show 0 + 1 * d.val = d.val; omega

/-! ### The stored values, from the inputs -/

section Outs

variable (X : Vec Ideal S48x256x1920 .f32) (A : Vec Ideal S48x6x1920 .f32) (W1 : Vec Ideal S1920x7680 .fp8e4m3) (x3 x4 : Vec Ideal S1x7680 .f32)
  (W2 : Vec Ideal S7680x1920 .fp8e4m3) (x6 x7 : Vec Ideal S1x1920 .f32) (w1s b1 : Vec Ideal S7680 .f32) (w2s b2 : Vec Ideal S1920 .f32)
  (b : Fin 48) (s : Fin 256)
  (h3 : ∀ j, (x3 (ix2 0 j) : EReal) = w1s (ix1 j)) (h4 : ∀ j, (x4 (ix2 0 j) : EReal) = b1 (ix1 j))
  (h6 : ∀ j, (x6 (ix2 0 j) : EReal) = w2s (ix1 j)) (h7 : ∀ j, (x7 (ix2 0 j) : EReal) = b2 (ix1 j))

theorem lnRow_loads : lnRow X (View.ld A r0_2) (View.ld A r0_3) b s = MlpSpec.h X A b s := by
  unfold lnRow MlpSpec.h
  rw [show (fun d => Spec.one + (View.ld A r0_2 (ix3 b 0 d) : EReal)) = _ from funext fun d => congrArg (fun v : EReal => Spec.one + v) (load_row A 3 _ rfl _ b d),
    show (fun d => (View.ld A r0_3 (ix3 b 0 d) : EReal)) = _ from funext fun d => load_row A 5 _ rfl _ b d]

include h3 h4 in
theorem gRow_loads : gRow X (View.ld A r0_2) (View.ld A r0_3) b s W1 x3 x4 = MlpSpec.g X A W1 w1s b1 b s := by
  funext j
  unfold gRow MlpSpec.g
  rw [lnRow_loads, h3, h4]

theorem out9_apply (d : Fin 1920) : (out0_9 X A W1 x3 x4 W2 x6 x7 (ix3 b s d) : EReal) = Spec.rowCode (MlpSpec.h X A b s) d := by
  unfold out0_9 k0_pay13
  rw [View.canon_unit_zero (by funext a; fin_cases a <;> rfl), load_whole3, ← lnRow_loads]
  exact codes1_apply _ _ _ b s d

theorem out10_apply : (out0_10 X A W1 x3 x4 W2 x6 x7 (ix2 b s) : EReal) = Spec.rowScale (MlpSpec.h X A b s) := by
  unfold out0_10 k0_pay12 k0_pay10
  rw [View.canon_unit_zero (by funext a; fin_cases a <;> rfl), load_whole3, ← lnRow_loads]
  exact (Layout.cast_ununit _ shapeCasts_S48x256x1_S48x256 b s).trans (scale1_apply _ _ _ b s)

include h3 h4 in
theorem out11_apply (j : Fin 7680) : (out0_11 X A W1 x3 x4 W2 x6 x7 (ix3 b s j) : EReal) = Spec.rowCode (MlpSpec.g X A W1 w1s b1 b s) j := by
  unfold out0_11 k0_pay16 k0_pay14 k0_pay13 k0_pay12
  rw [View.canon_unit_zero (by funext a; fin_cases a <;> rfl), load_whole3, load_whole2, load_whole2, load_whole2, ← gRow_loads X A W1 x3 x4 w1s b1 b s h3 h4]
  exact codes2_apply _ _ _ b s _ _ _ j

include h3 h4 in
theorem out12_apply : (out0_12 X A W1 x3 x4 W2 x6 x7 (ix2 b s) : EReal) = Spec.rowScale (MlpSpec.g X A W1 w1s b1 b s) := by
  unfold out0_12 k0_pay15 k0_pay13 k0_pay12 k0_pay11
  rw [View.canon_unit_zero (by funext a; fin_cases a <;> rfl), load_whole3, load_whole2, load_whole2, load_whole2, ← gRow_loads X A W1 x3 x4 w1s b1 b s h3 h4]
  exact (Layout.cast_ununit _ shapeCasts_S48x256x1_S48x256 b s).trans (scale2_apply _ _ _ b s _ _ _)

include h3 h4 h6 h7 in
theorem out8_apply (d : Fin 1920) : (out0_8 X A W1 x3 x4 W2 x6 x7 (ix3 b s d) : EReal) = MlpSpec.y X A W1 w1s b1 W2 w2s b2 b s d := by
  unfold out0_8 k0_pay16 k0_pay15 k0_pay14 k0_pay13 k0_pay12 MlpSpec.y
  rw [View.canon_unit_zero (by funext a; fin_cases a <;> rfl), load_whole3, load_whole2, load_whole2, load_whole2, load_whole2, load_whole2, load_whole2, ← gRow_loads X A W1 x3 x4 w1s b1 b s h3 h4,
    ← h6, ← h7, ← load_row A 1 _ rfl inb_S48x6x1920_S48x1x1920_0_1_0 b d]
  exact y_apply _ _ _ b s _ _ _ _ _ _ _ d

end Outs

/-! ### The arrays after the run -/

variable (m : (ℓ : Loc nD τ sig) → Buf (Elt Ideal) ℓ) (c : Dev nD)

/-- The results as functions of the arguments. -/
def yFn : Vec Ideal S48x256x1920 .bf16 := fun i => MlpSpec.y (argX m c) (argA m c) (argW1 m c) (argW1s m c) (argB1 m c) (argW2 m c) (argW2s m c) (argB2 m c) (i 0) (i 1) (i 2)
def c2Fn : Vec Ideal S48x256x1920 .fp8e4m3 := fun i => Spec.rowCode (MlpSpec.h (argX m c) (argA m c) (i 0) (i 1)) (i 2)
def s2Fn : Vec Ideal S48x256 .f32 := fun i => Spec.rowScale (MlpSpec.h (argX m c) (argA m c) (i 0) (i 1))
def chFn : Vec Ideal S48x256x7680 .fp8e4m3 := fun i => Spec.rowCode (MlpSpec.g (argX m c) (argA m c) (argW1 m c) (argW1s m c) (argB1 m c) (i 0) (i 1)) (i 2)
def shFn : Vec Ideal S48x256 .f32 := fun i => Spec.rowScale (MlpSpec.g (argX m c) (argA m c) (argW1 m c) (argW1s m c) (argB1 m c) (i 0) (i 1))

theorem index8 : ∀ t : Fin cfg0.N, win0_8.index t = ![0, 0, 0] := (by decide +kernel : ∀ t : Fin grid0.N, win0_8.index t = ![0, 0, 0])
theorem index9 : ∀ t : Fin cfg0.N, win0_9.index t = ![0, 0, 0] := (by decide +kernel : ∀ t : Fin grid0.N, win0_9.index t = ![0, 0, 0])
theorem index10 : ∀ t : Fin cfg0.N, win0_10.index t = ![0, 0] := (by decide +kernel : ∀ t : Fin grid0.N, win0_10.index t = ![0, 0])
theorem index11 : ∀ t : Fin cfg0.N, win0_11.index t = ![0, 0, 0] := (by decide +kernel : ∀ t : Fin grid0.N, win0_11.index t = ![0, 0, 0])
theorem index12 : ∀ t : Fin cfg0.N, win0_12.index t = ![0, 0] := (by decide +kernel : ∀ t : Fin grid0.N, win0_12.index t = ![0, 0])

theorem final8 : (dats m 0 c).arrAt 8 cfg0.N = yFn m c := by
  refine (dats m 0 c).arrAt_eq_of_covers 8 _ (by decide +kernel) fun t hf y => ?_
  blk_simp
  rw [after0_8]
  have e : (win0_8.blk t).view.emb y = ix3 (y 0) (y 1) (y 2) := by blk_ext [index8 t]
  rw [e, in0, in1, in2, in5]
  have ey : y = ix3 (y 0) (y 1) (y 2) := by blk_ext []
  exact (congrArg (out0_8 (argX m c) (argA m c) (argW1 m c) (iblk m c 3 t) (iblk m c 4 t) (argW2 m c) (iblk m c 6 t) (iblk m c 7 t)) ey).trans
    (out8_apply (argX m c) (argA m c) (argW1 m c) (iblk m c 3 t) (iblk m c 4 t) (argW2 m c) (iblk m c 6 t) (iblk m c 7 t) (argW1s m c) (argB1 m c) (argW2s m c) (argB2 m c) (y 0) (y 1) (in3 m c t) (in4 m c t) (in6 m c t) (in7 m c t) (y 2))

theorem final9 : (dats m 0 c).arrAt 9 cfg0.N = c2Fn m c := by
  refine (dats m 0 c).arrAt_eq_of_covers 9 _ (by decide +kernel) fun t hf y => ?_
  blk_simp
  rw [after0_9]
  have e : (win0_9.blk t).view.emb y = ix3 (y 0) (y 1) (y 2) := by blk_ext [index9 t]
  rw [e, in0, in1, in2, in5]
  have ey : y = ix3 (y 0) (y 1) (y 2) := by blk_ext []
  exact (congrArg (out0_9 (argX m c) (argA m c) (argW1 m c) (iblk m c 3 t) (iblk m c 4 t) (argW2 m c) (iblk m c 6 t) (iblk m c 7 t)) ey).trans
    (out9_apply (argX m c) (argA m c) (argW1 m c) (iblk m c 3 t) (iblk m c 4 t) (argW2 m c) (iblk m c 6 t) (iblk m c 7 t) (y 0) (y 1) (y 2))

theorem final10 : (dats m 0 c).arrAt 10 cfg0.N = s2Fn m c := by
  refine (dats m 0 c).arrAt_eq_of_covers 10 _ (by decide +kernel) fun t hf y => ?_
  blk_simp
  rw [after0_10]
  have e : (win0_10.blk t).view.emb y = ix2 (y 0) (y 1) := by blk_ext [index10 t]
  rw [e, in0, in1, in2, in5]
  have ey : y = ix2 (y 0) (y 1) := by blk_ext []
  exact (congrArg (out0_10 (argX m c) (argA m c) (argW1 m c) (iblk m c 3 t) (iblk m c 4 t) (argW2 m c) (iblk m c 6 t) (iblk m c 7 t)) ey).trans
    (out10_apply (argX m c) (argA m c) (argW1 m c) (iblk m c 3 t) (iblk m c 4 t) (argW2 m c) (iblk m c 6 t) (iblk m c 7 t) (y 0) (y 1))

theorem final11 : (dats m 0 c).arrAt 11 cfg0.N = chFn m c := by
  refine (dats m 0 c).arrAt_eq_of_covers 11 _ (by decide +kernel) fun t hf y => ?_
  blk_simp
  rw [after0_11]
  have e : (win0_11.blk t).view.emb y = ix3 (y 0) (y 1) (y 2) := by blk_ext [index11 t]
  rw [e, in0, in1, in2, in5]
  have ey : y = ix3 (y 0) (y 1) (y 2) := by blk_ext []
  exact (congrArg (out0_11 (argX m c) (argA m c) (argW1 m c) (iblk m c 3 t) (iblk m c 4 t) (argW2 m c) (iblk m c 6 t) (iblk m c 7 t)) ey).trans
    (out11_apply (argX m c) (argA m c) (argW1 m c) (iblk m c 3 t) (iblk m c 4 t) (argW2 m c) (iblk m c 6 t) (iblk m c 7 t) (argW1s m c) (argB1 m c) (y 0) (y 1) (in3 m c t) (in4 m c t) (y 2))

theorem final12 : (dats m 0 c).arrAt 12 cfg0.N = shFn m c := by
  refine (dats m 0 c).arrAt_eq_of_covers 12 _ (by decide +kernel) fun t hf y => ?_
  blk_simp
  rw [after0_12]
  have e : (win0_12.blk t).view.emb y = ix2 (y 0) (y 1) := by blk_ext [index12 t]
  rw [e, in0, in1, in2, in5]
  have ey : y = ix2 (y 0) (y 1) := by blk_ext []
  exact (congrArg (out0_12 (argX m c) (argA m c) (argW1 m c) (iblk m c 3 t) (iblk m c 4 t) (argW2 m c) (iblk m c 6 t) (iblk m c 7 t)) ey).trans
    (out12_apply (argX m c) (argA m c) (argW1 m c) (iblk m c 3 t) (iblk m c 4 t) (argW2 m c) (iblk m c 6 t) (iblk m c 7 t) (argW1s m c) (argB1 m c) (y 0) (y 1) (in3 m c t) (in4 m c t))

variable (ρ : Dev nD → PrngReg)

/-- After the run the result arrays hold the specification's values and the arguments are as they were. -/
theorem run : θ_run defs (onTc (τ := τ) (main (F := Ideal))) ⟨m, fun _ => 0, ρ⟩ (fun r => ∀ c : Dev nD,
      r.2.mem ((c.tc : Thread nD τ).loc main_v4_0) = yFn m c
      ∧ r.2.mem ((c.tc : Thread nD τ).loc main_v4_1) = c2Fn m c
      ∧ r.2.mem ((c.tc : Thread nD τ).loc main_v4_2) = s2Fn m c
      ∧ r.2.mem ((c.tc : Thread nD τ).loc main_v4_3) = chFn m c
      ∧ r.2.mem ((c.tc : Thread nD τ).loc main_v4_4) = shFn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    have ⟨h0, h1, h2, h3, h4, h5⟩ := h c
    ⟨h0.trans (final8 m c), h1.trans (final9 m c), h2.trans (final10 m c), h3.trans (final11 m c), h4.trans (final12 m c), h5⟩)
    (Value.run_blocks m ρ)

end Cert.MlpRef
-- ==== Proof.Mlp.Agree.lean ====
/- The kernel of the MLP half and its reference agree over the extended reals: both end at the specification's values of the
   same arguments. -/
module

public import proofs.«01_k».proof.Defs
public import proofs.«01_k».proof.Proof.Mlp.Arrays
public import proofs.«01_k».proof.Proof.MlpRef.Values

@[expose] public section

noncomputable section

namespace Cert.Mlp

open Idealize.ShloMosaic Idealize.SL.Sem

theorem agree : Cert.algebraic_MlpKernelIdeal_MlpReferenceIdeal (hMlpKernelIdeal := Cert.MlpKernelIdeal.Gen.facts) (hMlpReferenceIdeal := Cert.MlpReferenceIdeal.Gen.facts) := by
  intro m g m' g' _ h
  have args (c : Dev Cert.MlpKernelIdeal.nD) : MlpRef.argX m' c = argX m c ∧ MlpRef.argA m' c = argA m c ∧ MlpRef.argW1 m' c = argW1 m c ∧ MlpRef.argW1s m' c = argW1s m c
      ∧ MlpRef.argB1 m' c = argB1 m c ∧ MlpRef.argW2 m' c = argW2 m c ∧ MlpRef.argW2s m' c = argW2s m c ∧ MlpRef.argB2 m' c = argB2 m c := h c
  have e0 (c : Dev Cert.MlpKernelIdeal.nD) : MlpRef.yFn m' c = yFn m c := by
    obtain ⟨a0, a1, a2, a3, a4, a5, a6, a7⟩ := args c
    unfold MlpRef.yFn yFn; rw [a0, a1, a2, a3, a4, a5, a6, a7]
  have e1 (c : Dev Cert.MlpKernelIdeal.nD) : MlpRef.c2Fn m' c = c2Fn m c := by
    obtain ⟨a0, a1, -⟩ := args c
    unfold MlpRef.c2Fn c2Fn; rw [a0, a1]
  have e2 (c : Dev Cert.MlpKernelIdeal.nD) : MlpRef.s2Fn m' c = s2Fn m c := by
    obtain ⟨a0, a1, -⟩ := args c
    unfold MlpRef.s2Fn s2Fn; rw [a0, a1]
  have e3 (c : Dev Cert.MlpKernelIdeal.nD) : MlpRef.chFn m' c = chFn m c := by
    obtain ⟨a0, a1, a2, a3, a4, -⟩ := args c
    unfold MlpRef.chFn chFn; rw [a0, a1, a2, a3, a4]
  have e4 (c : Dev Cert.MlpKernelIdeal.nD) : MlpRef.shFn m' c = shFn m c := by
    obtain ⟨a0, a1, a2, a3, a4, -⟩ := args c
    unfold MlpRef.shFn shFn; rw [a0, a1, a2, a3, a4]
  refine ⟨yFn m, c2Fn m, s2Fn m, chFn m, shFn m, run m g, (θ_run _ _ _).mono (fun r hr c => ?_) (MlpRef.run m' g')⟩
  obtain ⟨h0, h1, h2, h3, h4, h5⟩ := hr c
  exact ⟨h0.trans (e0 c), h1.trans (e1 c), h2.trans (e2 c), h3.trans (e3 c), h4.trans (e4 c), h5⟩

end Cert.Mlp
-- ==== Proof.AttnBits.Loops.lean ====
/- The loop over the pairs of heads of the program `AttnKernel`: what one trip does, found by running it, and the invariant of the
   loop, which is the pieces of the trips before. -/
module

public import proofs.«01_k».proof.Proof.Gen.AttnKernel.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.AttnBits

open Cert.AttnKernel Cert.AttnKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_attn_half` -/

/-- The class of invariants of `k0_part71`'s counted loop `k0_t1_loop` (`scf.for %arg24 = %c0_i32 to
   %2783 step %c1_i32 : i32 {`), trip `k0_t1`, carrying `Unit`, region `k0_t1_body`. Classifier:
   AFFINE — every store at a `Rect.unit` whose offsets are a stated closed form of the trips,
   nothing carried, no transfer or conditional inside: the invariant is the pieces of the trips
   before `k`. One trip calls the parts `k0_part1`, `k0_part2`,
   `k0_part3`. Per trip it STORES through arg13 at (k0_off40 k0_t1). It LOADS through arg22 at
   (k0_off35 k0_t1); arg7 at (k0_off36 k0_t1 0#32); arg16 at (k0_off37 k0_t1 0#32); arg9 at
   (k0_off38 i k0_t1 0#32); arg18 at (k0_off39 i k0_t1 0#32); arg8 at (k0_off36 k0_t1 0#32); arg17
   at (k0_off37 k0_t1 0#32); arg7 at (k0_off36 k0_t1 1#32); arg16 at (k0_off37 k0_t1 1#32); arg9 at
   (k0_off38 i k0_t1 1#32); arg18 at (k0_off39 i k0_t1 1#32); arg8 at (k0_off36 k0_t1 1#32); and
   more. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734)

/-! ### `k0_t1_loop`: the generated invariant (classifier: affine) -/

/-- One trip's resources: what the region reads (arg7, arg8, arg9, arg16, arg17, arg18, arg22) at
   its contents, what it writes (arg13) at any. -/
abbrev Trip_k0_t1 (c : Dev nD) (arg7 : Memref sig .tc .vmem S1x30x64x424 .i8) (arg8 : Memref sig .tc .vmem S1x30x64x424 .i8) (arg9 : Memref sig .tc .vmem S30x48x424 .f32) (arg16 : Memref sig .tc .vmem S1x30x64x256 .i8) (arg17 : Memref sig .tc .vmem S1x30x64x256 .i8) (arg18 : Memref sig .tc .vmem S30x48x256 .f32) (arg22 : Memref sig .tc .vmem S15x256x128 .bf16) (arg13 : Memref sig .tc .vmem S1x256x1920 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (f_arg13 : BufTy.Contents (Elt F) arg13.view.ty) : sProp 𝕄G :=
  iprop((arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg22.view.loc (c : Thread nD τ) ↦[arg22.view.set]{fullShare} X_arg22) ∗ (arg13.view.loc (c : Thread nD τ) ↦[arg13.view.set]{fullShare} f_arg13))

/-- ONE TRIP of `k0_t1_loop` at a symbolic `k`, run by `sl_exec` (its rectangles' offsets closed
   forms of `k`, their geometry linear arithmetic): the pieces it writes into arg13 are the run's
   own finds — the witnesses `sl_close` assigns handing the buffers to the continuation.
   `@[irreducible]`: cited, never unfolded. -/
@[irreducible] def trip_k0_t1 (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (k : Fin k0_t1_loop.trips) :
    { L_arg13 : List (View.Piece (Elt F) S1x256x1920 .f32) // ∀ (E : Set ℕ) (f_arg13 : BufTy.Contents (Elt F) arg13.view.ty),
      Trip_k0_t1 (F := F) c arg7 arg8 arg9 arg16 arg17 arg18 arg22 arg13 X_arg7 X_arg8 X_arg9 X_arg16 X_arg17 X_arg18 X_arg22 f_arg13
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 k PUnit.unit)
          (fun _ => Trip_k0_t1 (F := F) c arg7 arg8 arg9 arg16 arg17 arg18 arg22 arg13 X_arg7 X_arg8 X_arg9 X_arg16 X_arg17 X_arg18 X_arg22 (arg13.view.writes (Elt F) f_arg13 L_arg13)) } := by
  have hk : k.val < 15 := Nat.lt_of_lt_of_le k.isLt k0_t1_abs.2.1
  refine ⟨?_, fun E f_arg13 => ?run⟩
  case run =>
    unfold k0_t1_body
    iintro ⟨HR_arg7, HR_arg8, HR_arg9, HR_arg16, HR_arg17, HR_arg18, HR_arg22, HW_arg13⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (k : Fin k0_t1_loop.trips) : List (View.Piece (Elt F) S1x256x1920 .f32) :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (k : ℕ) (prev : List (View.Piece (Elt F) S1x256x1920 .f32)) : List (View.Piece (Elt F) S1x256x1920 .f32) :=
  if h : k < k0_t1_loop.trips then
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 ⟨k, h⟩) ++ prev
  else prev

/-- The pieces of the trips before `k` (last first), per written memref. -/
def pb_k0_t1 (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) : ℕ → List (View.Piece (Elt F) S1x256x1920 .f32)
  | 0 => []
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k)

theorem pb_k0_t1_succ (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 (k.val + 1)
      = (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k) ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k.val) := by
  rw [pb_k0_t1.eq_2]; unfold pb_k0_t1Step; exact dif_pos k.isLt

/-- THE INVARIANT before trip `k`: arg7, arg8, arg9, arg16, arg17, arg18, arg22 read at `X_·`; arg13
   holding the pieces of the trips before `k` written over the contents at loop entry `G_·` (stated
   `∃ f, … ∗ ⌜f = …⌝`, so that a hypothesis of any contents matches and the equation is what is
   proved). -/
abbrev inv_k0_t1 (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (G_arg13 : BufTy.Contents (Elt F) arg13.view.ty) (k : ℕ) (_u : PUnit) : sProp 𝕄G :=
  iprop((arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg22.view.loc (c : Thread nD τ) ↦[arg22.view.set]{fullShare} X_arg22) ∗ (∃ f, (arg13.view.loc (c : Thread nD τ) ↦[arg13.view.set]{fullShare} f) ∗ ⌜f = arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k)⌝))

set_option warn.classDefReducibility false in
/-- THE LOOP BY ITS INVARIANT (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (G_arg13 : BufTy.Contents (Elt F) arg13.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 G_arg13
  step k acc := by
    iintro ⟨HR_arg7, HR_arg8, HR_arg9, HR_arg16, HR_arg17, HR_arg18, HR_arg22, ⟨%f_arg13, HW_arg13, %h_arg13⟩⟩
    iapply (wp_wand_r Idealize.ShloMosaic.frame (wpE (defs₀ (F := F)) 𝒱 (c : Thread nD τ) bd) E)
    isplitl [HR_arg7 HR_arg8 HR_arg9 HR_arg16 HR_arg17 HR_arg18 HR_arg22 HW_arg13]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k).2 E f_arg13)
      isplitl [HR_arg7]; · iexact HR_arg7
      isplitl [HR_arg8]; · iexact HR_arg8
      isplitl [HR_arg9]; · iexact HR_arg9
      isplitl [HR_arg16]; · iexact HR_arg16
      isplitl [HR_arg17]; · iexact HR_arg17
      isplitl [HR_arg18]; · iexact HR_arg18
      isplitl [HR_arg22]; · iexact HR_arg22
      iexact HW_arg13
    · iintro %_ ⟨HR_arg7, HR_arg8, HR_arg9, HR_arg16, HR_arg17, HR_arg18, HR_arg22, HW_arg13⟩
      isplitl [HR_arg7]; · iexact HR_arg7
      isplitl [HR_arg8]; · iexact HR_arg8
      isplitl [HR_arg9]; · iexact HR_arg9
      isplitl [HR_arg16]; · iexact HR_arg16
      isplitl [HR_arg17]; · iexact HR_arg17
      isplitl [HR_arg18]; · iexact HR_arg18
      isplitl [HR_arg22]; · iexact HR_arg22
      rw [pb_k0_t1_succ]
      iexists _; isplitl [HW_arg13]; · iexact HW_arg13
      ipureintro; rw [h_arg13, ← View.writes_append]

end Cert.AttnBits

end
-- ==== Proof.AttnBits.Runs.lean ====
/- What the frame of the program `AttnKernel` stands on: @main up to its region, the arrays there, the blocks and the staging memrefs. -/
module

public import proofs.«01_k».proof.Proof.Gen.AttnKernel.Launch
public import proofs.«01_k».proof.Proof.Gen.AttnKernel.Skeleton
public import proofs.«01_k».proof.Proof.AttnBits.Loops
public import proofs.«01_k».proof.Proof.Gen.AttnKernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AttnBits

open Cert.AttnKernel Cert.AttnKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1260000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_AttnKernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x256x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x48x1920 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5760x1920 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5760x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5760x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S30 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x30x64x424 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x30x64x424 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S30x48x424 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1920x1920 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1920 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1920 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x1920 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x1920 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S48x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x30x64x256 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x30x64x256 .i8 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S30x48x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256x1920 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S48x256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x256x1920 .f32 := win0_20.stage (cfg0.slots t 20)
abbrev hs0_20 (t : Fin cfg0.N) : (ms0_20 t).IsWhole := hstage0_20 ((cfg0.slots t 20).cast nbuf0_20)
/-- The scratch operands: whole scoped buffers of the kernel's own, passed beside the windows. -/
abbrev scM0_0 : Memref sig .tc .vmem S15x256x128 .bf16 := Memref.whole cc0_scratch0
abbrev scM0_1 : Memref sig .tc .vmem S8x128 .f32 := Memref.whole cc0_scratch1

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.AttnBits

end
-- ==== Proof.AttnBits.RunA.lean ====
/- The whole-body run of the kernel of `AttnKernel`: it runs from its buffers to the continuation holding the inputs as they were and the outputs at some contents. -/
module

public import proofs.«01_k».proof.Proof.AttnBits.Runs

@[expose] public section

-- membership in a rectangle of production extents (`View.cover_of_tiled`): the elaborator's structural look
-- recurses once per coordinate of the long axes
set_option maxRecDepth 16384

noncomputable section

namespace Cert.AttnBits

open Cert.AttnKernel Cert.AttnKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3224000 in
/-- The body's triple: on whole staging memrefs — the inputs' at their contents,
    the FORGOTTEN outputs' (12, 13, 14, 15, 16, 17, 18, 19, 20) at anything, handed back at some contents nothing names —
    the body runs to the continuation holding the inputs' as they were, the scratch at some contents: the printed functions are their skeletons (`*_eq_skeleton`),
    which `sl_exec` runs (Lib/Exec.lean). -/
theorem kernelRun0_A (c : Dev nD) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole)
    (x0 : Vec F S1x256x1920 .bf16) (x1 : Vec F S6x48x1920 .f32) (x2 : Vec F S5760x1920 .fp8e4m3) (x3 : Vec F S5760x1 .f32) (x4 : Vec F S5760x1 .f32) (x5 : Vec F S30 .f32) (x6 : Vec F S1x30x64x424 .i8) (x7 : Vec F S1x30x64x424 .i8) (x8 : Vec F S30x48x424 .f32) (x9 : Vec F S1920x1920 .fp8e4m3) (x10 : Vec F S1x1920 .f32) (x11 : Vec F S1x1920 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_attn_half i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_attn_half_eq_skeleton]; unfold cc0_attn_half_skel
    simp only [k0_part77_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [HS0]
    · iexists _, _; isplitr; swap; · iexact HS0
      ipureintro; rfl
    iexists _, _; isplitr; swap; · iexact HS1
    ipureintro; rfl

end Cert.AttnBits

end
-- ==== Proof.AttnBits.Frame.lean ====
/- The frame of the program `AttnKernel`, with nothing stated of what it leaves in its outputs: the proof data, the body obligation, the run and the frame. -/
module

public import proofs.«01_k».proof.Proof.AttnBits.RunA
public import Idealize.ShloMosaic.Lib.Claim

@[expose] public section

-- membership in a rectangle of production extents (`View.cover_of_tiled`): the elaborator's structural look
-- recurses once per coordinate of the long axes
set_option maxRecDepth 16384

noncomputable section

namespace Cert.AttnBits

open Cert.AttnKernel Cert.AttnKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (12, 13, 14, 15, 16, 17, 18, 19, 20): nothing reads what the kernel leaves in them, so nothing
    of it is named (Lib/Pipeline/Dat.lean `Dat.toRForget`). -/
def forgets0 : Fin 21 → Bool := fun w => w.val == 12 || w.val == 13 || w.val == 14 || w.val == 15 || w.val == 16 || w.val == 17 || w.val == 18 || w.val == 19 || w.val == 20

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  iintro ⟨H0, H1, H2, H3, H4, H5, H6, H7, H8, H9, H10, H11, H12, H13, H14, H15, H16, H17, H18, H19, H20, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 12, 13, 14, 15, 16, 17, 18, 19, 20) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (fun c => (dats m 0 c).toRForget forgets0) (A_eq m) (run_main m ρ)

/-- THE FRAME: `Cert.quiescent_AttnKernel`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.AttnBits

end
-- ==== Proof.Attn.Loops.lean ====
/- The loop over the pairs of heads of the program `AttnKernelIdeal`: what one trip does, found by running it, and the invariant of the
   loop, which is the pieces of the trips before. -/
module

public import proofs.«01_k».proof.Proof.Gen.AttnKernelIdeal.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Attn

open Cert.AttnKernelIdeal Cert.AttnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_attn_half` -/

/-- The class of invariants of `k0_part71`'s counted loop `k0_t1_loop` (`scf.for %arg24 = %c0_i32 to
   %2783 step %c1_i32 : i32 {`), trip `k0_t1`, carrying `Unit`, region `k0_t1_body`. Classifier:
   AFFINE — every store at a `Rect.unit` whose offsets are a stated closed form of the trips,
   nothing carried, no transfer or conditional inside: the invariant is the pieces of the trips
   before `k`. One trip calls the parts `k0_part1`, `k0_part2`,
   `k0_part3`. Per trip it STORES through arg13 at (k0_off40 k0_t1). It LOADS through arg22 at
   (k0_off35 k0_t1); arg7 at (k0_off36 k0_t1 0#32); arg16 at (k0_off37 k0_t1 0#32); arg9 at
   (k0_off38 i k0_t1 0#32); arg18 at (k0_off39 i k0_t1 0#32); arg8 at (k0_off36 k0_t1 0#32); arg17
   at (k0_off37 k0_t1 0#32); arg7 at (k0_off36 k0_t1 1#32); arg16 at (k0_off37 k0_t1 1#32); arg9 at
   (k0_off38 i k0_t1 1#32); arg18 at (k0_off39 i k0_t1 1#32); arg8 at (k0_off36 k0_t1 1#32); and
   more. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734)

/-! ### `k0_t1_loop`: the generated invariant (classifier: affine) -/

/-- One trip's resources: what the region reads (arg7, arg8, arg9, arg16, arg17, arg18, arg22) at
   its contents, what it writes (arg13) at any. -/
abbrev Trip_k0_t1 (c : Dev nD) (arg7 : Memref sig .tc .vmem S1x30x64x424 .i8) (arg8 : Memref sig .tc .vmem S1x30x64x424 .i8) (arg9 : Memref sig .tc .vmem S30x48x424 .f32) (arg16 : Memref sig .tc .vmem S1x30x64x256 .i8) (arg17 : Memref sig .tc .vmem S1x30x64x256 .i8) (arg18 : Memref sig .tc .vmem S30x48x256 .f32) (arg22 : Memref sig .tc .vmem S15x256x128 .bf16) (arg13 : Memref sig .tc .vmem S1x256x1920 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (f_arg13 : BufTy.Contents (Elt F) arg13.view.ty) : sProp 𝕄G :=
  iprop((arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg22.view.loc (c : Thread nD τ) ↦[arg22.view.set]{fullShare} X_arg22) ∗ (arg13.view.loc (c : Thread nD τ) ↦[arg13.view.set]{fullShare} f_arg13))

/-- ONE TRIP of `k0_t1_loop` at a symbolic `k`, run by `sl_exec` (its rectangles' offsets closed
   forms of `k`, their geometry linear arithmetic): the pieces it writes into arg13 are the run's
   own finds — the witnesses `sl_close` assigns handing the buffers to the continuation.
   `@[irreducible]`: cited, never unfolded. -/
@[irreducible] def trip_k0_t1 (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (k : Fin k0_t1_loop.trips) :
    { L_arg13 : List (View.Piece (Elt F) S1x256x1920 .f32) // ∀ (E : Set ℕ) (f_arg13 : BufTy.Contents (Elt F) arg13.view.ty),
      Trip_k0_t1 (F := F) c arg7 arg8 arg9 arg16 arg17 arg18 arg22 arg13 X_arg7 X_arg8 X_arg9 X_arg16 X_arg17 X_arg18 X_arg22 f_arg13
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 k PUnit.unit)
          (fun _ => Trip_k0_t1 (F := F) c arg7 arg8 arg9 arg16 arg17 arg18 arg22 arg13 X_arg7 X_arg8 X_arg9 X_arg16 X_arg17 X_arg18 X_arg22 (arg13.view.writes (Elt F) f_arg13 L_arg13)) } := by
  have hk : k.val < 15 := Nat.lt_of_lt_of_le k.isLt k0_t1_abs.2.1
  refine ⟨?_, fun E f_arg13 => ?run⟩
  case run =>
    unfold k0_t1_body
    iintro ⟨HR_arg7, HR_arg8, HR_arg9, HR_arg16, HR_arg17, HR_arg18, HR_arg22, HW_arg13⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (k : Fin k0_t1_loop.trips) : List (View.Piece (Elt F) S1x256x1920 .f32) :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (k : ℕ) (prev : List (View.Piece (Elt F) S1x256x1920 .f32)) : List (View.Piece (Elt F) S1x256x1920 .f32) :=
  if h : k < k0_t1_loop.trips then
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 ⟨k, h⟩) ++ prev
  else prev

/-- The pieces of the trips before `k` (last first), per written memref. -/
def pb_k0_t1 (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) : ℕ → List (View.Piece (Elt F) S1x256x1920 .f32)
  | 0 => []
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k)

theorem pb_k0_t1_succ (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 (k.val + 1)
      = (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k) ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k.val) := by
  rw [pb_k0_t1.eq_2]; unfold pb_k0_t1Step; exact dif_pos k.isLt

/-- THE INVARIANT before trip `k`: arg7, arg8, arg9, arg16, arg17, arg18, arg22 read at `X_·`; arg13
   holding the pieces of the trips before `k` written over the contents at loop entry `G_·` (stated
   `∃ f, … ∗ ⌜f = …⌝`, so that a hypothesis of any contents matches and the equation is what is
   proved). -/
abbrev inv_k0_t1 (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (G_arg13 : BufTy.Contents (Elt F) arg13.view.ty) (k : ℕ) (_u : PUnit) : sProp 𝕄G :=
  iprop((arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg22.view.loc (c : Thread nD τ) ↦[arg22.view.set]{fullShare} X_arg22) ∗ (∃ f, (arg13.view.loc (c : Thread nD τ) ↦[arg13.view.set]{fullShare} f) ∗ ⌜f = arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k)⌝))

set_option warn.classDefReducibility false in
/-- THE LOOP BY ITS INVARIANT (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (G_arg13 : BufTy.Contents (Elt F) arg13.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 G_arg13
  step k acc := by
    iintro ⟨HR_arg7, HR_arg8, HR_arg9, HR_arg16, HR_arg17, HR_arg18, HR_arg22, ⟨%f_arg13, HW_arg13, %h_arg13⟩⟩
    iapply (wp_wand_r Idealize.ShloMosaic.frame (wpE (defs₀ (F := F)) 𝒱 (c : Thread nD τ) bd) E)
    isplitl [HR_arg7 HR_arg8 HR_arg9 HR_arg16 HR_arg17 HR_arg18 HR_arg22 HW_arg13]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k).2 E f_arg13)
      isplitl [HR_arg7]; · iexact HR_arg7
      isplitl [HR_arg8]; · iexact HR_arg8
      isplitl [HR_arg9]; · iexact HR_arg9
      isplitl [HR_arg16]; · iexact HR_arg16
      isplitl [HR_arg17]; · iexact HR_arg17
      isplitl [HR_arg18]; · iexact HR_arg18
      isplitl [HR_arg22]; · iexact HR_arg22
      iexact HW_arg13
    · iintro %_ ⟨HR_arg7, HR_arg8, HR_arg9, HR_arg16, HR_arg17, HR_arg18, HR_arg22, HW_arg13⟩
      isplitl [HR_arg7]; · iexact HR_arg7
      isplitl [HR_arg8]; · iexact HR_arg8
      isplitl [HR_arg9]; · iexact HR_arg9
      isplitl [HR_arg16]; · iexact HR_arg16
      isplitl [HR_arg17]; · iexact HR_arg17
      isplitl [HR_arg18]; · iexact HR_arg18
      isplitl [HR_arg22]; · iexact HR_arg22
      rw [pb_k0_t1_succ]
      iexists _; isplitl [HW_arg13]; · iexact HW_arg13
      ipureintro; rw [h_arg13, ← View.writes_append]

end Cert.Attn

end
-- ==== Proof.Attn.Run.lean ====
/- The whole-body run of the attention-half kernel on any staging memrefs, as a subtype that the run finds.

   Every output's and scratch's buffer enters with NAMED contents (`x12` … `x20`, `z0`, `z1`) and leaves with the found
   pieces written over them: the loop over the pairs of heads reads what the projections stored, so its pieces are stated
   over those contents. -/
module

public import proofs.«01_k».proof.Proof.Gen.AttnKernelIdeal.Frame
public import proofs.«01_k».proof.Proof.Gen.AttnKernelIdeal.Skeleton
public import proofs.«01_k».proof.Proof.Attn.Loops
public import Idealize.ShloMosaic.Lib.Pipeline.FrameBody
public import Idealize.ShloMosaic.Lib.Ring
public import Idealize.ShloMosaic.Lib.Tactic

@[expose] public section

set_option maxRecDepth 16384

noncomputable section

namespace Cert.Attn

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in each output's staging memref and in the scratch, as pieces (last first), with the proof
    that the body runs from its buffers to the continuation holding the inputs' as they were and the others' with their
    pieces written. The pieces are the witness that `sl_exec` finds. -/
noncomputable def kernelRun (c : Dev nD) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole)
    (x0 : Vec F S1x256x1920 .bf16) (x1 : Vec F S6x48x1920 .f32) (x2 : Vec F S5760x1920 .fp8e4m3) (x3 : Vec F S5760x1 .f32) (x4 : Vec F S5760x1 .f32) (x5 : Vec F S30 .f32) (x6 : Vec F S1x30x64x424 .i8) (x7 : Vec F S1x30x64x424 .i8) (x8 : Vec F S30x48x424 .f32) (x9 : Vec F S1920x1920 .fp8e4m3) (x10 : Vec F S1x1920 .f32) (x11 : Vec F S1x1920 .f32) (x12 : Vec F S1x256x1920 .f32) (x13 : Vec F S1x256x1920 .fp8e4m3) (x14 : Vec F S48x256 .f32) (x15 : Vec F S1x30x64x256 .i8) (x16 : Vec F S1x30x64x256 .i8) (x17 : Vec F S30x48x256 .f32) (x18 : Vec F S1x256x1920 .fp8e4m3) (x19 : Vec F S48x256 .f32) (x20 : Vec F S1x256x1920 .f32) (z0 : Vec F S15x256x128 .bf16) (z1 : Vec F S8x128 .f32) :
    Σ' (L12 : List (View.Piece (Elt F) S1x256x1920 .f32)), Σ' (L13 : List (View.Piece (Elt F) S1x256x1920 .fp8e4m3)), Σ' (L14 : List (View.Piece (Elt F) S48x256 .f32)), Σ' (L15 : List (View.Piece (Elt F) S1x30x64x256 .i8)), Σ' (L16 : List (View.Piece (Elt F) S1x30x64x256 .i8)), Σ' (L17 : List (View.Piece (Elt F) S30x48x256 .f32)), Σ' (L18 : List (View.Piece (Elt F) S1x256x1920 .fp8e4m3)), Σ' (L19 : List (View.Piece (Elt F) S48x256 .f32)), Σ' (L20 : List (View.Piece (Elt F) S1x256x1920 .f32)), { LT0 : List (View.Piece (Elt F) S15x256x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare z0 ∗ owns (c : Thread nD τ) arg23 fullShare z1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (arg13.view.loc (c : Thread nD τ) ↦[arg13.view.set]{fullShare} arg13.view.writes (Elt F) (harg13.unread x12) L12) ∗ (arg14.view.loc (c : Thread nD τ) ↦[arg14.view.set]{fullShare} arg14.view.writes (Elt F) arg14.view.junk L13) ∗ (arg15.view.loc (c : Thread nD τ) ↦[arg15.view.set]{fullShare} arg15.view.writes (Elt F) (harg15.unread x14) L14) ∗ (arg16.view.loc (c : Thread nD τ) ↦[arg16.view.set]{fullShare} arg16.view.writes (Elt F) arg16.view.junk L15) ∗ (arg17.view.loc (c : Thread nD τ) ↦[arg17.view.set]{fullShare} arg17.view.writes (Elt F) arg17.view.junk L16) ∗ (arg18.view.loc (c : Thread nD τ) ↦[arg18.view.set]{fullShare} arg18.view.writes (Elt F) (harg18.unread x17) L17) ∗ (arg19.view.loc (c : Thread nD τ) ↦[arg19.view.set]{fullShare} arg19.view.writes (Elt F) (harg19.unread x18) L18) ∗ (arg20.view.loc (c : Thread nD τ) ↦[arg20.view.set]{fullShare} arg20.view.writes (Elt F) (harg20.unread x19) L19) ∗ (arg21.view.loc (c : Thread nD τ) ↦[arg21.view.set]{fullShare} arg21.view.writes (Elt F) (harg21.unread x20) L20) ∗ (arg22.view.loc (c : Thread nD τ) ↦[arg22.view.set]{fullShare} arg22.view.writes (Elt F) arg22.view.junk LT0) ∗ (arg23.view.loc (c : Thread nD τ) ↦[arg23.view.set]{fullShare} harg23.unread z1)) -∗ K ⟨⟩))
          ⊢ wp frame (wpE (defs₀ (F := F)) Variants.none c none) E (cc0_attn_half i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, fun E K => ?run⟩
  case run =>
    simp only [cc0_attn_half_eq_skeleton]; unfold cc0_attn_half_skel
    simp only [k0_part77_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hfs0; obtain rfl := harg23.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [HS0]; · iexact HS0
    iexact HS1

end Cert.Attn

end
-- ==== Proof.Attn.Tiles.lean ====
/- The tiles of the attention-half kernel, stated once for all tile numbers: the LayerNorm rows in 8 tiles of 32 rows, the
   projections in 15 groups of 384 columns (five for each of q, k and v, six heads to a group), the attention in 15 pairs of
   heads, the attention's rows again in 8 tiles. -/
module

public import proofs.«01_k».proof.Proof.Gen.AttnKernelIdeal.Skeleton
public import Idealize.ShloMosaic.Lib.Pipeline.FrameBody
public import Idealize.ShloMosaic.Lib.Tactic

@[expose] public section

set_option maxRecDepth 16384

noncomputable section

namespace Cert.Attn

open Cert.AttnKernelIdeal Cert.AttnKernelIdeal.Gen
open Idealize.ShloMosaic Idealize.ShloMosaic.TcCoe Idealize.ShloMosaic.Tactic

variable {F : FTy → Type} [FloatOps F]

/-! ### The rectangles -/

theorem inb_rows (k : ℕ) : ∀ a, (![0, 32 * (k % 8), 0] : Fin 3 → ℕ) a + S1x32x1920.size a ≤ S1x256x1920.size a := by
  have h := Nat.mod_lt k (show 0 < 8 by omega)
  intro a; fin_cases a
  · show 0 + 1 ≤ 1; omega
  · show 32 * (k % 8) + 32 ≤ 256; omega
  · show 0 + 1920 ≤ 1920; omega

theorem inb_w (k : ℕ) : ∀ a, (![384 * (k % 15), 0] : Fin 2 → ℕ) a + S384x1920.size a ≤ S5760x1920.size a := by
  have h := Nat.mod_lt k (show 0 < 15 by omega)
  intro a; fin_cases a
  · show 384 * (k % 15) + 384 ≤ 5760; omega
  · show 0 + 1920 ≤ 1920; omega

theorem inb_ws (k : ℕ) : ∀ a, (![384 * (k % 15), 0] : Fin 2 → ℕ) a + S384x1.size a ≤ S5760x1.size a := by
  have h := Nat.mod_lt k (show 0 < 15 by omega)
  intro a; fin_cases a
  · show 384 * (k % 15) + 384 ≤ 5760; omega
  · show 0 + 1 ≤ 1; omega

theorem inb_head (h : ℕ) : ∀ a, (![0, h % 30, 0, 0] : Fin 4 → ℕ) a + S1x1x64x256.size a ≤ S1x30x64x256.size a := by
  have h := Nat.mod_lt h (show 0 < 30 by omega)
  intro a; fin_cases a
  · show 0 + 1 ≤ 1; omega
  · show _ % 30 + 1 ≤ 30; omega
  · show 0 + 64 ≤ 64; omega
  · show 0 + 256 ≤ 256; omega

theorem inb_ctx (h : ℕ) : ∀ a, (![0, h % 30, 0, 0] : Fin 4 → ℕ) a + S1x1x64x424.size a ≤ S1x30x64x424.size a := by
  have h := Nat.mod_lt h (show 0 < 30 by omega)
  intro a; fin_cases a
  · show 0 + 1 ≤ 1; omega
  · show _ % 30 + 1 ≤ 30; omega
  · show 0 + 64 ≤ 64; omega
  · show 0 + 424 ≤ 424; omega

theorem inb_pair (p : ℕ) : ∀ a, (![p % 15, 0, 0] : Fin 3 → ℕ) a + S1x256x128.size a ≤ S15x256x128.size a := by
  have h := Nat.mod_lt p (show 0 < 15 by omega)
  intro a; fin_cases a
  · show p % 15 + 1 ≤ 15; omega
  · show 0 + 256 ≤ 256; omega
  · show 0 + 128 ≤ 128; omega

theorem inb_lane (p : ℕ) : ∀ a, (![0, 0, 128 * (p % 15)] : Fin 3 → ℕ) a + S1x256x128.size a ≤ S1x256x1920.size a := by
  have h := Nat.mod_lt p (show 0 < 15 by omega)
  intro a; fin_cases a
  · show 0 + 1 ≤ 1; omega
  · show 0 + 256 ≤ 256; omega
  · show 128 * (p % 15) + 128 ≤ 1920; omega

/-- The batch of a grid point, as the kernel computes it. -/
abbrev batchOff (i : grid0.Coords) : ℕ := (Scalar.indexCast (BitVec.ofNat 32 (i 0).val) : Index).toNat

theorem batchOff_lt (i : grid0.Coords) : batchOff i + 1 ≤ 48 := k0_off5_inb i 1

theorem inb_ctxScale (i : grid0.Coords) (h : ℕ) : ∀ a, (![h % 30, batchOff i, 0] : Fin 3 → ℕ) a + S1x1x424.size a ≤ S30x48x424.size a := by
  have h' := Nat.mod_lt h (show 0 < 30 by omega)
  have b := batchOff_lt i
  intro a; fin_cases a
  · show h % 30 + 1 ≤ 30; omega
  · exact b
  · show 0 + 424 ≤ 424; omega

theorem inb_vScale (i : grid0.Coords) (h : ℕ) : ∀ a, (![h % 30, batchOff i, 0] : Fin 3 → ℕ) a + S1x1x256.size a ≤ S30x48x256.size a := by
  have h' := Nat.mod_lt h (show 0 < 30 by omega)
  have b := batchOff_lt i
  intro a; fin_cases a
  · show h % 30 + 1 ≤ 30; omega
  · exact b
  · show 0 + 256 ≤ 256; omega

/-- Rows `32 k … 32 k + 31` of a block. -/
abbrev rowRect (k : ℕ) : Rect S1x256x1920 := Rect.unit ![0, 32 * (k % 8), 0] S1x32x1920.size (inb_rows k)
/-- Rows `384 k … 384 k + 383` of the transposed weight, and of its scales and bias. -/
abbrev wRect (k : ℕ) : Rect S5760x1920 := Rect.unit ![384 * (k % 15), 0] S384x1920.size (inb_w k)
abbrev wsRect (k : ℕ) : Rect S5760x1 := Rect.unit ![384 * (k % 15), 0] S384x1.size (inb_ws k)
/-- The codes of one head. -/
abbrev headRect (h : ℕ) : Rect S1x30x64x256 := Rect.unit ![0, h % 30, 0, 0] S1x1x64x256.size (inb_head h)
/-- The context codes of one head. -/
abbrev ctxRect (h : ℕ) : Rect S1x30x64x424 := Rect.unit ![0, h % 30, 0, 0] S1x1x64x424.size (inb_ctx h)
/-- The queries of one pair of heads. -/
abbrev pairRect (p : ℕ) : Rect S15x256x128 := Rect.unit ![p % 15, 0, 0] S1x256x128.size (inb_pair p)
/-- The lanes of one pair of heads. -/
abbrev laneRect (p : ℕ) : Rect S1x256x1920 := Rect.unit ![0, 0, 128 * (p % 15)] S1x256x128.size (inb_lane p)
/-- The context scales of one head at the point's batch. -/
abbrev ctxScaleRect (i : grid0.Coords) (h : ℕ) : Rect S30x48x424 := Rect.unit ![h % 30, batchOff i, 0] S1x1x424.size (inb_ctxScale i h)
/-- The new scales of one head at the point's batch. -/
abbrev vScaleRect (i : grid0.Coords) (h : ℕ) : Rect S30x48x256 := Rect.unit ![h % 30, batchOff i, 0] S1x1x256.size (inb_vScale i h)

/-! ### The row tiles -/

/-- The scales of one tile of LayerNorm rows. -/
def rowScale (mul add : FVec F S1x1920 .f32) (x : Vec F S1x32x1920 .bf16) : FVec F S32x1 .f32 := k0_pay28 (k0_pay27 mul add x)

/-- The codes of one tile of LayerNorm rows. -/
def rowCodes (mul add : FVec F S1x1920 .f32) (x : Vec F S1x32x1920 .bf16) : FVec F S1x32x1920 .fp8e4m3 := k0_pay29 (k0_pay26 mul add x) (k0_pay27 mul add x)

/-- Eight columns of 32, one below the other. -/
def stack (f : ℕ → FVec F S32x1 .f32) : FVec F S256x1 .f32 :=
  concatenate S256x1 0 [⟨S32x1, f 0⟩, ⟨S32x1, f 1⟩, ⟨S32x1, f 2⟩, ⟨S32x1, f 3⟩, ⟨S32x1, f 4⟩, ⟨S32x1, f 5⟩, ⟨S32x1, f 6⟩, ⟨S32x1, f 7⟩] concatenates_S32x1_S32x1_S32x1_S32x1_S32x1_S32x1_S32x1_S32x1_S256x1_d0

/-- A column of 256 scales as the row it is stored as. -/
def toRow (s : FVec F S256x1 .f32) : FVec F S1x256 .f32 :=
  extractStridedSlice S1x256 ![0, 0] (transpose S128x256 [1, 0] (broadcastTo S256x128 (shapeCast S256x1 s shapeCasts_S256x1_S256x1) broadcasts_S256x1_S256x128) transposes_S256x128_p1_0_S128x256) slices_S128x256_o0_0_S1x256

/-- The stores of tiles of rows, last first. -/
def rowPieces (f : ℕ → FVec F S1x32x1920 .fp8e4m3) : ℕ → List (View.Piece (Elt F) S1x256x1920 .fp8e4m3)
  | 0 => []
  | n + 1 => ⟨rowRect n, f n⟩ :: rowPieces f n

/-- The scales of one tile of attention rows. -/
def outScale (x : Vec F S1x32x1920 .f32) : FVec F S32x1 .f32 := k0_pay352 x

/-- The codes of one tile of attention rows. -/
def outCodes (x : Vec F S1x32x1920 .f32) : FVec F S1x32x1920 .fp8e4m3 := k0_pay353 x

/-! ### The projections -/

theorem slices_head (h : ℕ) : S384x256.Slices ![64 * (h % 6), 0] S64x256 :=
  (by decide : ∀ j : Fin 6, S384x256.Slices ![64 * j.val, 0] S64x256) ⟨h % 6, Nat.mod_lt h (by omega)⟩

/-- One head's 64 rows of a group. -/
def headOf (a : FVec F S384x256 .f32) (h : ℕ) : FVec F S64x256 .f32 := extractStridedSlice S64x256 ![64 * (h % 6), 0] a (slices_head h)

/-- The Euclidean length of each column, 1 in place of 0. -/
def norm (t : FVec F S64x256 .f32) : FVec F S1x256 .f32 :=
  let n := sqrt (shapeCast S1x256 (multiReduction .add [0] S256 (mulf t t) 0x00000000#32 reduces_S64x256_S256 (.inl rfl) rfl) shapeCasts_S256_S1x256)
  select (cmpf .oeq n (broadcast S1x256 (Scalar.ofBits .f32 0x00000000#32))) (broadcast S1x256 (Scalar.ofBits .f32 0x3F800000#32)) n

/-- The columns over their lengths. -/
def normed (t : FVec F S64x256 .f32) : FVec F S64x256 .f32 :=
  mulf t (broadcastTo S64x256 (divf (broadcast S1x256 (Scalar.ofBits .f32 0x3F800000#32)) (norm t)) broadcasts_S1x256_S64x256)

/-- Rounded, clipped to -127 … 127 and converted. -/
def toInt8 (t : FVec F S64x256 .f32) : IVec S1x1x64x256 8 :=
  shapeCast S1x1x64x256 (fptosi 8 (minimumf (broadcast S64x256 (Scalar.sitofp .f32 127#32)) (maximumf (broadcast S64x256 (Scalar.sitofp .f32 4294967169#32)) (roundeven t)))) shapeCasts_S64x256_S1x1x64x256

/-- The codes of a head of keys. -/
def kCodes (t : FVec F S64x256 .f32) : IVec S1x1x64x256 8 := toInt8 (mulf (normed t) (broadcast S64x256 (Scalar.ofBits .f32 0x42FE0000#32)))

/-- The scales of a head of values. -/
def vScale (t : FVec F S64x256 .f32) : FVec F S1x256 .f32 :=
  let a := shapeCast S1x256 (multiReduction .maximumf [0] S256 (absf t) 0xFF800000#32 reduces_S64x256_S256 (.inl rfl) rfl) shapeCasts_S256_S1x256
  select (cmpf .oeq a (broadcast S1x256 (Scalar.ofBits .f32 0x00000000#32))) (broadcast S1x256 (Scalar.ofBits .f32 0x3F800000#32)) (divf a (broadcast S1x256 (Scalar.ofBits .f32 0x42FE0000#32)))

/-- The codes of a head of values. -/
def vCodes (t : FVec F S64x256 .f32) : IVec S1x1x64x256 8 :=
  toInt8 (mulf t (broadcastTo S64x256 (divf (broadcast S1x256 (Scalar.ofBits .f32 0x3F800000#32)) (vScale t)) broadcasts_S1x256_S64x256))

section Heads

variable (s : FVec F S1x256 .f32) (c : FVec F S256x1920 .fp8e4m3) (W : ℕ → Vec F S384x1920 .fp8e4m3) (WS B : ℕ → Vec F S384x1 .f32) (H : ℕ → Elt F .f32)

/-- The head `h` of the queries before normalisation, -/
def qHead (h : ℕ) : FVec F S64x256 .f32 := headOf (k0_pay88 s c (W (h / 6)) (WS (h / 6)) (B (h / 6))) h
/-- of the keys, -/
def kHead (h : ℕ) : FVec F S64x256 .f32 := headOf (k0_pay75 s c (W (5 + h / 6)) (WS (5 + h / 6))) h
/-- of the values. -/
def vHead (h : ℕ) : FVec F S64x256 .f32 := headOf (k0_pay88 s c (W (10 + h / 6)) (WS (10 + h / 6)) (B (10 + h / 6))) h

/-- The queries of head `h`. -/
def query (h : ℕ) : FVec F S64x256 .f32 := mulf (normed (qHead s c W WS B h)) (broadcast S64x256 (H h))

/-- The stores of the first `n` pairs of queries, last first. -/
def qPieces : ℕ → List (View.Piece (Elt F) S15x256x128 .bf16)
  | 0 => []
  | n + 1 => ⟨pairRect n, k0_pay71 (query s c W WS B H (2 * n)) (query s c W WS B H (2 * n + 1))⟩ :: qPieces n

/-- The stores of the first `n` heads of keys, of values, of the values' scales. -/
def kPieces : ℕ → List (View.Piece (Elt F) S1x30x64x256 .i8)
  | 0 => []
  | n + 1 => ⟨headRect n, kCodes (kHead s c W WS n)⟩ :: kPieces n
def vPieces : ℕ → List (View.Piece (Elt F) S1x30x64x256 .i8)
  | 0 => []
  | n + 1 => ⟨headRect n, vCodes (vHead s c W WS B n)⟩ :: vPieces n

end Heads

/-- The stores of the first `n` heads of scales. -/
def vsPieces (i : grid0.Coords) (f : ℕ → FVec F S1x256 .f32) : ℕ → List (View.Piece (Elt F) S30x48x256 .f32)
  | 0 => []
  | n + 1 => ⟨vScaleRect i n, shapeCast S1x1x256 (f n) shapeCasts_S1x256_S1x1x256⟩ :: vsPieces i f n

/-! ### The attention of a pair of heads -/

/-- The lanes of one pair of heads: from the queries, and for each head the context's keys, the new keys, the scales of the
    context's values, of the new values, the context's values, the new values. -/
def pairOut (q : Vec F S1x256x128 .bf16) (ck0 : Vec F S1x1x64x424 .i8) (kn0 : Vec F S1x1x64x256 .i8) (cs0 : Vec F S1x1x424 .f32) (vs0 : Vec F S1x1x256 .f32) (cv0 : Vec F S1x1x64x424 .i8) (vn0 : Vec F S1x1x64x256 .i8)
    (ck1 : Vec F S1x1x64x424 .i8) (kn1 : Vec F S1x1x64x256 .i8) (cs1 : Vec F S1x1x424 .f32) (vs1 : Vec F S1x1x256 .f32) (cv1 : Vec F S1x1x64x424 .i8) (vn1 : Vec F S1x1x64x256 .i8) : FVec F S1x256x128 .f32 :=
  k0_pay350 (k0_pay8 (k0_pay6 q ck0 kn0) (k0_pay7 q ck0 kn0) cs0 vs0 cv0 vn0) (k0_pay9 (k0_pay6 q ck0 kn0) (k0_pay7 q ck0 kn0))
    (k0_pay15 (k0_pay2 q) (k0_pay10 ck1) kn1) (k0_pay16 (k0_pay2 q) (k0_pay10 ck1) kn1) (k0_pay17 (k0_pay2 q) (k0_pay10 ck1) kn1 cs1) vs1 cv1 vn1

/-- The stores of the first `n` pairs, last first. -/
def attnPieces (f : ℕ → FVec F S1x256x128 .f32) : ℕ → List (View.Piece (Elt F) S1x256x1920 .f32)
  | 0 => []
  | n + 1 => ⟨laneRect n, f n⟩ :: attnPieces f n

end Cert.Attn
-- ==== Proof.Attn.Trip.lean ====
/- The loop over the pairs of heads: trip `k` stores, in the lanes of pair `k`, `pairOut` of what it loads; the loop's stores
   are those of its fifteen trips. -/
module

public import proofs.«01_k».proof.Proof.Attn.Loops
public import proofs.«01_k».proof.Proof.Attn.Tiles

@[expose] public section

set_option maxRecDepth 16384

noncomputable section

namespace Cert.Attn

open Cert.AttnKernelIdeal Cert.AttnKernelIdeal.Gen
open Idealize.ShloMosaic Idealize.ShloMosaic.TcCoe Idealize.ShloMosaic.Tactic

variable {F : FTy → Type} [FloatOps F]

theorem unit_congr {s : Shape} {off off' : Fin s.rank → ℕ} {size : Fin s.rank → ℕ} (h : off = off') (inb : ∀ a, off a + size a ≤ s.size a) (inb' : ∀ a, off' a + size a ≤ s.size a) :
    Rect.unit off size inb = Rect.unit off' size inb' := by subst h; rfl

theorem piece_congr {s : Shape} {e : EltTy} {off off' : Fin s.rank → ℕ} {size : Fin s.rank → ℕ} (h : off = off') (inb : ∀ a, off a + size a ≤ s.size a) (inb' : ∀ a, off' a + size a ≤ s.size a)
    (v v' : (⟨s.rank, size⟩ : Shape).Idx → Elt F e) (hv : v = v') :
    (⟨Rect.unit off size inb, v⟩ : View.Piece (Elt F) s e) = ⟨Rect.unit off' size inb', v'⟩ := by subst h; subst hv; rfl

theorem read_congr {s : Shape} {e : EltTy} (arg : Memref sig .tc .vmem s e) (X : BufTy.Contents (Elt F) arg.view.ty) {off off' : Fin s.rank → ℕ} {size : Fin s.rank → ℕ} (h : off = off')
    (inb : ∀ a, off a + size a ≤ s.size a) (inb' : ∀ a, off' a + size a ≤ s.size a) :
    View.readAt (Elt F) arg.view (Rect.unit off size inb).toLoadRect X = View.readAt (Elt F) arg.view (Rect.unit off' size inb').toLoadRect X := by subst h; rfl

theorem trips_eq : k0_t1_loop.trips = 15 := by decide +kernel

/-! ### The offsets of trip `k` -/

theorem off_pair : ∀ k : Fin k0_t1_loop.trips, k0_off35 k = ![k.val % 15, 0, 0] := by decide +kernel
theorem off_lane : ∀ k : Fin k0_t1_loop.trips, k0_off40 k = ![0, 0, 128 * (k.val % 15)] := by decide +kernel
theorem off_ctx0 : ∀ k : Fin k0_t1_loop.trips, k0_off36 k 0#32 = ![0, 2 * k.val % 30, 0, 0] := by decide +kernel
theorem off_ctx1 : ∀ k : Fin k0_t1_loop.trips, k0_off36 k 1#32 = ![0, (2 * k.val + 1) % 30, 0, 0] := by decide +kernel
theorem off_head0 : ∀ k : Fin k0_t1_loop.trips, k0_off37 k 0#32 = ![0, 2 * k.val % 30, 0, 0] := by decide +kernel
theorem off_head1 : ∀ k : Fin k0_t1_loop.trips, k0_off37 k 1#32 = ![0, (2 * k.val + 1) % 30, 0, 0] := by decide +kernel
theorem off_cs0 (i : grid0.Coords) (k : Fin k0_t1_loop.trips) : k0_off38 i k 0#32 = ![2 * k.val % 30, batchOff i, 0] := by
  have h : ∀ k : Fin k0_t1_loop.trips, (k0_off36 k 0#32) 1 = 2 * k.val % 30 := by decide +kernel
  exact congrArg (fun n => ![n, batchOff i, 0]) (h k)
theorem off_cs1 (i : grid0.Coords) (k : Fin k0_t1_loop.trips) : k0_off38 i k 1#32 = ![(2 * k.val + 1) % 30, batchOff i, 0] := by
  have h : ∀ k : Fin k0_t1_loop.trips, (k0_off36 k 1#32) 1 = (2 * k.val + 1) % 30 := by decide +kernel
  exact congrArg (fun n => ![n, batchOff i, 0]) (h k)
theorem off_vs0 (i : grid0.Coords) (k : Fin k0_t1_loop.trips) : k0_off39 i k 0#32 = ![2 * k.val % 30, batchOff i, 0] := by
  have h : ∀ k : Fin k0_t1_loop.trips, (k0_off36 k 0#32) 1 = 2 * k.val % 30 := by decide +kernel
  exact congrArg (fun n => ![n, batchOff i, 0]) (h k)
theorem off_vs1 (i : grid0.Coords) (k : Fin k0_t1_loop.trips) : k0_off39 i k 1#32 = ![(2 * k.val + 1) % 30, batchOff i, 0] := by
  have h : ∀ k : Fin k0_t1_loop.trips, (k0_off36 k 1#32) 1 = (2 * k.val + 1) % 30 := by decide +kernel
  exact congrArg (fun n => ![n, batchOff i, 0]) (h k)

section Trip

variable (𝒱 : Variants) (c : Dev nD) (bd : Option 𝒱.V) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole) (arg0 : BitVec 32) (v2608 : FVec F S384x256 .f32) (v2734 : FVec F S1x256 .f32) (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty)

/-- What trip `n` stores, from the contents of the buffers it reads. -/
def pairRead (i : grid0.Coords) (arg7 : Memref sig .tc .vmem S1x30x64x424 .i8) (arg8 : Memref sig .tc .vmem S1x30x64x424 .i8) (arg9 : Memref sig .tc .vmem S30x48x424 .f32) (arg16 : Memref sig .tc .vmem S1x30x64x256 .i8) (arg17 : Memref sig .tc .vmem S1x30x64x256 .i8) (arg18 : Memref sig .tc .vmem S30x48x256 .f32) (arg22 : Memref sig .tc .vmem S15x256x128 .bf16)
    (X_arg7 : BufTy.Contents (Elt F) arg7.view.ty) (X_arg8 : BufTy.Contents (Elt F) arg8.view.ty) (X_arg9 : BufTy.Contents (Elt F) arg9.view.ty) (X_arg16 : BufTy.Contents (Elt F) arg16.view.ty) (X_arg17 : BufTy.Contents (Elt F) arg17.view.ty) (X_arg18 : BufTy.Contents (Elt F) arg18.view.ty) (X_arg22 : BufTy.Contents (Elt F) arg22.view.ty) (n : ℕ) : FVec F S1x256x128 .f32 :=
  pairOut (View.readAt (Elt F) arg22.view (pairRect n).toLoadRect X_arg22)
    (View.readAt (Elt F) arg7.view (ctxRect (2 * n)).toLoadRect X_arg7) (View.readAt (Elt F) arg16.view (headRect (2 * n)).toLoadRect X_arg16) (View.readAt (Elt F) arg9.view (ctxScaleRect i (2 * n)).toLoadRect X_arg9)
    (View.readAt (Elt F) arg18.view (vScaleRect i (2 * n)).toLoadRect X_arg18) (View.readAt (Elt F) arg8.view (ctxRect (2 * n)).toLoadRect X_arg8) (View.readAt (Elt F) arg17.view (headRect (2 * n)).toLoadRect X_arg17)
    (View.readAt (Elt F) arg7.view (ctxRect (2 * n + 1)).toLoadRect X_arg7) (View.readAt (Elt F) arg16.view (headRect (2 * n + 1)).toLoadRect X_arg16) (View.readAt (Elt F) arg9.view (ctxScaleRect i (2 * n + 1)).toLoadRect X_arg9)
    (View.readAt (Elt F) arg18.view (vScaleRect i (2 * n + 1)).toLoadRect X_arg18) (View.readAt (Elt F) arg8.view (ctxRect (2 * n + 1)).toLoadRect X_arg8) (View.readAt (Elt F) arg17.view (headRect (2 * n + 1)).toLoadRect X_arg17)

theorem trip_eq (k : Fin k0_t1_loop.trips) : (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 k)
    = [⟨laneRect k.val, pairRead i arg7 arg8 arg9 arg16 arg17 arg18 arg22 X_arg7 X_arg8 X_arg9 X_arg16 X_arg17 X_arg18 X_arg22 k.val⟩] := by
  unfold tripL_k0_t1 trip_k0_t1
  refine congrArg (fun p : View.Piece (Elt F) S1x256x1920 .f32 => [p]) (piece_congr (F := F) (s := S1x256x1920) (e := .f32) (size := S1x256x128.size) (off_lane k) (k0_off40_inb k) (inb_lane k.val) _ _ ?_)
  unfold pairRead
  rw [← read_congr arg22 X_arg22 (off_pair k) (k0_off35_inb k) (inb_pair k.val),
    ← read_congr arg7 X_arg7 (off_ctx0 k) (k0_off36_inb k 0) (inb_ctx (2 * k.val)), ← read_congr arg7 X_arg7 (off_ctx1 k) (k0_off36_inb k 1) (inb_ctx (2 * k.val + 1)),
    ← read_congr arg8 X_arg8 (off_ctx0 k) (k0_off36_inb k 0) (inb_ctx (2 * k.val)), ← read_congr arg8 X_arg8 (off_ctx1 k) (k0_off36_inb k 1) (inb_ctx (2 * k.val + 1)),
    ← read_congr arg16 X_arg16 (off_head0 k) (k0_off37_inb k 0) (inb_head (2 * k.val)), ← read_congr arg16 X_arg16 (off_head1 k) (k0_off37_inb k 1) (inb_head (2 * k.val + 1)),
    ← read_congr arg17 X_arg17 (off_head0 k) (k0_off37_inb k 0) (inb_head (2 * k.val)), ← read_congr arg17 X_arg17 (off_head1 k) (k0_off37_inb k 1) (inb_head (2 * k.val + 1)),
    ← read_congr arg9 X_arg9 (off_cs0 i k) (k0_off38_inb i k 0) (inb_ctxScale i (2 * k.val)), ← read_congr arg9 X_arg9 (off_cs1 i k) (k0_off38_inb i k 1) (inb_ctxScale i (2 * k.val + 1)),
    ← read_congr arg18 X_arg18 (off_vs0 i k) (k0_off39_inb i k 0) (inb_vScale i (2 * k.val)), ← read_congr arg18 X_arg18 (off_vs1 i k) (k0_off39_inb i k 1) (inb_vScale i (2 * k.val + 1))]
  rfl

theorem loop_upto : ∀ n : ℕ, n ≤ 15 → pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 n
    = attnPieces (pairRead i arg7 arg8 arg9 arg16 arg17 arg18 arg22 X_arg7 X_arg8 X_arg9 X_arg16 X_arg17 X_arg18 X_arg22) n
  | 0, _ => rfl
  | n + 1, h => by
    refine (pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 ⟨n, by rw [trips_eq]; omega⟩).trans ?_
    rw [trip_eq]
    show _ :: pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 n = _
    rw [loop_upto n (by omega)]
    rfl

theorem loop_eq : pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 (Scf.trips k0_t1_loop.lb k0_t1_loop.ub k0_t1_loop.st)
    = attnPieces (pairRead i arg7 arg8 arg9 arg16 arg17 arg18 arg22 X_arg7 X_arg8 X_arg9 X_arg16 X_arg17 X_arg18 X_arg22) 15 := by
  have e : Scf.trips k0_t1_loop.lb k0_t1_loop.ub k0_t1_loop.st = 15 := trips_eq
  rw [e]
  exact loop_upto 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v2608 v2734 X_arg7 X_arg8 X_arg9 X_arg16 X_arg17 X_arg18 X_arg22 15 le_rfl

end Trip

end Cert.Attn
-- ==== Proof.Attn.Body.lean ====
/- What the body of the attention half computes from its blocks, with no buffer in it: the tiles of `Tiles.lean` at the
   blocks, put together. The pieces of the run are these (`run_*`). -/
module

public import proofs.«01_k».proof.Proof.Attn.Run
public import proofs.«01_k».proof.Proof.Attn.Tiles
public import proofs.«01_k».proof.Proof.Attn.Trip
public import Idealize.ShloMosaic.Lib.Pipeline.Value
public import Idealize.ShloMosaic.Lib.WritesUnit
public import Idealize.ShloMosaic.Lib.ValueIdx
public import proofs.«01_k».proof.Proof.Common.Layout

@[expose] public section

set_option maxRecDepth 16384

noncomputable section

namespace Cert.Attn

open Cert.AttnKernelIdeal Cert.AttnKernelIdeal.Gen
open Idealize.ShloMosaic Idealize.ShloMosaic.TcCoe Idealize.ShloMosaic.Tactic

variable {F : FTy → Type} [FloatOps F]

theorem inb_hm (h : ℕ) : ∀ a, (![h % 30] : Fin 1 → ℕ) a + S1.size a ≤ S30.size a := by
  have h := Nat.mod_lt h (show 0 < 30 by omega)
  intro a; fin_cases a
  show _ % 30 + 1 ≤ 30; omega

/-- The factor of one head. -/
abbrev hmRect (h : ℕ) : Rect S30 := Rect.unit ![h % 30] S1.size (inb_hm h)
theorem hm_pos (h : ℕ) : 0 < (hmRect h).shape.numel := (by decide : 0 < S1.numel)
def hmAt (x5 : Vec F S30 .f32) (h : ℕ) : Elt F .f32 := View.ld x5 (hmRect h) (Shape.Idx.first (hm_pos h))

section Blocks

variable (i : grid0.Coords) (x0 : Vec F S1x256x1920 .bf16) (x1 : Vec F S6x48x1920 .f32) (x2 : Vec F S5760x1920 .fp8e4m3) (x3 : Vec F S5760x1 .f32) (x4 : Vec F S5760x1 .f32) (x5 : Vec F S30 .f32) (x6 : Vec F S1x30x64x424 .i8) (x7 : Vec F S1x30x64x424 .i8) (x8 : Vec F S30x48x424 .f32) (x9 : Vec F S1920x1920 .fp8e4m3) (x10 : Vec F S1x1920 .f32) (x11 : Vec F S1x1920 .f32)

/-- The gate of the residual: row 0 of the conditioning at this batch. -/
def gammaRow : FVec F S1x1920 .f32 := k0_pay18 (View.ld x1 (Rect.unit (k0_off1 i) S1x1x1920.size (k0_off1_inb i)))
/-- One plus the scale: row 2 of the conditioning at this batch. -/
def mulRow : FVec F S1x1920 .f32 := k0_pay19 (View.ld x1 (Rect.unit (k0_off2 i) S1x1x1920.size (k0_off2_inb i)))
/-- The shift: row 4 of the conditioning at this batch. -/
def addRow : FVec F S1x1920 .f32 := k0_pay20 (View.ld x1 (Rect.unit (k0_off3 i) S1x1x1920.size (k0_off3_inb i)))

/-- The scales of the LayerNorm rows. -/
def sCol : FVec F S256x1 .f32 := stack (fun k => rowScale (mulRow i x1) (addRow i x1) (View.ld x0 (rowRect k)))
/-- The stores of the codes of the LayerNorm rows, and the codes. -/
def c1Pieces : List (View.Piece (Elt F) S1x256x1920 .fp8e4m3) := rowPieces (fun k => rowCodes (mulRow i x1) (addRow i x1) (View.ld x0 (rowRect k))) 8
def c1Blk : Vec F S1x256x1920 .fp8e4m3 := View.canon (c1Pieces i x0 x1)
/-- The queries, as the scratch holds them. -/
def qPcs : List (View.Piece (Elt F) S15x256x128 .bf16) := qPieces (toRow (sCol i x0 x1)) (k0_pay61 (c1Blk i x0 x1)) (fun k => View.ld x2 (wRect k)) (fun k => View.ld x3 (wsRect k)) (fun k => View.ld x4 (wsRect k)) (hmAt x5) 15
/-- The codes of the keys and of the values. -/
def kcPieces : List (View.Piece (Elt F) S1x30x64x256 .i8) := kPieces (toRow (sCol i x0 x1)) (k0_pay61 (c1Blk i x0 x1)) (fun k => View.ld x2 (wRect k)) (fun k => View.ld x3 (wsRect k)) 30
def vcPieces : List (View.Piece (Elt F) S1x30x64x256 .i8) := vPieces (toRow (sCol i x0 x1)) (k0_pay61 (c1Blk i x0 x1)) (fun k => View.ld x2 (wRect k)) (fun k => View.ld x3 (wsRect k)) (fun k => View.ld x4 (wsRect k)) 30
def qScr : Vec F S15x256x128 .bf16 := View.canon (qPcs i x0 x1 x2 x3 x4 x5)
def kcBlk : Vec F S1x30x64x256 .i8 := View.canon (kcPieces i x0 x1 x2 x3)
def vcBlk : Vec F S1x30x64x256 .i8 := View.canon (vcPieces i x0 x1 x2 x3 x4)
/-- The scales of the values of one head. -/
def vsRow (h : ℕ) : FVec F S1x256 .f32 := vScale (vHead (toRow (sCol i x0 x1)) (k0_pay61 (c1Blk i x0 x1)) (fun k => View.ld x2 (wRect k)) (fun k => View.ld x3 (wsRect k)) (fun k => View.ld x4 (wsRect k)) h)
/-- The lanes of one pair of heads. -/
def pairAt (n : ℕ) : FVec F S1x256x128 .f32 :=
  pairOut (View.ld (qScr i x0 x1 x2 x3 x4 x5) (pairRect n))
    (View.ld x6 (ctxRect (2 * n))) (View.ld (kcBlk i x0 x1 x2 x3) (headRect (2 * n))) (View.ld x8 (ctxScaleRect i (2 * n)))
    (shapeCast S1x1x256 (vsRow i x0 x1 x2 x3 x4 (2 * n)) shapeCasts_S1x256_S1x1x256) (View.ld x7 (ctxRect (2 * n))) (View.ld (vcBlk i x0 x1 x2 x3 x4) (headRect (2 * n)))
    (View.ld x6 (ctxRect (2 * n + 1))) (View.ld (kcBlk i x0 x1 x2 x3) (headRect (2 * n + 1))) (View.ld x8 (ctxScaleRect i (2 * n + 1)))
    (shapeCast S1x1x256 (vsRow i x0 x1 x2 x3 x4 (2 * n + 1)) shapeCasts_S1x256_S1x1x256) (View.ld x7 (ctxRect (2 * n + 1))) (View.ld (vcBlk i x0 x1 x2 x3 x4) (headRect (2 * n + 1)))
/-- The attention of all heads. -/
def attnPcs : List (View.Piece (Elt F) S1x256x1920 .f32) := attnPieces (pairAt i x0 x1 x2 x3 x4 x5 x6 x7 x8) 15
def attnBlk : Vec F S1x256x1920 .f32 := View.canon (attnPcs i x0 x1 x2 x3 x4 x5 x6 x7 x8)
/-- The scales of its rows, -/
def soCol : FVec F S256x1 .f32 := stack (fun k => outScale (View.ld (attnBlk i x0 x1 x2 x3 x4 x5 x6 x7 x8) (rowRect k)))
/-- and their codes. -/
def coPieces : List (View.Piece (Elt F) S1x256x1920 .fp8e4m3) := rowPieces (fun k => outCodes (View.ld (attnBlk i x0 x1 x2 x3 x4 x5 x6 x7 x8) (rowRect k))) 8
def coBlk : Vec F S1x256x1920 .fp8e4m3 := View.canon (coPieces i x0 x1 x2 x3 x4 x5 x6 x7 x8)
/-- The residual after the attention. -/
def midBlk : Vec F S1x256x1920 .f32 :=
  k0_pay1 (gammaRow i x1) (soCol i x0 x1 x2 x3 x4 x5 x6 x7 x8) (coBlk i x0 x1 x2 x3 x4 x5 x6 x7 x8) x9 x10 x11 x0

end Blocks

theorem readAt_ld {sp : Space} {s : Shape} {e : EltTy} (arg : Memref sig .tc sp s e) (harg : arg.IsWhole) (x : Vec F s e) (r : Rect s) :
    View.readAt (Elt F) arg.view r.toLoadRect (harg.unread x) = View.ld x r := by
  rw [View.readAt_eq_ld, harg.read_unread]

/-- The stores of the values' scales at one batch's rows, read anywhere. -/
theorem vs_read {sp : Space} (arg : Memref sig .tc sp S30x48x256 .f32) (X : BufTy.Contents (Elt F) arg.view.ty) (i : grid0.Coords) (f : ℕ → FVec F S1x256 .f32) (y : S30x48x256.Idx) (n : ℕ) (hn : n ≤ 30) :
    arg.view.read (Elt F) (arg.view.writes (Elt F) X (vsPieces i f n)) y
      = if (y 1).val = batchOff i ∧ (y 0).val < n then f (y 0).val (ValueIdx.ix2 (0 : Fin 1) (y 2 : Fin 256)) else arg.view.read (Elt F) X y := by
  induction n with
  | zero => rw [if_neg (by omega)]; rfl
  | succ n ih =>
    have hm : n % 30 = n := Nat.mod_eq_of_lt (by omega)
    have ih := ih (by omega)
    have step : vsPieces i f (n + 1) = ⟨vScaleRect i n, shapeCast S1x1x256 (f n) shapeCasts_S1x256_S1x1x256⟩ :: vsPieces i f n := rfl
    rw [step]
    generalize vsPieces i f n = L at ih
    by_cases hb : (y 1).val = batchOff i
    · by_cases h0 : (y 0).val = n
      · rw [if_pos ⟨hb, by omega⟩]
        have e := View.read_writes_cons_unit_of_mem arg.view X (inb_vScale i n) (shapeCast S1x1x256 (f n) shapeCasts_S1x256_S1x1x256) L y (ValueIdx.ix3 (0 : Fin 1) (0 : Fin 1) (y 2 : Fin 256)) rfl
          (Layout.forall_three (by show (y 0).val = n % 30 + 0; omega) (by show (y 1).val = batchOff i + 0; omega) (by show (y 2).val = 0 + (y 2).val; omega))
        refine e.trans ((shapeCast_apply (f n) shapeCasts_S1x256_S1x1x256 _ (ValueIdx.ix2 (0 : Fin 1) (y 2 : Fin 256)) ?_).trans (by rw [h0]))
        rw [Shape.rowMajor_val_two, Shape.rowMajor_val_three]
        show 0 * 256 + (y 2).val = (0 * 1 + 0) * 256 + (y 2).val
        omega
      · have e := View.read_writes_cons_unit_of_not_mem arg.view X (inb_vScale i n) (shapeCast S1x1x256 (f n) shapeCasts_S1x256_S1x1x256) L y rfl 0 (by show (y 0).val < n % 30 ∨ n % 30 + 1 ≤ (y 0).val; omega)
        refine (e.trans ih).trans ?_
        by_cases h1 : (y 0).val < n
        · rw [if_pos ⟨hb, h1⟩, if_pos ⟨hb, by omega⟩]
        · rw [if_neg (fun h => h1 h.2), if_neg (fun h => by have := h.2; omega)]
    · have e := View.read_writes_cons_unit_of_not_mem arg.view X (inb_vScale i n) (shapeCast S1x1x256 (f n) shapeCasts_S1x256_S1x1x256) L y rfl 1 (by show (y 1).val < batchOff i ∨ batchOff i + 1 ≤ (y 1).val; omega)
      refine (e.trans ih).trans ?_
      rw [if_neg (fun h => hb h.1), if_neg (fun h => hb h.1)]

theorem vs_load {sp : Space} (arg : Memref sig .tc sp S30x48x256 .f32) (X : BufTy.Contents (Elt F) arg.view.ty) (i : grid0.Coords) (f : ℕ → FVec F S1x256 .f32) (h : ℕ) (hh : h < 30) :
    View.readAt (Elt F) arg.view (vScaleRect i h).toLoadRect (arg.view.writes (Elt F) X (vsPieces i f 30)) = shapeCast S1x1x256 (f h) shapeCasts_S1x256_S1x1x256 := by
  have hm : h % 30 = h := Nat.mod_eq_of_lt hh
  funext j
  refine (vs_read arg X i f ((vScaleRect i h).emb j) 30 le_rfl).trans ?_
  have j0 : (j 0).val = 0 := by have : (j 0).val < 1 := (j 0).isLt; omega
  have j1 : (j 1).val = 0 := by have : (j 1).val < 1 := (j 1).isLt; omega
  have e0 : ((vScaleRect i h).emb j 0).val = h := by show h % 30 + 1 * (j 0).val = h; omega
  have e1 : ((vScaleRect i h).emb j 1).val = batchOff i := by show batchOff i + 1 * (j 1).val = batchOff i; omega
  have e2 : (vScaleRect i h).emb j 2 = j 2 := Fin.ext (by show 0 + 1 * (j 2).val = (j 2).val; omega)
  rw [if_pos ⟨e1, by omega⟩, e0, e2]
  exact (shapeCast_apply (f h) _ _ _ (by
    rw [Shape.rowMajor_val_two, Shape.rowMajor_val_three]
    show 0 * 256 + (j 2).val = ((j 0).val * 1 + (j 1).val) * 256 + (j 2).val
    rw [j0, j1])).symm

/-- Two lists of lanes with the same tiles. -/
theorem attnPieces_congr {f g : ℕ → FVec F S1x256x128 .f32} : ∀ n, (∀ k < n, f k = g k) → attnPieces f n = attnPieces g n
  | 0, _ => rfl
  | n + 1, h => by
    show (⟨laneRect n, f n⟩ : View.Piece (Elt F) S1x256x1920 .f32) :: attnPieces f n = ⟨laneRect n, g n⟩ :: attnPieces g n
    rw [h n (by omega), attnPieces_congr n fun k hk => h k (by omega)]

section Found

variable (c : Dev nD) (i : grid0.Coords) (arg1 : Memref sig .tc .vmem S1x256x1920 .bf16) (harg1 : arg1.IsWhole) (arg2 : Memref sig .tc .vmem S6x48x1920 .f32) (harg2 : arg2.IsWhole) (arg3 : Memref sig .tc .vmem S5760x1920 .fp8e4m3) (harg3 : arg3.IsWhole) (arg4 : Memref sig .tc .vmem S5760x1 .f32) (harg4 : arg4.IsWhole) (arg5 : Memref sig .tc .vmem S5760x1 .f32) (harg5 : arg5.IsWhole) (arg6 : Memref sig .tc .smem S30 .f32) (harg6 : arg6.IsWhole) (arg7 : Memref sig .tc .vmem S1x30x64x424 .i8) (harg7 : arg7.IsWhole) (arg8 : Memref sig .tc .vmem S1x30x64x424 .i8) (harg8 : arg8.IsWhole) (arg9 : Memref sig .tc .vmem S30x48x424 .f32) (harg9 : arg9.IsWhole) (arg10 : Memref sig .tc .vmem S1920x1920 .fp8e4m3) (harg10 : arg10.IsWhole) (arg11 : Memref sig .tc .vmem S1x1920 .f32) (harg11 : arg11.IsWhole) (arg12 : Memref sig .tc .vmem S1x1920 .f32) (harg12 : arg12.IsWhole) (arg13 : Memref sig .tc .vmem S1x256x1920 .f32) (harg13 : arg13.IsWhole) (arg14 : Memref sig .tc .vmem S1x256x1920 .fp8e4m3) (harg14 : arg14.IsWhole) (arg15 : Memref sig .tc .vmem S48x256 .f32) (harg15 : arg15.IsWhole) (arg16 : Memref sig .tc .vmem S1x30x64x256 .i8) (harg16 : arg16.IsWhole) (arg17 : Memref sig .tc .vmem S1x30x64x256 .i8) (harg17 : arg17.IsWhole) (arg18 : Memref sig .tc .vmem S30x48x256 .f32) (harg18 : arg18.IsWhole) (arg19 : Memref sig .tc .vmem S1x256x1920 .fp8e4m3) (harg19 : arg19.IsWhole) (arg20 : Memref sig .tc .vmem S48x256 .f32) (harg20 : arg20.IsWhole) (arg21 : Memref sig .tc .vmem S1x256x1920 .f32) (harg21 : arg21.IsWhole) (arg22 : Memref sig .tc .vmem S15x256x128 .bf16) (harg22 : arg22.IsWhole) (arg23 : Memref sig .tc .vmem S8x128 .f32) (harg23 : arg23.IsWhole)
  (x0 : Vec F S1x256x1920 .bf16) (x1 : Vec F S6x48x1920 .f32) (x2 : Vec F S5760x1920 .fp8e4m3) (x3 : Vec F S5760x1 .f32) (x4 : Vec F S5760x1 .f32) (x5 : Vec F S30 .f32) (x6 : Vec F S1x30x64x424 .i8) (x7 : Vec F S1x30x64x424 .i8) (x8 : Vec F S30x48x424 .f32) (x9 : Vec F S1920x1920 .fp8e4m3) (x10 : Vec F S1x1920 .f32) (x11 : Vec F S1x1920 .f32) (x12 : Vec F S1x256x1920 .f32) (x13 : Vec F S1x256x1920 .fp8e4m3) (x14 : Vec F S48x256 .f32) (x15 : Vec F S1x30x64x256 .i8) (x16 : Vec F S1x30x64x256 .i8) (x17 : Vec F S30x48x256 .f32) (x18 : Vec F S1x256x1920 .fp8e4m3) (x19 : Vec F S48x256 .f32) (x20 : Vec F S1x256x1920 .f32) (z0 : Vec F S15x256x128 .bf16) (z1 : Vec F S8x128 .f32)

theorem found_gamma : kernelRun.sl.r c i arg2 harg2 x1 = gammaRow i x1 := congrArg k0_pay18 (readAt_ld arg2 harg2 x1 _)
theorem found_mul : kernelRun.sl.r_1 c i arg2 harg2 x1 = mulRow i x1 := congrArg k0_pay19 (readAt_ld arg2 harg2 x1 _)
theorem found_add : kernelRun.sl.r_2 c i arg2 harg2 x1 = addRow i x1 := congrArg k0_pay20 (readAt_ld arg2 harg2 x1 _)

theorem ldX_eq : (fun k => View.readAt (Elt F) arg1.view (rowRect k).toLoadRect (harg1.unread x0)) = fun k => View.ld x0 (rowRect k) := funext fun k => readAt_ld arg1 harg1 x0 (rowRect k)
theorem ldW_eq : (fun k => View.readAt (Elt F) arg3.view (wRect k).toLoadRect (harg3.unread x2)) = fun k => View.ld x2 (wRect k) := funext fun k => readAt_ld arg3 harg3 x2 (wRect k)
theorem ldS_eq (arg : Memref sig .tc .vmem S5760x1 .f32) (harg : arg.IsWhole) (x : Vec F S5760x1 .f32) :
    (fun k => View.readAt (Elt F) arg.view (wsRect k).toLoadRect (harg.unread x)) = fun k => View.ld x (wsRect k) := funext fun k => readAt_ld arg harg x (wsRect k)
theorem ldH_eq : (fun h => View.readAt (Elt F) arg6.view (hmRect h).toLoadRect (harg6.unread x5) (Shape.Idx.first (hm_pos h))) = hmAt x5 := funext fun h => congrFun (readAt_ld arg6 harg6 x5 (hmRect h)) _

theorem found_sRow' : (kernelRun.sl.r_28 c i arg1 harg1 arg2 harg2 x0 x1) = toRow (stack (fun k => rowScale (kernelRun.sl.r_1 c i arg2 harg2 x1) (kernelRun.sl.r_2 c i arg2 harg2 x1) ((fun k => View.readAt (Elt F) arg1.view (rowRect k).toLoadRect (harg1.unread x0)) k))) := rfl
theorem found_sRow : (kernelRun.sl.r_28 c i arg1 harg1 arg2 harg2 x0 x1) = toRow (sCol i x0 x1) := by
  rw [found_sRow', found_mul, found_add, ldX_eq]; rfl
theorem found_c1' : kernelRun.sl.H13_8 c i arg1 harg1 arg2 harg2 x0 x1 = rowPieces (fun k => rowCodes (kernelRun.sl.r_1 c i arg2 harg2 x1) (kernelRun.sl.r_2 c i arg2 harg2 x1) ((fun k => View.readAt (Elt F) arg1.view (rowRect k).toLoadRect (harg1.unread x0)) k)) 8 := rfl
theorem found_c1 : kernelRun.sl.H13_8 c i arg1 harg1 arg2 harg2 x0 x1 = c1Pieces i x0 x1 := by
  rw [found_c1', found_mul, found_add, ldX_eq]; rfl
theorem found_codes : (kernelRun.sl.r_29 c i arg1 harg1 arg2 harg2 arg14 x0 x1) = k0_pay61 (c1Blk i x0 x1) := by
  unfold kernelRun.sl.r_29 kernelRun.sl.v386
  rw [found_c1]
  exact congrArg k0_pay61 ((View.readCov_eq_canon' _ _ _).trans (View.ld_unit_zero (by funext a; fin_cases a <;> rfl) _ _))

theorem found_q' : kernelRun.sl.HS0_15 c i arg1 harg1 arg2 harg2 arg3 harg3 arg4 harg4 arg5 harg5 arg6 harg6 arg14 x0 x1 x2 x3 x4 x5 = qPieces (kernelRun.sl.r_28 c i arg1 harg1 arg2 harg2 x0 x1) (kernelRun.sl.r_29 c i arg1 harg1 arg2 harg2 arg14 x0 x1)
    (fun k => View.readAt (Elt F) arg3.view (wRect k).toLoadRect (harg3.unread x2)) (fun k => View.readAt (Elt F) arg4.view (wsRect k).toLoadRect (harg4.unread x3)) (fun k => View.readAt (Elt F) arg5.view (wsRect k).toLoadRect (harg5.unread x4))
    (fun h => View.readAt (Elt F) arg6.view (hmRect h).toLoadRect (harg6.unread x5) (Shape.Idx.first (hm_pos h))) 15 := rfl
theorem found_q : kernelRun.sl.HS0_15 c i arg1 harg1 arg2 harg2 arg3 harg3 arg4 harg4 arg5 harg5 arg6 harg6 arg14 x0 x1 x2 x3 x4 x5 = qPcs i x0 x1 x2 x3 x4 x5 := by
  rw [found_q', found_sRow, found_codes, ldW_eq, ldS_eq, ldS_eq, ldH_eq]; rfl
theorem found_k' : kernelRun.sl.H15_30 c i arg1 harg1 arg2 harg2 arg3 harg3 arg4 harg4 arg14 x0 x1 x2 x3 = kPieces (kernelRun.sl.r_28 c i arg1 harg1 arg2 harg2 x0 x1) (kernelRun.sl.r_29 c i arg1 harg1 arg2 harg2 arg14 x0 x1)
    (fun k => View.readAt (Elt F) arg3.view (wRect k).toLoadRect (harg3.unread x2)) (fun k => View.readAt (Elt F) arg4.view (wsRect k).toLoadRect (harg4.unread x3)) 30 := rfl
theorem found_k : kernelRun.sl.H15_30 c i arg1 harg1 arg2 harg2 arg3 harg3 arg4 harg4 arg14 x0 x1 x2 x3 = kcPieces i x0 x1 x2 x3 := by
  rw [found_k', found_sRow, found_codes, ldW_eq, ldS_eq]; rfl
theorem found_v' : kernelRun.sl.H16_30 c i arg1 harg1 arg2 harg2 arg3 harg3 arg4 harg4 arg5 harg5 arg14 x0 x1 x2 x3 x4 = vPieces (kernelRun.sl.r_28 c i arg1 harg1 arg2 harg2 x0 x1) (kernelRun.sl.r_29 c i arg1 harg1 arg2 harg2 arg14 x0 x1)
    (fun k => View.readAt (Elt F) arg3.view (wRect k).toLoadRect (harg3.unread x2)) (fun k => View.readAt (Elt F) arg4.view (wsRect k).toLoadRect (harg4.unread x3)) (fun k => View.readAt (Elt F) arg5.view (wsRect k).toLoadRect (harg5.unread x4)) 30 := rfl
theorem found_v : kernelRun.sl.H16_30 c i arg1 harg1 arg2 harg2 arg3 harg3 arg4 harg4 arg5 harg5 arg14 x0 x1 x2 x3 x4 = vcPieces i x0 x1 x2 x3 x4 := by
  rw [found_v', found_sRow, found_codes, ldW_eq, ldS_eq, ldS_eq]; rfl

theorem run_vs' : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.2.2.2.2.1 = vsPieces i (fun h => vScale (vHead (kernelRun.sl.r_28 c i arg1 harg1 arg2 harg2 x0 x1) (kernelRun.sl.r_29 c i arg1 harg1 arg2 harg2 arg14 x0 x1)
    (fun k => View.readAt (Elt F) arg3.view (wRect k).toLoadRect (harg3.unread x2)) (fun k => View.readAt (Elt F) arg4.view (wsRect k).toLoadRect (harg4.unread x3)) (fun k => View.readAt (Elt F) arg5.view (wsRect k).toLoadRect (harg5.unread x4)) h)) 30 := rfl
theorem run_vs : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.2.2.2.2.1 = vsPieces i (vsRow i x0 x1 x2 x3 x4) 30 := by
  rw [run_vs', found_sRow, found_codes, ldW_eq, ldS_eq, ldS_eq]; rfl

theorem run_attn' : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).1 = pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 0).val) (kernelRun.sl.r_192 c i arg1 harg1 arg2 harg2 arg3 harg3 arg4 harg4 arg5 harg5 arg14 x0 x1 x2 x3 x4) (kernelRun.sl.r_199 c i arg1 harg1 arg2 harg2 arg3 harg3 arg4 harg4 arg5 harg5 arg14 x0 x1 x2 x3 x4)
    (harg7.unread x6) (harg8.unread x7) (harg9.unread x8) (arg16.view.writes (Elt F) arg16.view.junk (kernelRun.sl.H15_30 c i arg1 harg1 arg2 harg2 arg3 harg3 arg4 harg4 arg14 x0 x1 x2 x3)) (arg17.view.writes (Elt F) arg17.view.junk (kernelRun.sl.H16_30 c i arg1 harg1 arg2 harg2 arg3 harg3 arg4 harg4 arg5 harg5 arg14 x0 x1 x2 x3 x4))
    (arg18.view.writes (Elt F) (harg18.unread x17) (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.2.2.2.2.1) (arg22.view.writes (Elt F) arg22.view.junk (kernelRun.sl.HS0_15 c i arg1 harg1 arg2 harg2 arg3 harg3 arg4 harg4 arg5 harg5 arg6 harg6 arg14 x0 x1 x2 x3 x4 x5)) (Scf.trips k0_t1_loop.lb k0_t1_loop.ub k0_t1_loop.st) := rfl

theorem pairRead_eq (n : ℕ) (hn : n < 15) :
    pairRead i arg7 arg8 arg9 arg16 arg17 arg18 arg22 (harg7.unread x6) (harg8.unread x7) (harg9.unread x8) (arg16.view.writes (Elt F) arg16.view.junk (kcPieces i x0 x1 x2 x3)) (arg17.view.writes (Elt F) arg17.view.junk (vcPieces i x0 x1 x2 x3 x4))
      (arg18.view.writes (Elt F) (harg18.unread x17) (vsPieces i (vsRow i x0 x1 x2 x3 x4) 30)) (arg22.view.writes (Elt F) arg22.view.junk (qPcs i x0 x1 x2 x3 x4 x5)) n = pairAt i x0 x1 x2 x3 x4 x5 x6 x7 x8 n := by
  unfold pairRead pairAt
  rw [readAt_ld arg7 harg7 x6, readAt_ld arg7 harg7 x6, readAt_ld arg8 harg8 x7, readAt_ld arg8 harg8 x7, readAt_ld arg9 harg9 x8, readAt_ld arg9 harg9 x8,
    vs_load arg18 _ i _ (2 * n) (by omega), vs_load arg18 _ i _ (2 * n + 1) (by omega), View.readAt_writes_junk_eq_canon, View.readAt_writes_junk_eq_canon, View.readAt_writes_junk_eq_canon, View.readAt_writes_junk_eq_canon,
    View.readAt_writes_junk_eq_canon]
  rfl

theorem run_attn : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).1 = attnPcs i x0 x1 x2 x3 x4 x5 x6 x7 x8 := by
  rw [run_attn', loop_eq, run_vs, found_k, found_v, found_q]
  exact attnPieces_congr 15 fun n hn => pairRead_eq (i := i) arg7 harg7 arg8 harg8 arg9 harg9 arg16 arg17 arg18 harg18 arg22 x0 x1 x2 x3 x4 x5 x6 x7 x8 x17 n hn

theorem attn_cover : ∀ y, ∃ p ∈ attnPcs i x0 x1 x2 x3 x4 x5 x6 x7 x8, y ∈ p.1.set := View.cover_of_tiledL _ S1x256x128.size (by sl_kernel_rfl)

theorem attn_load (k : ℕ) : View.readAt (Elt F) arg13.view (rowRect k).toLoadRect (arg13.view.writes (Elt F) (harg13.unread x12) (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).1)
    = View.ld (attnBlk i x0 x1 x2 x3 x4 x5 x6 x7 x8) (rowRect k) := by
  rw [run_attn, View.readAt_eq_ld, View.read_writes_eq_canon _ _ _ (attn_cover i x0 x1 x2 x3 x4 x5 x6 x7 x8)]
  rfl

theorem run_co' : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.2.2.2.2.2.1 = rowPieces (fun k => outCodes (View.readAt (Elt F) arg13.view (rowRect k).toLoadRect (arg13.view.writes (Elt F) (harg13.unread x12) (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).1))) 8 := rfl
theorem run_co : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.2.2.2.2.2.1 = coPieces i x0 x1 x2 x3 x4 x5 x6 x7 x8 := by
  exact (run_co' c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).trans (congrArg (fun f => rowPieces (fun k => outCodes (f k)) 8) (funext fun k => attn_load c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1 k))
theorem found_so' : kernelRun.sl.r_214 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x12 x17 = stack (fun k => outScale (View.readAt (Elt F) arg13.view (rowRect k).toLoadRect (arg13.view.writes (Elt F) (harg13.unread x12) (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).1))) := rfl
include x9 x10 x11 x13 x14 x15 x16 x18 x19 x20 z0 z1 in
theorem found_so : kernelRun.sl.r_214 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x12 x17 = soCol i x0 x1 x2 x3 x4 x5 x6 x7 x8 := by
  refine (found_so' c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).trans ?_
  unfold soCol
  exact congrArg stack (funext fun k => congrArg outScale (attn_load c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1 k))
include x9 x10 x11 x13 x14 x15 x16 x18 x19 x20 z0 z1 in
theorem found_co : kernelRun.sl.v2975 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x12 x17 = coBlk i x0 x1 x2 x3 x4 x5 x6 x7 x8 := by
  refine (show kernelRun.sl.v2975 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x12 x17 = arg19.view.readCov (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.2.2.2.2.2.1 (Rect.unit ![0, 0, 0] ![1, 256, 1920] inb_S1x256x1920_S1x256x1920_0_0_0).toLoadRect from rfl).trans ?_
  rw [run_co]
  exact (View.readCov_eq_canon' _ _ _).trans (View.ld_unit_zero (by funext a; fin_cases a <;> rfl) _ _)

theorem run_c1 : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.1 = c1Pieces i x0 x1 := found_c1 c i arg1 harg1 arg2 harg2 x0 x1
theorem run_s1 : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.2.1 = [⟨Rect.unit (k0_off4 i) S1x256.size (k0_off4_inb i), toRow (sCol i x0 x1)⟩] := by
  rw [← found_sRow c i arg1 harg1 arg2 harg2 x0 x1]; rfl
theorem run_kc : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.2.2.1 = kcPieces i x0 x1 x2 x3 := found_k c i arg1 harg1 arg2 harg2 arg3 harg3 arg4 harg4 arg14 x0 x1 x2 x3
theorem run_vc : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.2.2.2.1 = vcPieces i x0 x1 x2 x3 x4 := found_v c i arg1 harg1 arg2 harg2 arg3 harg3 arg4 harg4 arg5 harg5 arg14 x0 x1 x2 x3 x4
theorem run_so : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.2.2.2.2.2.2.1 = [⟨Rect.unit (k0_off4 i) S1x256.size (k0_off4_inb i), toRow (soCol i x0 x1 x2 x3 x4 x5 x6 x7 x8)⟩] := by
  exact (show (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.2.2.2.2.2.2.1 = [⟨Rect.unit (k0_off4 i) S1x256.size (k0_off4_inb i), toRow (kernelRun.sl.r_214 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x12 x17)⟩] from rfl).trans
    (congrArg (fun v => [(⟨Rect.unit (k0_off4 i) S1x256.size (k0_off4_inb i), toRow v⟩ : View.Piece (Elt F) S48x256 .f32)]) (found_so c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1))
theorem run_mid : (kernelRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1).2.2.2.2.2.2.2.2.1 = [⟨Rect.unit ![0, 0, 0] S1x256x1920.size inb_S1x256x1920_S1x256x1920_0_0_0, midBlk i x0 x1 x2 x3 x4 x5 x6 x7 x8 x9 x10 x11⟩] := by
  have l9 : x9 = View.readAt (Elt F) arg10.view (Rect.unit ![0, 0] S1920x1920.size inb_S1920x1920_S1920x1920_0_0).toLoadRect (harg10.unread x9) := by
    rw [readAt_ld, View.ld_unit_zero (by funext a; fin_cases a <;> rfl)]
  have l10 : x10 = View.readAt (Elt F) arg11.view (Rect.unit ![0, 0] S1x1920.size inb_S1x1920_S1x1920_0_0).toLoadRect (harg11.unread x10) := by
    rw [readAt_ld, View.ld_unit_zero (by funext a; fin_cases a <;> rfl)]
  have l11 : x11 = View.readAt (Elt F) arg12.view (Rect.unit ![0, 0] S1x1920.size inb_S1x1920_S1x1920_0_0).toLoadRect (harg12.unread x11) := by
    rw [readAt_ld, View.ld_unit_zero (by funext a; fin_cases a <;> rfl)]
  have l0 : x0 = View.readAt (Elt F) arg1.view (Rect.unit ![0, 0, 0] S1x256x1920.size inb_S1x256x1920_S1x256x1920_0_0_0).toLoadRect (harg1.unread x0) := by
    rw [readAt_ld, View.ld_unit_zero (by funext a; fin_cases a <;> rfl)]
  have e := congr (congr (congr (congr (congr (congr (congrArg k0_pay1 (found_gamma c i arg2 harg2 x1)) (found_so c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1)) (found_co c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 x20 z0 z1)) l9.symm) l10.symm) l11.symm) l0.symm
  exact Eq.trans rfl (congrArg (fun v => [(⟨Rect.unit ![0, 0, 0] S1x256x1920.size inb_S1x256x1920_S1x256x1920_0_0_0, v⟩ : View.Piece (Elt F) S1x256x1920 .f32)]) e)

end Found

end Cert.Attn
-- ==== Proof.Attn.Frame.lean ====
/- The run of the attention-half program: what each output's staging buffer holds after each grid point, the proof data of the
   pipeline, the body obligation, the whole run and the frame.

   Six outputs are named exactly, block by block. The three resident outputs are stated by a relation: the body leaves the
   buffer as it found it except for one row (`rowSet`) or one row of each head (`layerSet`). -/
module

public import proofs.«01_k».proof.Proof.Attn.Body
public import Idealize.ShloMosaic.Lib.Pipeline.ArrRel
public import Idealize.ShloMosaic.Lib.WritesUnit
public import Idealize.ShloMosaic.Lib.Claim
public import Idealize.ShloMosaic.Lib.ValueIdx

@[expose] public section

set_option maxRecDepth 16384

noncomputable section

namespace Cert.Attn

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms0_0 (t : Fin cfg0.N) : Memref sig .tc .vmem S1x256x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x48x1920 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5760x1920 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5760x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5760x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S30 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x30x64x424 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x30x64x424 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S30x48x424 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1920x1920 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1920 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1920 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x1920 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x1920 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S48x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x30x64x256 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x30x64x256 .i8 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S30x48x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256x1920 .fp8e4m3 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S48x256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x256x1920 .f32 := win0_20.stage (cfg0.slots t 20)
abbrev hs0_20 (t : Fin cfg0.N) : (ms0_20 t).IsWhole := hstage0_20 ((cfg0.slots t 20).cast nbuf0_20)

/-- The scratch buffers. -/
abbrev scM0_0 : Memref sig .tc .vmem S15x256x128 .bf16 := Memref.whole cc0_scratch0
abbrev scM0_1 : Memref sig .tc .vmem S8x128 .f32 := Memref.whole cc0_scratch1
theorem PhiA0_eq (c : Dev nD) : (Pipeline.ΦA spec0 c : sProp 𝕄) = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The resident outputs get one row -/

/-- `Y` with row `k` set to `v`. -/
def rowSet (k : ℕ) (v : FVec F S1x256 .f32) (Y : Vec F S48x256 .f32) : Vec F S48x256 .f32 :=
  fun x => if (x 0).val = k then v (ValueIdx.ix2 (0 : Fin 1) (x 1 : Fin 256)) else Y x

/-- `Y` with row `k` of every head `h` set to `f h`. -/
def layerSet (k : ℕ) (f : ℕ → FVec F S1x256 .f32) (Y : Vec F S30x48x256 .f32) : Vec F S30x48x256 .f32 :=
  fun y => if (y 1).val = k then f (y 0).val (ValueIdx.ix2 (0 : Fin 1) (y 2 : Fin 256)) else Y y

theorem off4_eq : ∀ t : Fin cfg0.N, k0_off4 (grid0.coords t) = ![t.val, 0] :=
  (by decide +kernel : ∀ t : Fin grid0.N, k0_off4 (grid0.coords t) = ![t.val, 0])

theorem batchOff_eq : ∀ t : Fin cfg0.N, batchOff (grid0.coords t) = t.val :=
  (by decide +kernel : ∀ t : Fin grid0.N, batchOff (grid0.coords t) = t.val)

theorem read_row (t : Fin cfg0.N) (arg : Memref sig .tc .vmem S48x256 .f32) (harg : arg.IsWhole) (v : FVec F S1x256 .f32) (Y : Vec F S48x256 .f32) :
    arg.view.read (Elt F) (arg.view.writes (Elt F) (harg.unread Y) [⟨Rect.unit (k0_off4 (grid0.coords t)) S1x256.size (k0_off4_inb (grid0.coords t)), v⟩]) = rowSet t.val v Y := by
  funext x
  unfold rowSet
  split
  · next h =>
    exact View.read_writes_cons_unit_of_mem arg.view (harg.unread Y) (k0_off4_inb (grid0.coords t)) v [] x (ValueIdx.ix2 (0 : Fin 1) (x 1 : Fin 256)) (off4_eq t)
      (Fin.forall_fin_two.mpr ⟨h, (Nat.zero_add _).symm⟩)
  · next h =>
    have e := View.read_writes_cons_unit_of_not_mem arg.view (harg.unread Y) (k0_off4_inb (grid0.coords t)) v [] x (off4_eq t) 0 (by
      show (x 0).val < t.val ∨ t.val + 1 ≤ (x 0).val
      omega)
    exact e.trans (congrFun (harg.read_unread Y) x)

theorem read_layer (t : Fin cfg0.N) (arg : Memref sig .tc .vmem S30x48x256 .f32) (harg : arg.IsWhole) (f : ℕ → FVec F S1x256 .f32) (Y : Vec F S30x48x256 .f32) :
    arg.view.read (Elt F) (arg.view.writes (Elt F) (harg.unread Y) (vsPieces (grid0.coords t) f 30)) = layerSet t.val f Y := by
  funext y
  refine (vs_read arg (harg.unread Y) (grid0.coords t) f y 30 le_rfl).trans ?_
  rw [batchOff_eq t, harg.read_unread]
  have h0 : (y 0).val < 30 := (y 0).isLt
  unfold layerSet
  by_cases h : (y 1).val = t.val
  · rw [if_pos ⟨h, h0⟩, if_pos h]
  · rw [if_neg (fun k => h k.1), if_neg h]

/-! ## What the outputs hold at a point -/

abbrev attnAt (c : Dev nD) (t : Fin cfg0.N) : Vec F S1x256x1920 .f32 := attnBlk (grid0.coords t) (iblk m c 0 t) (iblk m c 1 t) (iblk m c 2 t) (iblk m c 3 t) (iblk m c 4 t) (iblk m c 5 t) (iblk m c 6 t) (iblk m c 7 t) (iblk m c 8 t)
abbrev c1At (c : Dev nD) (t : Fin cfg0.N) : Vec F S1x256x1920 .fp8e4m3 := c1Blk (grid0.coords t) (iblk m c 0 t) (iblk m c 1 t)
abbrev s1At (c : Dev nD) (t : Fin cfg0.N) : FVec F S1x256 .f32 := toRow (sCol (grid0.coords t) (iblk m c 0 t) (iblk m c 1 t))
abbrev kcAt (c : Dev nD) (t : Fin cfg0.N) : Vec F S1x30x64x256 .i8 := kcBlk (grid0.coords t) (iblk m c 0 t) (iblk m c 1 t) (iblk m c 2 t) (iblk m c 3 t)
abbrev vcAt (c : Dev nD) (t : Fin cfg0.N) : Vec F S1x30x64x256 .i8 := vcBlk (grid0.coords t) (iblk m c 0 t) (iblk m c 1 t) (iblk m c 2 t) (iblk m c 3 t) (iblk m c 4 t)
abbrev vsAt (c : Dev nD) (t : Fin cfg0.N) : ℕ → FVec F S1x256 .f32 := vsRow (grid0.coords t) (iblk m c 0 t) (iblk m c 1 t) (iblk m c 2 t) (iblk m c 3 t) (iblk m c 4 t)
abbrev coAt (c : Dev nD) (t : Fin cfg0.N) : Vec F S1x256x1920 .fp8e4m3 := coBlk (grid0.coords t) (iblk m c 0 t) (iblk m c 1 t) (iblk m c 2 t) (iblk m c 3 t) (iblk m c 4 t) (iblk m c 5 t) (iblk m c 6 t) (iblk m c 7 t) (iblk m c 8 t)
abbrev soAt (c : Dev nD) (t : Fin cfg0.N) : FVec F S1x256 .f32 := toRow (soCol (grid0.coords t) (iblk m c 0 t) (iblk m c 1 t) (iblk m c 2 t) (iblk m c 3 t) (iblk m c 4 t) (iblk m c 5 t) (iblk m c 6 t) (iblk m c 7 t) (iblk m c 8 t))
abbrev midAt (c : Dev nD) (t : Fin cfg0.N) : Vec F S1x256x1920 .f32 := midBlk (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The proof data: each input's buffer at its block, the per-batch outputs at the body's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => attnAt m c t
    | ⟨13, _⟩ => c1At m c t
    | ⟨14, _⟩ => fun _ => Classical.arbitrary _
    | ⟨15, _⟩ => kcAt m c t
    | ⟨16, _⟩ => vcAt m c t
    | ⟨17, _⟩ => fun _ => Classical.arbitrary _
    | ⟨18, _⟩ => coAt m c t
    | ⟨19, _⟩ => fun _ => Classical.arbitrary _
    | ⟨20, _⟩ => midAt m c t
    | ⟨_ + 21, h⟩ => absurd h (Nat.not_lt.2 (Nat.le_add_left _ _))
  Φ _ := Pipeline.ΦA spec0 c
  q _ := fullShare
  owed _ := 0

/-- The relation of the three resident outputs: the rows of the point are set, the others are kept. -/
def ovr (c : Dev nD) (w : Fin cfg0.W) : Option (Fin cfg0.N → (Y X : (cfg0.win w).block.Idx → Elt F (cfg0.win w).elt) → Prop) :=
  match w with
  | ⟨14, _⟩ => some fun t Y X => X = rowSet t.val (s1At m c t) Y
  | ⟨17, _⟩ => some fun t Y X => X = layerSet t.val (vsAt m c t) Y
  | ⟨19, _⟩ => some fun t Y X => X = rowSet t.val (soAt m c t) Y
  | _ => none

/-- The relational proof data. -/
def rdat (c : Dev nD) : RDat τ (Elt F) Unit ℕ (UR sig nD τ) ℕ cfg0 c := (dats m 0 c).toR.override (ovr m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = attnAt m c t := by dsimp only [dats]
theorem after0_13 (c : Dev nD) (t : Fin cfg0.N) : (dats m 0 c).after 13 t = c1At m c t := by dsimp only [dats]
theorem after0_15 (c : Dev nD) (t : Fin cfg0.N) : (dats m 0 c).after 15 t = kcAt m c t := by dsimp only [dats]
theorem after0_16 (c : Dev nD) (t : Fin cfg0.N) : (dats m 0 c).after 16 t = vcAt m c t := by dsimp only [dats]
theorem after0_18 (c : Dev nD) (t : Fin cfg0.N) : (dats m 0 c).after 18 t = coAt m c t := by dsimp only [dats]
theorem after0_20 (c : Dev nD) (t : Fin cfg0.N) : (dats m 0 c).after 20 t = midAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem finds0_0 (c : Dev nD) (t : Fin cfg0.N) (Y) (h : (rdat m c).Finds 0 t Y) : Y = iblk m c 0 t := by
  obtain ⟨d, hd⟩ := (dats m 0 c).toR_finds 0 t Y (((dats m 0 c).toR.override_finds rfl t Y).mp h)
  exact hd.trans (before0_0 m c t d)
theorem finds0_1 (c : Dev nD) (t : Fin cfg0.N) (Y) (h : (rdat m c).Finds 1 t Y) : Y = iblk m c 1 t := by
  obtain ⟨d, hd⟩ := (dats m 0 c).toR_finds 1 t Y (((dats m 0 c).toR.override_finds rfl t Y).mp h)
  exact hd.trans (before0_1 m c t d)
theorem finds0_2 (c : Dev nD) (t : Fin cfg0.N) (Y) (h : (rdat m c).Finds 2 t Y) : Y = iblk m c 2 t := by
  obtain ⟨d, hd⟩ := (dats m 0 c).toR_finds 2 t Y (((dats m 0 c).toR.override_finds rfl t Y).mp h)
  exact hd.trans (before0_2 m c t d)
theorem finds0_3 (c : Dev nD) (t : Fin cfg0.N) (Y) (h : (rdat m c).Finds 3 t Y) : Y = iblk m c 3 t := by
  obtain ⟨d, hd⟩ := (dats m 0 c).toR_finds 3 t Y (((dats m 0 c).toR.override_finds rfl t Y).mp h)
  exact hd.trans (before0_3 m c t d)
theorem finds0_4 (c : Dev nD) (t : Fin cfg0.N) (Y) (h : (rdat m c).Finds 4 t Y) : Y = iblk m c 4 t := by
  obtain ⟨d, hd⟩ := (dats m 0 c).toR_finds 4 t Y (((dats m 0 c).toR.override_finds rfl t Y).mp h)
  exact hd.trans (before0_4 m c t d)
theorem finds0_5 (c : Dev nD) (t : Fin cfg0.N) (Y) (h : (rdat m c).Finds 5 t Y) : Y = iblk m c 5 t := by
  obtain ⟨d, hd⟩ := (dats m 0 c).toR_finds 5 t Y (((dats m 0 c).toR.override_finds rfl t Y).mp h)
  exact hd.trans (before0_5 m c t d)
theorem finds0_6 (c : Dev nD) (t : Fin cfg0.N) (Y) (h : (rdat m c).Finds 6 t Y) : Y = iblk m c 6 t := by
  obtain ⟨d, hd⟩ := (dats m 0 c).toR_finds 6 t Y (((dats m 0 c).toR.override_finds rfl t Y).mp h)
  exact hd.trans (before0_6 m c t d)
theorem finds0_7 (c : Dev nD) (t : Fin cfg0.N) (Y) (h : (rdat m c).Finds 7 t Y) : Y = iblk m c 7 t := by
  obtain ⟨d, hd⟩ := (dats m 0 c).toR_finds 7 t Y (((dats m 0 c).toR.override_finds rfl t Y).mp h)
  exact hd.trans (before0_7 m c t d)
theorem finds0_8 (c : Dev nD) (t : Fin cfg0.N) (Y) (h : (rdat m c).Finds 8 t Y) : Y = iblk m c 8 t := by
  obtain ⟨d, hd⟩ := (dats m 0 c).toR_finds 8 t Y (((dats m 0 c).toR.override_finds rfl t Y).mp h)
  exact hd.trans (before0_8 m c t d)
theorem finds0_9 (c : Dev nD) (t : Fin cfg0.N) (Y) (h : (rdat m c).Finds 9 t Y) : Y = iblk m c 9 t := by
  obtain ⟨d, hd⟩ := (dats m 0 c).toR_finds 9 t Y (((dats m 0 c).toR.override_finds rfl t Y).mp h)
  exact hd.trans (before0_9 m c t d)
theorem finds0_10 (c : Dev nD) (t : Fin cfg0.N) (Y) (h : (rdat m c).Finds 10 t Y) : Y = iblk m c 10 t := by
  obtain ⟨d, hd⟩ := (dats m 0 c).toR_finds 10 t Y (((dats m 0 c).toR.override_finds rfl t Y).mp h)
  exact hd.trans (before0_10 m c t d)
theorem finds0_11 (c : Dev nD) (t : Fin cfg0.N) (Y) (h : (rdat m c).Finds 11 t Y) : Y = iblk m c 11 t := by
  obtain ⟨d, hd⟩ := (dats m 0 c).toR_finds 11 t Y (((dats m 0 c).toR.override_finds rfl t Y).mp h)
  exact hd.trans (before0_11 m c t d)

/-! ## The body obligation -/

/-- What the body is called with, -/
def bodyPre (c : Dev nD) (t : Fin cfg0.N) (Y12 : Vec F S1x256x1920 .f32) (Y13 : Vec F S1x256x1920 .fp8e4m3) (Y14 : Vec F S48x256 .f32) (Y15 : Vec F S1x30x64x256 .i8) (Y16 : Vec F S1x30x64x256 .i8) (Y17 : Vec F S30x48x256 .f32) (Y18 : Vec F S1x256x1920 .fp8e4m3) (Y19 : Vec F S48x256 .f32) (Y20 : Vec F S1x256x1920 .f32) : sProp 𝕄 :=
  iprop(Pipeline.ΦA spec0 c ∗ (rdat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare Y12
    ∗ owns (c : Thread nD τ) (ms0_13 t) fullShare Y13
    ∗ owns (c : Thread nD τ) (ms0_14 t) fullShare Y14
    ∗ owns (c : Thread nD τ) (ms0_15 t) fullShare Y15
    ∗ owns (c : Thread nD τ) (ms0_16 t) fullShare Y16
    ∗ owns (c : Thread nD τ) (ms0_17 t) fullShare Y17
    ∗ owns (c : Thread nD τ) (ms0_18 t) fullShare Y18
    ∗ owns (c : Thread nD τ) (ms0_19 t) fullShare Y19
    ∗ owns (c : Thread nD τ) (ms0_20 t) fullShare Y20)

/-- and what it returns. -/
def bodyPost (c : Dev nD) (t : Fin cfg0.N) (Y14 : Vec F S48x256 .f32) (Y17 : Vec F S30x48x256 .f32) (Y19 : Vec F S48x256 .f32) : sProp 𝕄 :=
  iprop(Pipeline.ΦA spec0 c ∗ (rdat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (attnAt m c t)
    ∗ owns (c : Thread nD τ) (ms0_13 t) fullShare (c1At m c t)
    ∗ owns (c : Thread nD τ) (ms0_14 t) fullShare (rowSet t.val (s1At m c t) Y14)
    ∗ owns (c : Thread nD τ) (ms0_15 t) fullShare (kcAt m c t)
    ∗ owns (c : Thread nD τ) (ms0_16 t) fullShare (vcAt m c t)
    ∗ owns (c : Thread nD τ) (ms0_17 t) fullShare (layerSet t.val (vsAt m c t) Y17)
    ∗ owns (c : Thread nD τ) (ms0_18 t) fullShare (coAt m c t)
    ∗ owns (c : Thread nD τ) (ms0_19 t) fullShare (rowSet t.val (soAt m c t) Y19)
    ∗ owns (c : Thread nD τ) (ms0_20 t) fullShare (midAt m c t))

set_option maxHeartbeats 4000000 in
theorem sound_body (c : Dev nD) (t : Fin cfg0.N) (Y12 : Vec F S1x256x1920 .f32) (Y13 : Vec F S1x256x1920 .fp8e4m3) (Y14 : Vec F S48x256 .f32) (Y15 : Vec F S1x30x64x256 .i8) (Y16 : Vec F S1x30x64x256 .i8) (Y17 : Vec F S30x48x256 .f32) (Y18 : Vec F S1x256x1920 .fp8e4m3) (Y19 : Vec F S48x256 .f32) (Y20 : Vec F S1x256x1920 .f32) :
    bodyPre m c t Y12 Y13 Y14 Y15 Y16 Y17 Y18 Y19 Y20 ⊢ wp frame (wpE (defs₀ (F := F)) Variants.none c none) Set.univ (bodyAt0 t) (fun _ => bodyPost m c t Y14 Y17 Y19) := by
  unfold bodyPre bodyPost bodyAt0
  rw [PhiA0_eq]
  iintro ⟨⟨⟨⟨%z0, HS0⟩, ⟨%z1, HS1⟩⟩, Hg⟩, Ho, H0, H1, H2, H3, H4, H5, H6, H7, H8, H9, H10, H11, H12, H13, H14, H15, H16, H17, H18, H19, H20⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Y12 Y13 Y14 Y15 Y16 Y17 Y18 Y19 Y20 z0 z1).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [HS0]; · iexact HS0
  isplitl [HS1]; · iexact HS1
  iintro ⟨H0, H1, H2, H3, H4, H5, H6, H7, H8, H9, H10, H11, H12, H13, H14, H15, H16, H17, H18, H19, H20, HS0, HS1⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro
    rw [run_attn]; exact View.read_writes_eq_canon _ _ _ (attn_cover (grid0.coords t) _ _ _ _ _ _ _ _ _)
  isplitl [H13]
  · unfold owns; iexists _; isplitr
    swap; · iexact H13
    ipureintro
    rw [run_c1]; exact View.read_writes_eq_canon _ _ _ (View.cover_of_tiledL _ S1x32x1920.size (by sl_kernel_rfl))
  isplitl [H14]
  · unfold owns; iexists _; isplitr
    swap; · iexact H14
    ipureintro
    rw [run_s1]; exact read_row t (ms0_14 t) (hs0_14 t) _ _
  isplitl [H15]
  · unfold owns; iexists _; isplitr
    swap; · iexact H15
    ipureintro
    rw [run_kc]; exact View.read_writes_eq_canon _ _ _ (View.cover_of_tiledL _ S1x1x64x256.size (by sl_kernel_rfl))
  isplitl [H16]
  · unfold owns; iexists _; isplitr
    swap; · iexact H16
    ipureintro
    rw [run_vc]; exact View.read_writes_eq_canon _ _ _ (View.cover_of_tiledL _ S1x1x64x256.size (by sl_kernel_rfl))
  isplitl [H17]
  · unfold owns; iexists _; isplitr
    swap; · iexact H17
    ipureintro
    rw [run_vs]; exact read_layer t (ms0_17 t) (hs0_17 t) _ _
  isplitl [H18]
  · unfold owns; iexists _; isplitr
    swap; · iexact H18
    ipureintro
    rw [run_co]; exact View.read_writes_eq_canon _ _ _ (View.cover_of_tiledL _ S1x32x1920.size (by sl_kernel_rfl))
  isplitl [H19]
  · unfold owns; iexists _; isplitr
    swap; · iexact H19
    ipureintro
    rw [run_so]; exact read_row t (ms0_19 t) (hs0_19 t) _ _
  unfold owns; iexists _; isplitr
  swap; · iexact H20
  ipureintro
  rw [run_mid]
  exact (View.read_writes_eq_canon _ _ _ (fun y => ⟨_, List.mem_singleton_self _, View.mem_set_unit_zero (by funext a; fin_cases a <;> rfl) inb_S1x256x1920_S1x256x1920_0_0_0 y⟩)).trans
    (View.canon_unit_zero (by funext a; fin_cases a <;> rfl) _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem leaves_self (c : Dev nD) (w : Fin cfg0.W) (t : Fin cfg0.N) : (dats m 0 c).Leaves w t ((dats m 0 c).after w t) := by
  rw [Dat.Leaves.live_iff _ (.inl rfl)]

theorem after_exact (c : Dev nD) (w : Fin cfg0.W) (h : ovr m c w = none) (t : Fin cfg0.N) (Y X) (hX : (dats m 0 c).after w t = X) : (rdat m c).after w t Y X := by
  subst hX
  unfold rdat
  rw [RDat.override_after_of_eq_none _ h]
  exact leaves_self m c w t

theorem after_fourteen (c : Dev nD) (t : Fin cfg0.N) (Y) : (rdat m c).after 14 t Y (rowSet t.val (s1At m c t) Y) := by
  unfold rdat
  rw [RDat.override_after_of_eq_some _ (w := 14) rfl]

theorem after_seventeen (c : Dev nD) (t : Fin cfg0.N) (Y) : (rdat m c).after 17 t Y (layerSet t.val (vsAt m c t) Y) := by
  unfold rdat
  rw [RDat.override_after_of_eq_some _ (w := 17) rfl]

theorem after_nineteen (c : Dev nD) (t : Fin cfg0.N) (Y) : (rdat m c).after 19 t Y (rowSet t.val (soAt m c t) Y) := by
  unfold rdat
  rw [RDat.override_after_of_eq_some _ (w := 19) rfl]

set_option maxHeartbeats 2000000 in
theorem body_obligation (c : Dev nD) : (rdat (F := F) m c).BodyObligation (defs₀ (F := F)) Variants.none () Set.univ := fun t Y hY => by
  rw [bigSep_W0, bigSep_W0, defs₀_row,
    show (rdat m c).Φ t.succ = Pipeline.ΦA spec0 c from rfl, show (rdat m c).Φ t.castSucc = Pipeline.ΦA spec0 c from rfl, show (rdat m c).owesAt () t.succ = (rdat m c).owesAt () t.castSucc from rfl]
  rw [finds0_0 m c t (Y 0) (hY 0), finds0_1 m c t (Y 1) (hY 1), finds0_2 m c t (Y 2) (hY 2), finds0_3 m c t (Y 3) (hY 3), finds0_4 m c t (Y 4) (hY 4), finds0_5 m c t (Y 5) (hY 5), finds0_6 m c t (Y 6) (hY 6), finds0_7 m c t (Y 7) (hY 7), finds0_8 m c t (Y 8) (hY 8), finds0_9 m c t (Y 9) (hY 9), finds0_10 m c t (Y 10) (hY 10), finds0_11 m c t (Y 11) (hY 11)]
  refine triple_restated (sound_body m c t (Y 12) (Y 13) (Y 14) (Y 15) (Y 16) (Y 17) (Y 18) (Y 19) (Y 20)) rfl .rfl fun _ => ?_
  unfold bodyPost
  iintro ⟨HP, Ho, H0, H1, H2, H3, H4, H5, H6, H7, H8, H9, H10, H11, H12, H13, H14, H15, H16, H17, H18, H19, H20⟩
  isplitl [HP]; · iexact HP
  isplitl [Ho]; · iexact Ho
  isplitl [H0]
  · iexists _; isplitr
    swap; · iexact H0
    ipureintro; exact after_exact m c 0 rfl t _ _ (after0_0 m c t)
  isplitl [H1]
  · iexists _; isplitr
    swap; · iexact H1
    ipureintro; exact after_exact m c 1 rfl t _ _ (after0_1 m c t)
  isplitl [H2]
  · iexists _; isplitr
    swap; · iexact H2
    ipureintro; exact after_exact m c 2 rfl t _ _ (after0_2 m c t)
  isplitl [H3]
  · iexists _; isplitr
    swap; · iexact H3
    ipureintro; exact after_exact m c 3 rfl t _ _ (after0_3 m c t)
  isplitl [H4]
  · iexists _; isplitr
    swap; · iexact H4
    ipureintro; exact after_exact m c 4 rfl t _ _ (after0_4 m c t)
  isplitl [H5]
  · iexists _; isplitr
    swap; · iexact H5
    ipureintro; exact after_exact m c 5 rfl t _ _ (after0_5 m c t)
  isplitl [H6]
  · iexists _; isplitr
    swap; · iexact H6
    ipureintro; exact after_exact m c 6 rfl t _ _ (after0_6 m c t)
  isplitl [H7]
  · iexists _; isplitr
    swap; · iexact H7
    ipureintro; exact after_exact m c 7 rfl t _ _ (after0_7 m c t)
  isplitl [H8]
  · iexists _; isplitr
    swap; · iexact H8
    ipureintro; exact after_exact m c 8 rfl t _ _ (after0_8 m c t)
  isplitl [H9]
  · iexists _; isplitr
    swap; · iexact H9
    ipureintro; exact after_exact m c 9 rfl t _ _ (after0_9 m c t)
  isplitl [H10]
  · iexists _; isplitr
    swap; · iexact H10
    ipureintro; exact after_exact m c 10 rfl t _ _ (after0_10 m c t)
  isplitl [H11]
  · iexists _; isplitr
    swap; · iexact H11
    ipureintro; exact after_exact m c 11 rfl t _ _ (after0_11 m c t)
  isplitl [H12]
  · iexists _; isplitr
    swap; · iexact H12
    ipureintro; exact after_exact m c 12 rfl t _ _ (after0_12 m c t)
  isplitl [H13]
  · iexists _; isplitr
    swap; · iexact H13
    ipureintro; exact after_exact m c 13 rfl t _ _ (after0_13 m c t)
  isplitl [H14]
  · iexists _; isplitr
    swap; · iexact H14
    ipureintro; exact after_fourteen m c t _
  isplitl [H15]
  · iexists _; isplitr
    swap; · iexact H15
    ipureintro; exact after_exact m c 15 rfl t _ _ (after0_15 m c t)
  isplitl [H16]
  · iexists _; isplitr
    swap; · iexact H16
    ipureintro; exact after_exact m c 16 rfl t _ _ (after0_16 m c t)
  isplitl [H17]
  · iexists _; isplitr
    swap; · iexact H17
    ipureintro; exact after_seventeen m c t _
  isplitl [H18]
  · iexists _; isplitr
    swap; · iexact H18
    ipureintro; exact after_exact m c 18 rfl t _ _ (after0_18 m c t)
  isplitl [H19]
  · iexists _; isplitr
    swap; · iexact H19
    ipureintro; exact after_nineteen m c t _
  iexists _; isplitr
  swap; · iexact H20
  ipureintro; exact after_exact m c 20 rfl t _ _ (after0_20 m c t)

/-! ## The run and the frame -/

set_option backward.isDefEq.respectTransparency.types false in
/-- The whole run: every array of the pipeline at what the relational data say, every other buffer as the region found it,
    every semaphore at zero. -/
theorem run_main : θ_run defs (onTc (τ := τ) (main (F := F))) (s₀ m ρ) (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c => (dats m 0 c).share_full fun _ => rfl)
    (howed := fun _ _ => rfl) (V := V m) (hmain := hmain m Variants.none) (hA := A_eq m) (hΦ := fun _ _ => rfl)

/-- The frame of the attention-half program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨(Pipeline.RDat.FramePost.arr_in h.1 c 0 rfl).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c),
    ((h.1 c).2 main_arg12 (Pipeline.mem_restRefs_of main_arg12 (by decide) (by decide))).trans (V_main_arg12 m c)⟩, h.2⟩) (run_main m ρ)

end Cert.Attn

end
-- ==== Proof.Attn.Spec.lean ====
/- The results of the attention half as functions of its arguments, token by token and head by head. -/
module

public import proofs.«01_k».proof.Proof.Common.Spec
public import Idealize.ShloMosaic.Lib.ValueIdx

@[expose] public section

noncomputable section

namespace Cert.AttnSpec

open Idealize.ShloMosaic Idealize.ShloMosaic.ValueIdx
open scoped BigOperators

abbrev E := EReal

/-! ### One head -/

/-- The constant 127, and the two factors of the scores: 1/127 and the base-2 logarithm of e, as their words. -/
abbrev c127 : E := Ideal.ofBits .f32 0x42FE0000#32
abbrev inv127 : E := Ideal.ofBits .f32 0x3C010204#32
abbrev log2e : E := Ideal.ofBits .f32 0x3FB8AA3B#32

/-- A value, 1 in place of 0. -/
def nonzero (r : E) : E := Scalar.select (Ideal.cmp .oeq r Spec.zero) Spec.one r
/-- The Euclidean length of a head's vector, 1 in place of 0. -/
def len (t : Fin 64 → E) : E := nonzero (Ideal.sqrt (∑ d, t d * t d))
/-- Rounded to nearest even, clipped to -127 … 127, converted. -/
def int8 (v : E) : BitVec 8 :=
  FloatOps.fptosi (F := Ideal) (φ := .f32) 8
    (min (Scalar.sitofp (F := Ideal) .f32 127#32 : E) (max (Scalar.sitofp (F := Ideal) .f32 4294967169#32 : E) (Ideal.liftRound Ideal.roundHalfEven v)) : E)
/-- A code as a number. -/
def num (v : BitVec 8) : E := FloatOps.sitofp (F := Ideal) .bf16 v

/-- A key's codes. -/
def keyCode (t : Fin 64 → E) (d : Fin 64) : BitVec 8 := int8 (Ideal.div (t d) (len t) * c127)
/-- A value's scale, -/
def valScale (t : Fin 64 → E) : E :=
  Scalar.select (Ideal.cmp .oeq (Spec.amax t) Spec.zero) Spec.one (Ideal.div (Spec.amax t) c127)
/-- and its codes. -/
def valCode (t : Fin 64 → E) (d : Fin 64) : BitVec 8 := int8 (Ideal.div (t d) (valScale t))
/-- A query, normalised and multiplied by the head's factor. -/
def query (t : Fin 64 → E) (m : E) (d : Fin 64) : E := Ideal.div (t d) (len t) * m

/-! ### The attention of one query -/

section Attend

variable (q : Fin 64 → E) (ck : Fin 424 → Fin 64 → BitVec 8) (kn : Fin 256 → Fin 64 → BitVec 8)

/-- The score of one key, in base 2. -/
def score (k : Fin 64 → BitVec 8) : E := (∑ d, q d * num (k d)) * inv127 * log2e
/-- The largest score, rounded up. -/
def top : E :=
  Ideal.liftRound Int.ceil (max (Finset.univ.fold max Spec.least fun p => score q (ck p)) (Finset.univ.fold max Spec.least fun j => score q (kn j)))
/-- The weights of the context's keys and of the new ones, -/
def wc (p : Fin 424) : E := Ideal.exp2 (score q (ck p) - top q ck kn)
def wn (j : Fin 256) : E := Ideal.exp2 (score q (kn j) - top q ck kn)
/-- and their sum. -/
def den : E := (∑ p, wc q ck kn p) + ∑ j, wn q ck kn j
/-- The weighted values. -/
def numer (cs : Fin 424 → E) (ns : Fin 256 → E) (cv : Fin 424 → BitVec 8) (vn : Fin 256 → BitVec 8) : E :=
  (∑ p, num (cv p) * (wc q ck kn p * cs p)) + ∑ j, num (vn j) * (wn q ck kn j * ns j)
/-- The result at one dimension of the head. -/
def attend (cs : Fin 424 → E) (ns : Fin 256 → E) (cv : Fin 424 → BitVec 8) (vn : Fin 256 → BitVec 8) : E :=
  Ideal.div (numer q ck kn cs ns cv vn) (den q ck kn)

end Attend

/-! ### The whole half -/

/-- The arguments. -/
structure Args where
  x : Fin 48 → Fin 256 → Fin 1920 → E
  ada : Fin 48 → Fin 6 → Fin 1920 → E
  wqkv : Fin 1920 → Fin 5760 → E
  ws : Fin 5760 → E
  bias : Fin 5760 → E
  hm : Fin 30 → E
  ck : Fin 48 → Fin 424 → Fin 30 → Fin 64 → BitVec 8
  cv : Fin 48 → Fin 424 → Fin 30 → Fin 64 → BitVec 8
  cvs : Fin 48 → Fin 424 → Fin 30 → E
  wp : Fin 1920 → Fin 1920 → E
  wps : Fin 1920 → E
  bp : Fin 1920 → E

variable (a : Args) (b : Fin 48) (s : Fin 256) (h : Fin 30)

/-- The modulated LayerNorm of a token. -/
def hid : Fin 1920 → E := Spec.ln (a.x b s) (fun d => Spec.one + a.ada b 2 d) (a.ada b 4)
/-- The projections of a token. -/
def qkv (j : Fin 5760) : E :=
  Spec.lin (Spec.rowCode (hid a b s)) (Spec.rowScale (hid a b s)) (fun k => a.wqkv k j) (a.ws j) (a.bias j)
/-- The head `h` of the queries, keys and values. -/
def qh (d : Fin 64) : E := qkv a b s ⟨64 * h.val + d.val, by omega⟩
def kh (d : Fin 64) : E := qkv a b s ⟨1920 + (64 * h.val + d.val), by omega⟩
def vh (d : Fin 64) : E := qkv a b s ⟨3840 + (64 * h.val + d.val), by omega⟩
/-- The attention of a token at head `h` and dimension `d`, -/
def out (d : Fin 64) : E :=
  attend (query (qh a b s h) (a.hm h)) (fun p => a.ck b p h) (fun j => keyCode (kh a b j h)) (fun p => a.cvs b p h)
    (fun j => valScale (vh a b j h)) (fun p => a.cv b p h d) (fun j => valCode (vh a b j h) d)
/-- as one row. -/
def row (e : Fin 1920) : E := out a b s ⟨e.val / 64, by omega⟩ ⟨e.val % 64, by omega⟩
/-- The residual after the attention. -/
def mid (d : Fin 1920) : E :=
  a.x b s d + a.ada b 0 d * Spec.lin (Spec.rowCode (row a b s)) (Spec.rowScale (row a b s)) (fun k => a.wp k d) (a.wps d) (a.bp d)

end Cert.AttnSpec
-- ==== Proof.Attn.Finite.lean ====
/- The attention's weights have a positive sum, whatever the projections hold: a normalised query is finite, so every score
   is, so is the largest one, and every weight is a positive number. -/
module

public import proofs.«01_k».proof.Proof.Attn.Spec

@[expose] public section

noncomputable section

namespace Cert.AttnSpec

open Idealize.ShloMosaic Idealize.ShloMosaic.ValueIdx
open scoped BigOperators

/-- A finite extended real. -/
def Fin' (x : E) : Prop := ∃ r : ℝ, x = (r : EReal)

theorem fin_mul {x y : E} : Fin' x → Fin' y → Fin' (x * y) := fun ⟨a, ha⟩ ⟨b, hb⟩ => ⟨a * b, by rw [ha, hb, EReal.coe_mul]⟩
theorem fin_add {x y : E} : Fin' x → Fin' y → Fin' (x + y) := fun ⟨a, ha⟩ ⟨b, hb⟩ => ⟨a + b, by rw [ha, hb, EReal.coe_add]⟩
theorem fin_sub {x y : E} : Fin' x → Fin' y → Fin' (x - y) := fun ⟨a, ha⟩ ⟨b, hb⟩ => ⟨a - b, by rw [ha, hb, EReal.coe_sub]⟩
theorem fin_sum {ι : Type} (s : Finset ι) (f : ι → E) (h : ∀ i, Fin' (f i)) : Fin' (∑ i ∈ s, f i) := by
  classical
  induction s using Finset.induction_on with
  | empty => exact ⟨0, by simp⟩
  | insert i s hi ih => rw [Finset.sum_insert hi]; exact fin_add (h i) ih
theorem fin_of {x : E} (h1 : x ≠ ⊥) (h2 : x ≠ ⊤) : Fin' x := by
  induction x using EReal.rec with
  | bot => exact absurd rfl h1
  | top => exact absurd rfl h2
  | coe r => exact ⟨r, rfl⟩

theorem nonzero_of_ne {r : E} (h : r ≠ 0) : nonzero r = r := by
  have : Ideal.cmp .oeq r Spec.zero = 0#1 := by simp [Ideal.cmp, Spec.zero, h]
  unfold nonzero; rw [this]; rfl
theorem nonzero_zero : nonzero 0 = 1 := by
  have : Ideal.cmp .oeq (0 : EReal) Spec.zero = 1#1 := by simp [Ideal.cmp, Spec.zero]
  unfold nonzero; rw [this]; exact Spec.one_eq

theorem nonzero_ne_zero (r : E) : nonzero r ≠ 0 := by
  by_cases h : r = 0
  · subst h; rw [nonzero_zero]; exact one_ne_zero
  · rw [nonzero_of_ne h]; exact h

theorem len_ne_zero (t : Fin 64 → E) : len t ≠ 0 := nonzero_ne_zero _

/-- A component over the length is finite. -/
theorem fin_unit (t : Fin 64 → E) (d : Fin 64) : Fin' (Ideal.div (t d) (len t)) := by
  have hd : t d * t d ≤ ∑ d, t d * t d := Finset.single_le_sum (f := fun d => t d * t d) (fun _ _ => Spec.sq_nonneg' _) (Finset.mem_univ d)
  have h0 : 0 ≤ ∑ d, t d * t d := Finset.sum_nonneg fun _ _ => Spec.sq_nonneg' _
  have hn := len_ne_zero t
  unfold len at hn ⊢
  generalize (∑ d, t d * t d) = S at hd h0 hn
  unfold Ideal.div
  rw [if_neg hn]
  induction S using EReal.rec with
  | bot => exact absurd h0 (by simp)
  | top =>
    have e : nonzero (Ideal.sqrt ⊤) = ⊤ := nonzero_of_ne (r := ⊤) EReal.top_ne_zero
    rw [e, EReal.inv_top, mul_zero]
    exact ⟨0, rfl⟩
  | coe r =>
    have ht : Fin' (t d) := by
      refine fin_of (fun e => ?_) (fun e => ?_)
      · rw [e] at hd; exact absurd hd (by simp)
      · rw [e] at hd; exact absurd hd (by simp)
    have hr : 0 ≤ r := EReal.coe_nonneg.mp h0
    have e : Ideal.sqrt (r : EReal) = ((Real.sqrt r : ℝ) : EReal) := by
      show (if r < 0 then ⊥ else (Real.sqrt r : EReal)) = _
      rw [if_neg (not_lt.mpr hr)]
    rw [e]
    refine fin_mul ht ?_
    by_cases hz : ((Real.sqrt r : ℝ) : EReal) = 0
    · rw [hz, nonzero_zero]; exact ⟨1⁻¹, by rw [EReal.coe_inv]; rfl⟩
    · rw [nonzero_of_ne hz]; exact ⟨(Real.sqrt r)⁻¹, by rw [EReal.coe_inv]⟩

theorem fin_query (t : Fin 64 → E) {m : E} (hm : Fin' m) (d : Fin 64) : Fin' (query t m d) := fin_mul (fin_unit t d) hm

theorem fin_num (v : BitVec 8) : Fin' (num v) := ⟨_, rfl⟩

theorem fin_inv127 : Fin' inv127 := ⟨_, by simp [inv127, Ideal.ofBits, Ideal.ieee]; rfl⟩
theorem fin_log2e : Fin' log2e := ⟨_, by simp [log2e, Ideal.ofBits, Ideal.ieee]; rfl⟩

section Attend

variable (q : Fin 64 → E) (hq : ∀ d, Fin' (q d)) (ck : Fin 424 → Fin 64 → BitVec 8) (kn : Fin 256 → Fin 64 → BitVec 8)

include hq

theorem fin_score (k : Fin 64 → BitVec 8) : Fin' (score q k) :=
  fin_mul (fin_mul (fin_sum _ _ fun d => fin_mul (hq d) (fin_num _)) fin_inv127) fin_log2e

theorem least_eq : Spec.least = ⊥ := by simp [Spec.least, Ideal.ofBits, Ideal.ieee]

theorem fin_top : Fin' (top q ck kn) := by
  have hlt : ∀ k, score q k < ⊤ := fun k => by obtain ⟨r, hr⟩ := fin_score q hq k; rw [hr]; exact EReal.coe_lt_top r
  have hl : Spec.least < ⊤ := by rw [least_eq q hq]; exact bot_lt_top
  have h1 : (Finset.univ.fold max Spec.least fun p => score q (ck p)) < ⊤ := (Finset.fold_max_lt _).mpr ⟨hl, fun p _ => hlt _⟩
  have h2 : (Finset.univ.fold max Spec.least fun j => score q (kn j)) < ⊤ := (Finset.fold_max_lt _).mpr ⟨hl, fun p _ => hlt _⟩
  have h3 : score q (kn 0) ≤ (Finset.univ.fold max Spec.least fun j => score q (kn j)) := (Finset.le_fold_max _).mpr (.inr ⟨0, Finset.mem_univ _, le_rfl⟩)
  unfold top
  have hT : Fin' (max (Finset.univ.fold max Spec.least fun p => score q (ck p)) (Finset.univ.fold max Spec.least fun j => score q (kn j))) := by
    refine fin_of (fun e => ?_) (max_lt h1 h2).ne
    obtain ⟨r, hr⟩ := fin_score q hq (kn 0)
    have := (h3.trans (le_max_right _ _)).trans e.le
    rw [hr] at this
    exact absurd this (by simp)
  obtain ⟨r, hr⟩ := hT
  rw [hr]
  exact ⟨(⌈r⌉ : ℝ), rfl⟩

theorem exp2_pos {x : E} (h : Fin' x) : 0 < Ideal.exp2 x := by
  obtain ⟨r, rfl⟩ := h
  exact EReal.coe_pos.mpr (Real.rpow_pos_of_pos two_pos r)

theorem den_ne_zero : den q ck kn ≠ 0 := by
  have hc : ∀ p, 0 < wc q ck kn p := fun p => exp2_pos q hq (fin_sub (fin_score q hq _) (fin_top q hq ck kn))
  have hn : ∀ p, 0 < wn q ck kn p := fun p => exp2_pos q hq (fin_sub (fin_score q hq _) (fin_top q hq ck kn))
  have h2 : 0 < ∑ j, wn q ck kn j := lt_of_lt_of_le (hn 0) (Finset.single_le_sum (f := fun j => wn q ck kn j) (fun j _ => (hn j).le) (Finset.mem_univ 0))
  exact (lt_of_lt_of_le h2 (le_add_of_nonneg_left (Finset.sum_nonneg fun p _ => (hc p).le))).ne'

end Attend

end Cert.AttnSpec
-- ==== Proof.Attn.Heads.lean ====
/- The heads of the attention half over the extended reals: a tile of 64 rows and 256 columns holds one head's vectors as
   its columns. -/
module

public import proofs.«01_k».proof.Proof.Attn.Tiles
public import proofs.«01_k».proof.Proof.Attn.Finite
public import proofs.«01_k».proof.Proof.Common.Layout

@[expose] public section

set_option maxRecDepth 16384

noncomputable section

namespace Cert.Attn

open Cert.AttnKernelIdeal Cert.AttnKernelIdeal.Gen
open Idealize.ShloMosaic Idealize.ShloMosaic.ValueIdx
open scoped BigOperators

/-! ### Shapes -/

section Any
variable {α : Type} {a b n m : ℕ}

theorem cast_row (x : (⟨1, ![n]⟩ : Shape).Idx → α) (h) (i : Fin 1) (j : Fin n) : shapeCast ⟨2, ![1, n]⟩ x h (ix2 i j) = x (ix1 j) :=
  shapeCast_apply x h _ _ (by
    rw [Shape.rowMajor_val_two, Shape.rowMajor_val_one]
    show j.val = i.val * n + j.val
    rw [show i.val = 0 by omega, Nat.zero_mul, Nat.zero_add])

theorem cast_add2 (x : (⟨2, ![n, m]⟩ : Shape).Idx → α) (h) (i i' : Fin 1) (j : Fin n) (k : Fin m) : shapeCast ⟨4, ![1, 1, n, m]⟩ x h (ix4 i i' j k) = x (ix2 j k) :=
  shapeCast_apply x h _ _ (by
    rw [Shape.rowMajor_val_two, Shape.rowMajor_val_four]
    show j.val * m + k.val = ((i.val * 1 + i'.val) * n + j.val) * m + k.val
    rw [show i.val = 0 by omega, show i'.val = 0 by omega, Nat.zero_mul, Nat.zero_add])

theorem cast_drop2 (x : (⟨4, ![1, 1, n, m]⟩ : Shape).Idx → α) (h) (j : Fin n) (k : Fin m) : shapeCast ⟨2, ![n, m]⟩ x h (ix2 j k) = x (ix4 0 0 j k) :=
  shapeCast_apply x h _ _ (by
    rw [Shape.rowMajor_val_two, Shape.rowMajor_val_four]
    show ((0 * 1 + 0) * n + j.val) * m + k.val = j.val * m + k.val
    rw [Nat.zero_mul, Nat.zero_add])

theorem flip (x : (⟨2, ![n, m]⟩ : Shape).Idx → α) (h) (i : Fin m) (j : Fin n) : transpose ⟨2, ![m, n]⟩ [1, 0] x h (ix2 i j) = x (ix2 j i) :=
  transpose_apply _ x h _ _ (Fin.forall_fin_two.mpr ⟨rfl, rfl⟩)

end Any

theorem sum_cols {n m : ℕ} (x : FVec Ideal ⟨2, ![n, m]⟩ .f32) (acc : BitVec 32) (h : (⟨2, ![n, m]⟩ : Shape).Reduces [0] ⟨1, ![m]⟩) (hφ : FKind.Formats .f32)
    (hacc : acc = FKind.add.neutral .f32 hφ) (j : Fin m) :
    multiReduction .add [0] ⟨1, ![m]⟩ x acc h hφ hacc (ix1 j) = ∑ k : Fin n, (x (ix2 k j) : EReal) := by
  refine (Ideal.multiReduction_add_single (a := 0) x acc h hφ hacc (ix1 j)).trans (Finset.sum_congr rfl fun k _ => congrArg x ?_)
  rw [eq_ix2 (h.lift (ix1 j) k)]; rfl

theorem max_cols {n m : ℕ} (x : FVec Ideal ⟨2, ![n, m]⟩ .f32) (acc : BitVec 32) (h : (⟨2, ![n, m]⟩ : Shape).Reduces [0] ⟨1, ![m]⟩) (hφ : FKind.Formats .f32)
    (hacc : acc = FKind.maximumf.neutral .f32 hφ) (j : Fin m) :
    multiReduction .maximumf [0] ⟨1, ![m]⟩ x acc h hφ hacc (ix1 j) = (Finset.univ : Finset (Fin n)).fold max (Ideal.ofBits .f32 acc : EReal) fun k => x (ix2 k j) := by
  refine (Ideal.multiReduction_maximumf_single (a := 0) x acc h hφ hacc (ix1 j)).trans ?_
  refine congrArg (fun f => (Finset.univ : Finset (Fin n)).fold max (Ideal.ofBits .f32 acc : EReal) f) (funext fun k => congrArg x ?_)
  rw [eq_ix2 (h.lift (ix1 j) k)]; rfl

/-- A product with the transpose of the right factor, from zero. -/
theorem productT {M K N : ℕ} {φ₁ φ₂ : FTy} (prec : Option ContractPrecision) (x : FVec Ideal ⟨2, ![M, K]⟩ φ₁) (w : FVec Ideal ⟨2, ![N, K]⟩ φ₂) (r : Fin M) (c : Fin N) :
    FloatOps.matmul (DotDims.transposedRhs M K N) prec x w (constant ⟨2, ![M, N]⟩ .f32 0x00000000#32) (ix2 r c) = ∑ k : Fin K, (x (ix2 r k) * w (ix2 c k) : EReal) := by
  rw [Ideal.matmul_transposedRhs_apply]
  show Ideal.ofBits .f32 0x00000000#32 + _ = _
  rw [Ideal.ofBits_zero_f32, zero_add]

/-- One tile of 64 rows over another, read in the upper half … -/
theorem over_fst {n : ℕ} {α : Type} (u v : (⟨2, ![64, n]⟩ : Shape).Idx → α) (h) (d : Fin 64) (t : Fin n) (e : Fin 128) (he : e.val = d.val) :
    concatenate ⟨2, ![128, n]⟩ 0 [⟨⟨2, ![64, n]⟩, u⟩, ⟨⟨2, ![64, n]⟩, v⟩] h (ix2 e t) = u (ix2 d t) :=
  concatenate_apply_piece (t := ⟨2, ![128, n]⟩) 0 _ _ _ 0 (by show 0 < 2; omega) ⟨2, ![64, n]⟩ u rfl rfl 0 rfl _
    (fun b hb => by
      have : b = 1 := by revert hb; fin_cases b; · intro h; exact absurd rfl h
                         · intro _; rfl
      subst this; rfl)
    (by show 0 + d.val = e.val; omega)

/-- … and in the lower. -/
theorem over_snd {n : ℕ} {α : Type} (u v : (⟨2, ![64, n]⟩ : Shape).Idx → α) (h) (d : Fin 64) (t : Fin n) (e : Fin 128) (he : e.val = 64 + d.val) :
    concatenate ⟨2, ![128, n]⟩ 0 [⟨⟨2, ![64, n]⟩, u⟩, ⟨⟨2, ![64, n]⟩, v⟩] h (ix2 e t) = v (ix2 d t) :=
  concatenate_apply_piece (t := ⟨2, ![128, n]⟩) 0 _ _ _ 1 (by show 1 < 2; omega) ⟨2, ![64, n]⟩ v rfl rfl 64 rfl _
    (fun b hb => by
      have : b = 1 := by revert hb; fin_cases b; · intro h; exact absurd rfl h
                         · intro _; rfl
      subst this; rfl)
    (by show 64 + d.val = e.val; omega)

/-! ### One head -/

section Head

variable (t : FVec Ideal S64x256 .f32) (s : Fin 256) (d : Fin 64)

/-- One column of the tile. -/
abbrev col : Fin 64 → EReal := fun d => t (ix2 d s)

theorem norm_apply : (norm t (ix2 0 s) : EReal) = AttnSpec.len (col t s) := by
  unfold norm
  have a : (shapeCast S1x256 (multiReduction .add [0] S256 (mulf t t) 0x00000000#32 reduces_S64x256_S256 (.inl rfl) rfl) shapeCasts_S256_S1x256 (ix2 0 s) : EReal)
      = ∑ d, col t s d * col t s d := (cast_row _ _ 0 s).trans (sum_cols (mulf t t) _ _ _ _ s)
  exact congrArg (fun v => AttnSpec.nonzero (Ideal.sqrt v)) a

theorem normed_apply : (normed t (ix2 d s) : EReal) = Ideal.div (col t s d) (AttnSpec.len (col t s)) := by
  have e := norm_apply t s
  unfold normed
  generalize norm t = z at e
  simp only [mulf_apply, divf_apply, Layout.bcast_row, broadcast_apply, e]
  exact Spec.mul_recip _ (AttnSpec.len_ne_zero _)

/-- The rounding of any tile, at an index. -/
theorem round_apply (lo hi : EReal) (x : FVec Ideal S64x256 .f32) (i : S64x256.Idx) :
    fptosi 8 (minimumf (broadcast S64x256 hi) (maximumf (broadcast S64x256 lo) (roundeven x))) i
      = FloatOps.fptosi (F := Ideal) (φ := .f32) 8 (min hi (max lo (Ideal.liftRound Ideal.roundHalfEven (x i))) : EReal) := rfl

theorem toInt8_apply : toInt8 t (ix4 0 0 d s) = AttnSpec.int8 (t (ix2 d s)) := by
  unfold toInt8
  refine (cast_add2 _ _ 0 0 d s).trans ?_
  exact round_apply _ _ t (ix2 d s)

theorem kCodes_apply : kCodes t (ix4 0 0 d s) = AttnSpec.keyCode (col t s) d := by
  unfold kCodes
  rw [toInt8_apply, mulf_apply, normed_apply]
  rfl

theorem vScale_apply : (vScale t (ix2 0 s) : EReal) = AttnSpec.valScale (col t s) := by
  unfold vScale
  have a : (shapeCast S1x256 (multiReduction .maximumf [0] S256 (absf t) 0xFF800000#32 reduces_S64x256_S256 (.inl rfl) rfl) shapeCasts_S256_S1x256 (ix2 0 s) : EReal)
      = Spec.amax (col t s) := (cast_row _ _ 0 s).trans (max_cols (absf t) _ _ _ _ s)
  dsimp only
  generalize shapeCast S1x256 (multiReduction .maximumf [0] S256 (absf t) 0xFF800000#32 reduces_S64x256_S256 (.inl rfl) rfl) shapeCasts_S256_S1x256 = z at a
  simp only [select_apply, cmpf_apply, divf_apply, broadcast_apply, a]
  rfl

theorem c127_eq : AttnSpec.c127 = ((127 : ℝ) : EReal) := by
  simp [AttnSpec.c127, Ideal.ofBits, Ideal.ieee]; rw [← EReal.coe_mul]; norm_num

theorem valScale_ne_zero (f : Fin 64 → EReal) : AttnSpec.valScale f ≠ 0 := by
  unfold AttnSpec.valScale
  generalize Spec.amax f = a
  by_cases h : a = 0
  · subst h
    have : Ideal.cmp .oeq (0 : EReal) Spec.zero = 1#1 := by simp [Ideal.cmp, Spec.zero]
    rw [this]
    show Spec.one ≠ 0
    rw [Spec.one_eq]; exact one_ne_zero
  · have : Ideal.cmp .oeq a Spec.zero = 0#1 := by simp [Ideal.cmp, Spec.zero, h]
    rw [this]
    show Ideal.div a AttnSpec.c127 ≠ 0
    rw [c127_eq, Ideal.div_coe (by norm_num)]
    intro e
    rcases mul_eq_zero.mp e with e | e
    · exact h e
    · have := EReal.coe_eq_zero.mp e
      norm_num at this

theorem vCodes_apply : vCodes t (ix4 0 0 d s) = AttnSpec.valCode (col t s) d := by
  have e := vScale_apply t s
  unfold vCodes
  rw [toInt8_apply]
  generalize vScale t = z at e
  simp only [mulf_apply, divf_apply, Layout.bcast_row, broadcast_apply, e]
  exact congrArg AttnSpec.int8 (Spec.mul_recip _ (valScale_ne_zero _))

end Head

/-! ### The groups of columns -/

section Group

variable (s : FVec Ideal S1x256 .f32) (c : FVec Ideal S256x1920 .fp8e4m3) (w : Vec Ideal S384x1920 .fp8e4m3) (ws b : Vec Ideal S384x1 .f32)
  (j : Fin 384) (t : Fin 256)

theorem group_product : (matmul (F := Ideal) (φ₁ := .fp8e4m3) (φ₂ := .fp8e4m3) dot_S384x1920_S256x1920_S384x256_1_1_0_0_n_n none w c (constant S384x256 .f32 0x00000000#32) (ix2 j t) : EReal)
    = ∑ k : Fin 1920, (c (ix2 t k) * w (ix2 j k) : EReal) :=
  (productT (φ₁ := .fp8e4m3) (φ₂ := .fp8e4m3) (M := 384) (K := 1920) (N := 256) none w c j t).trans (Finset.sum_congr rfl fun k _ => mul_comm _ _)

theorem group_bias : (k0_pay88 s c w ws b (ix2 j t) : EReal)
    = Spec.lin (fun k => c (ix2 t k)) (s (ix2 0 t)) (fun k => w (ix2 j k)) (ws (ix2 j 0)) (b (ix2 j 0)) := by
  have e := group_product c w j t
  unfold k0_pay88
  simp only [addf_apply, mulf_apply, Layout.bcast_col, Layout.bcast_row, Layout.cast_self, e]
  rfl

theorem group_plain : (k0_pay75 s c w ws (ix2 j t) : EReal)
    = Spec.lin (fun k => c (ix2 t k)) (s (ix2 0 t)) (fun k => w (ix2 j k)) (ws (ix2 j 0)) 0 := by
  have e := group_product c w j t
  unfold k0_pay75
  simp only [addf_apply, mulf_apply, Layout.bcast_col, Layout.bcast_row, Layout.cast_self, e]
  exact (add_zero _).symm

theorem headOf_apply (a : FVec Ideal S384x256 .f32) (h : ℕ) (d : Fin 64) : headOf a h (ix2 d t) = a (ix2 (⟨64 * (h % 6) + d.val, by omega⟩ : Fin 384) t) :=
  extractStridedSlice_apply _ a _ _ _ (Fin.forall_fin_two.mpr ⟨rfl, (Nat.zero_add _).symm⟩)

end Group

/-! ### A pair of queries -/

theorem pair_fst (u v : FVec Ideal S64x256 .f32) (t : Fin 256) (d : Fin 64) (e : Fin 128) (he : e.val = d.val) : (k0_pay71 u v (ix3 0 t e) : EReal) = u (ix2 d t) := by
  unfold k0_pay71
  refine (Layout.cast_add _ _ 0 t e).trans ?_
  rw [truncf_apply]
  exact (flip _ _ t e).trans (over_fst u v _ d t e he)

theorem pair_snd (u v : FVec Ideal S64x256 .f32) (t : Fin 256) (d : Fin 64) (e : Fin 128) (he : e.val = 64 + d.val) : (k0_pay71 u v (ix3 0 t e) : EReal) = v (ix2 d t) := by
  unfold k0_pay71
  refine (Layout.cast_add _ _ 0 t e).trans ?_
  rw [truncf_apply]
  exact (flip _ _ t e).trans (over_snd u v _ d t e he)

end Cert.Attn
-- ==== Proof.Attn.Rows.lean ====
/- The row tiles of the attention half over the extended reals: the scales and the codes of the LayerNorm rows and of the
   attention's rows, tile by tile and then block by block, and the projection with the residual. -/
module

public import proofs.«01_k».proof.Proof.Attn.Heads
public import proofs.«01_k».proof.Proof.Attn.Tiles

@[expose] public section

set_option maxRecDepth 16384

noncomputable section

namespace Cert.Attn

open Cert.AttnKernelIdeal Cert.AttnKernelIdeal.Gen
open Idealize.ShloMosaic Idealize.ShloMosaic.ValueIdx
open scoped BigOperators

/-! ### One tile of 32 rows -/

abbrev vecRow (v : FVec Ideal S1x1920 .f32) : Fin 1920 → EReal := fun d => v (ix2 0 d)

section Tile

variable (mul add : FVec Ideal S1x1920 .f32) (x : Vec Ideal S1x32x1920 .bf16) (r : Fin 32)

/-- A row of the tile. -/
abbrev tileRow : Fin 1920 → EReal := fun d => x (ix3 0 r d)

theorem ln_tile (d : Fin 1920) : (k0_pay26 mul add x (ix2 r d) : EReal) = Spec.ln (tileRow x r) (vecRow mul) (vecRow add) d := by
  have e : ∀ d, (extf (F := Ideal) .f32 (shapeCast S32x1920 x shapeCasts_S1x32x1920_S32x1920) bitsLt_bf16_f32 (ix2 r d) : EReal) = tileRow x r d := fun d => Layout.cast_drop x _ r d
  unfold k0_pay26
  dsimp only
  generalize (extf (F := Ideal) .f32 (shapeCast S32x1920 x shapeCasts_S1x32x1920_S32x1920) bitsLt_bf16_f32) = z at e
  have hs : ∀ (y : FVec Ideal S32x1920 .f32) (r : Fin 32), multiReduction .add [1] S32 y 0x00000000#32 reduces_S32x1920_S32 (.inl rfl) rfl (ix1 r) = (∑ k : Fin 1920, (y (ix2 r k) : EReal)) :=
    fun y r => Layout.sum_rows y _ _ _ _ r
  have hr : ∀ (y : FVec Ideal S32x1 .f32) (i : S32x1.Idx), sqrt y i = Ideal.sqrt (y i) := fun _ _ => rfl
  simp only [addf_apply, mulf_apply, subf_apply, divf_apply, Layout.bcast_col, Layout.bcast_row, Layout.cast_col, hs, hr, broadcast_apply, e]
  exact congrArg (fun v : EReal => v * vecRow mul d + vecRow add d) (Spec.mul_recip (Spec.dev (tileRow x r) d) (Spec.root_ne_zero (tileRow x r)))

theorem amax_tile (z : FVec Ideal S32x1920 .f32) (f : Fin 1920 → EReal) (e : ∀ d, (z (ix2 r d) : EReal) = f d) :
    (multiReduction .maximumf [1] S32 (absf z) 0xFF800000#32 reduces_S32x1920_S32 (.inl rfl) rfl (ix1 r) : EReal) = Spec.amax f := by
  refine (Layout.max_rows (absf z) _ _ _ _ r).trans ?_
  refine congrArg (fun f => Finset.univ.fold max Spec.least f) (funext fun k => ?_)
  show max (z (ix2 r k) : EReal) (-(z (ix2 r k) : EReal)) = _
  rw [e]

theorem scale_any (z : FVec Ideal S32x1920 .f32) (f : Fin 1920 → EReal) (e : ∀ d, (z (ix2 r d) : EReal) = f d) :
    (k0_pay28 (absf z) (ix2 r 0) : EReal) = Spec.rowScale f := by
  unfold k0_pay28
  simp only [select_apply, cmpf_apply, divf_apply, Layout.cast_col, broadcast_apply]
  exact congrArg Spec.scaleOf (amax_tile r z f e)

theorem codes_any (z : FVec Ideal S32x1920 .f32) (f : Fin 1920 → EReal) (e : ∀ d, (z (ix2 r d) : EReal) = f d) (d : Fin 1920) :
    (k0_pay29 z (absf z) (ix3 0 r d) : EReal) = Spec.rowCode f d := by
  have s := scale_any r z f e
  have e := e d
  unfold k0_pay29
  generalize k0_pay28 (absf z) = q at s
  simp only [Layout.cast_add, truncf_apply, minimumf_apply, maximumf_apply, mulf_apply, divf_apply, Layout.bcast_col, broadcast_apply, e, s]
  exact congrArg (fun v : EReal => min Spec.top (max Spec.bot v)) (Spec.mul_recip _ (Spec.rowScale_ne_zero _))

theorem scale_tile : (rowScale mul add x (ix2 r 0) : EReal) = Spec.rowScale (Spec.ln (tileRow x r) (vecRow mul) (vecRow add)) :=
  scale_any r (k0_pay26 mul add x) _ (ln_tile mul add x r)

theorem codes_tile (d : Fin 1920) : (rowCodes mul add x (ix3 0 r d) : EReal) = Spec.rowCode (Spec.ln (tileRow x r) (vecRow mul) (vecRow add)) d :=
  codes_any r (k0_pay26 mul add x) _ (ln_tile mul add x r) d

theorem outScale_tile (y : Vec Ideal S1x32x1920 .f32) : (outScale y (ix2 r 0) : EReal) = Spec.rowScale (fun d => y (ix3 0 r d)) :=
  scale_any r (k0_pay351 y) _ fun d => Layout.cast_drop y _ r d

theorem outCodes_tile (y : Vec Ideal S1x32x1920 .f32) (d : Fin 1920) : (outCodes y (ix3 0 r d) : EReal) = Spec.rowCode (fun d => y (ix3 0 r d)) d :=
  codes_any r (k0_pay351 y) _ (fun d => Layout.cast_drop y _ r d) d

end Tile

/-! ### A block of 256 rows -/

theorem mem_rowRect (n : ℕ) (hn : n < 8) (s : Fin 256) (d : Fin 1920) (h1 : 32 * n ≤ s.val) (h2 : s.val < 32 * n + 32) :
    (ix3 (0 : Fin 1) s d : S1x256x1920.Idx) = (rowRect n).emb (ix3 (0 : Fin 1) (⟨s.val - 32 * n, by omega⟩ : Fin 32) d) := by
  funext a
  apply Fin.ext
  revert a
  refine Layout.forall_three ?_ ?_ ?_
  · rfl
  · show s.val = 32 * (n % 8) + 1 * (s.val - 32 * n); omega
  · show d.val = 0 + 1 * d.val; omega

/-- The stores of the row tiles, read at a row: the tile that holds it. -/
theorem canon_rows {F : FTy → Type} [FloatOps F] (f : ℕ → FVec F S1x32x1920 .fp8e4m3) (s : Fin 256) (d : Fin 1920) (k : ℕ)
    (h1 : 32 * k ≤ s.val) (h2 : s.val < 32 * k + 32) : ∀ n, k < n → n ≤ 8 →
    View.canon (rowPieces f n) (ix3 0 s d : S1x256x1920.Idx) = f k (ix3 0 (⟨s.val - 32 * k, by omega⟩ : Fin 32) d)
  | 0, h, _ => absurd h (by omega)
  | n + 1, h, hn => by
    by_cases e : k = n
    · subst e
      exact Layout.canon_head (Val := Elt F) (e := .fp8e4m3) (rowRect k) (f k) (rowPieces f k) rfl _ _ (mem_rowRect k (by omega) s d h1 h2)
    · refine (Layout.canon_tail (Val := Elt F) (e := .fp8e4m3) ⟨rowRect n, f n⟩ (rowPieces f n) rfl _ ?_).trans (canon_rows f s d k h1 h2 n (by omega) (by omega))
      intro hm
      have e : 32 * (n % 8) ≤ s.val := ((Rect.mem_set_unit (inb := inb_rows n)).mp hm 1).1
      omega

/-- A stack of columns, read at a row. -/
theorem stack_apply (f : ℕ → FVec Ideal S32x1 .f32) (s : Fin 256) : (stack f (ix2 s 0) : EReal) = f (s.val / 32) (ix2 (⟨s.val % 32, by omega⟩ : Fin 32) 0) := by
  have key : ∀ n : Fin 8, ∀ _h1 : 32 * n.val ≤ s.val, ∀ _h2 : s.val < 32 * n.val + 32, (stack f (ix2 s 0) : EReal) = f n.val (ix2 (⟨s.val - 32 * n.val, by omega⟩ : Fin 32) 0) := by
    intro n h1 h2
    unfold stack
    refine concatenate_apply_piece (t := S256x1) 0 _ _ _ n.val (by show n.val < 8; omega) S32x1 (f n.val) (by fin_cases n <;> rfl) rfl (32 * n.val)
      (by fin_cases n <;> rfl) _ ?_ ?_
    · intro b hb
      have : b = 1 := by
        revert hb; fin_cases b
        · intro h; exact absurd rfl h
        · intro _; rfl
      subst this; rfl
    · show 32 * n.val + (s.val - 32 * n.val) = s.val
      omega
  refine (key ⟨s.val / 32, by omega⟩ (by show 32 * (s.val / 32) ≤ _; omega) (by show _ < 32 * (s.val / 32) + 32; omega)).trans ?_
  have : (⟨s.val - 32 * (s.val / 32), by omega⟩ : Fin 32) = ⟨s.val % 32, by omega⟩ := Fin.ext (by show s.val - 32 * (s.val / 32) = s.val % 32; omega)
  exact congrArg (fun r : Fin 32 => f (s.val / 32) (ix2 r 0)) this

/-- A column as a row. -/
theorem toRow_apply (v : FVec Ideal S256x1 .f32) (s : Fin 256) : (toRow v (ix2 0 s) : EReal) = v (ix2 s 0) := by
  unfold toRow
  refine (extractStridedSlice_apply ![0, 0] _ _ (ix2 (0 : Fin 1) s) (ix2 (0 : Fin 128) s) (fun b => by fin_cases b <;> simp)).trans ?_
  refine (flip _ _ (0 : Fin 128) s).trans ?_
  rw [Layout.bcast_col, Layout.cast_self]

section Block

variable (s : Fin 256) (d : Fin 1920)

theorem row_ld {e : EltTy} {α : Type} (x : Vec Ideal S1x256x1920 e) (n : ℕ) (hn : n < 8) (h1 : 32 * n ≤ s.val) (h2 : s.val < 32 * n + 32) :
    (fun d => View.ld x (rowRect n) (ix3 0 (⟨s.val - 32 * n, by omega⟩ : Fin 32) d)) = fun d => x (ix3 0 s d) :=
  funext fun d => congrArg x (mem_rowRect n hn s d h1 h2).symm

theorem row_ld' {e : EltTy} (x : Vec Ideal S1x256x1920 e) :
    (fun d => View.ld x (rowRect (s.val / 32)) (ix3 0 (⟨s.val % 32, by omega⟩ : Fin 32) d)) = fun d => x (ix3 0 s d) := by
  refine Eq.trans ?_ (row_ld (α := Unit) s x (s.val / 32) (by omega) (by omega) (by omega))
  have : (⟨s.val - 32 * (s.val / 32), by omega⟩ : Fin 32) = ⟨s.val % 32, by omega⟩ := Fin.ext (by show s.val - 32 * (s.val / 32) = s.val % 32; omega)
  rw [this]

theorem scale_block (mul add : FVec Ideal S1x1920 .f32) (x0 : Vec Ideal S1x256x1920 .bf16) :
    (stack (fun k => rowScale mul add (View.ld x0 (rowRect k))) (ix2 s 0) : EReal) = Spec.rowScale (Spec.ln (fun d => x0 (ix3 0 s d)) (vecRow mul) (vecRow add)) := by
  rw [stack_apply, scale_tile]
  exact congrArg (fun f => Spec.rowScale (Spec.ln f (vecRow mul) (vecRow add))) (row_ld' s x0)

theorem codes_block (mul add : FVec Ideal S1x1920 .f32) (x0 : Vec Ideal S1x256x1920 .bf16) :
    (View.canon (rowPieces (fun k => rowCodes mul add (View.ld x0 (rowRect k))) 8) (ix3 0 s d) : EReal) = Spec.rowCode (Spec.ln (fun d => x0 (ix3 0 s d)) (vecRow mul) (vecRow add)) d := by
  refine (canon_rows _ s d (s.val / 32) (by omega) (by omega) 8 (by omega) le_rfl).trans ?_
  refine (codes_tile mul add _ _ d).trans ?_
  exact congrArg (fun f => Spec.rowCode (Spec.ln f (vecRow mul) (vecRow add)) d) (row_ld (α := Unit) s x0 _ (by omega) (by omega) (by omega))

theorem outScale_block (y : Vec Ideal S1x256x1920 .f32) :
    (stack (fun k => outScale (View.ld y (rowRect k))) (ix2 s 0) : EReal) = Spec.rowScale (fun d => y (ix3 0 s d)) := by
  rw [stack_apply, outScale_tile, row_ld' s y]

theorem outCodes_block (y : Vec Ideal S1x256x1920 .f32) :
    (View.canon (rowPieces (fun k => outCodes (View.ld y (rowRect k))) 8) (ix3 0 s d) : EReal) = Spec.rowCode (fun d => y (ix3 0 s d)) d := by
  refine (canon_rows _ s d (s.val / 32) (by omega) (by omega) 8 (by omega) le_rfl).trans ?_
  refine (outCodes_tile _ _ d).trans ?_
  rw [row_ld (α := Unit) s y _ (by omega) (by omega) (by omega)]

/-- The projection and the residual, one element. -/
theorem mid_apply (g : FVec Ideal S1x1920 .f32) (sc : FVec Ideal S256x1 .f32) (co : Vec Ideal S1x256x1920 .fp8e4m3) (w : Vec Ideal S1920x1920 .fp8e4m3) (ws b : Vec Ideal S1x1920 .f32) (x : Vec Ideal S1x256x1920 .bf16) :
    (k0_pay1 g sc co w ws b x (ix3 0 s d) : EReal) = x (ix3 0 s d) + g (ix2 0 d) * Spec.lin (fun k => co (ix3 0 s k)) (sc (ix2 s 0)) (fun k => w (ix2 k d)) (ws (ix2 0 d)) (b (ix2 0 d)) := by
  unfold k0_pay1
  have hm : ∀ (y : FVec Ideal S256x1920 .fp8e4m3) (v : FVec Ideal S1920x1920 .fp8e4m3), (matmul (F := Ideal) (φ₁ := .fp8e4m3) (φ₂ := .fp8e4m3) dot_S256x1920_S1920x1920_S256x1920_1_0_0_1_n_n none y v (constant S256x1920 .f32 0x00000000#32) (ix2 s d) : EReal)
      = ∑ k : Fin 1920, (y (ix2 s k) * v (ix2 k d) : EReal) := fun y v => Layout.product (φ₁ := .fp8e4m3) (φ₂ := .fp8e4m3) none y v s d
  have hx : (extf (F := Ideal) .f32 (shapeCast S256x1920 x shapeCasts_S1x256x1920_S256x1920) bitsLt_bf16_f32 (ix2 s d) : EReal) = x (ix3 0 s d) := Layout.cast_drop x _ s d
  simp only [Layout.cast_add, Layout.cast_self, addf_apply, mulf_apply, Layout.bcast_col, Layout.bcast_row, hm, hx, Layout.cast_drop]
  rfl

end Block

end Cert.Attn
-- ==== Proof.Attn.Blocks.lean ====
/- The blocks of a grid point of the attention half over the extended reals: the codes and scales the body stores for the tokens
   of a batch and for the heads of their keys and values are the specification's, given what the input blocks hold. -/
module

public import proofs.«01_k».proof.Proof.Attn.Body
public import proofs.«01_k».proof.Proof.Attn.Rows
public import proofs.«01_k».proof.Proof.Attn.Heads

@[expose] public section

set_option maxRecDepth 16384

noncomputable section

namespace Cert.Attn

open Cert.AttnKernelIdeal Cert.AttnKernelIdeal.Gen
open Idealize.ShloMosaic Idealize.ShloMosaic.ValueIdx
open scoped BigOperators

theorem off1_eq : ∀ t : Fin grid0.N, k0_off1 (grid0.coords t) = ![0, t.val, 0] := by decide +kernel
theorem off2_eq : ∀ t : Fin grid0.N, k0_off2 (grid0.coords t) = ![2, t.val, 0] := by decide +kernel
theorem off3_eq : ∀ t : Fin grid0.N, k0_off3 (grid0.coords t) = ![4, t.val, 0] := by decide +kernel

/-! ### The stores of the heads -/

theorem mem_headRect (n : ℕ) (hn : n < 30) (h : Fin 30) (e : h.val = n) (d : Fin 64) (s : Fin 256) :
    (ix4 (0 : Fin 1) h d s : S1x30x64x256.Idx) = (headRect n).emb (ix4 (0 : Fin 1) (0 : Fin 1) d s) := by
  funext a
  apply Fin.ext
  fin_cases a
  · show (0 : ℕ) = 0 + 1 * 0; omega
  · show h.val = n % 30 + 1 * 0; omega
  · show d.val = 0 + 1 * d.val; omega
  · show s.val = 0 + 1 * s.val; omega

section Canon

variable {F : FTy → Type} [FloatOps F]
variable (s : FVec F S1x256 .f32) (c : FVec F S256x1920 .fp8e4m3) (W : ℕ → Vec F S384x1920 .fp8e4m3) (WS B : ℕ → Vec F S384x1 .f32)

/-- The stores of the heads, read at a head. -/
theorem canon_k (h : Fin 30) (d : Fin 64) (t : Fin 256) : ∀ n, h.val < n → n ≤ 30 →
    View.canon (kPieces s c W WS n) (ix4 0 h d t : S1x30x64x256.Idx) = kCodes (kHead s c W WS h.val) (ix4 0 0 d t)
  | 0, k, _ => absurd k (by omega)
  | n + 1, k, hn => by
    by_cases e : h.val = n
    · rw [e]
      exact Layout.canon_head (Val := Elt F) (e := .i8) (headRect n) (kCodes (kHead s c W WS n)) (kPieces s c W WS n) rfl _ _ (mem_headRect n (by omega) h e d t)
    · refine (Layout.canon_tail (Val := Elt F) (e := .i8) ⟨headRect n, kCodes (kHead s c W WS n)⟩ (kPieces s c W WS n) rfl _ ?_).trans (canon_k h d t n (by omega) (by omega))
      intro hm
      have e : n % 30 ≤ h.val := ((Rect.mem_set_unit (inb := inb_head n)).mp hm 1).1
      omega

theorem canon_v (h : Fin 30) (d : Fin 64) (t : Fin 256) : ∀ n, h.val < n → n ≤ 30 →
    View.canon (vPieces s c W WS B n) (ix4 0 h d t : S1x30x64x256.Idx) = vCodes (vHead s c W WS B h.val) (ix4 0 0 d t)
  | 0, k, _ => absurd k (by omega)
  | n + 1, k, hn => by
    by_cases e : h.val = n
    · rw [e]
      exact Layout.canon_head (Val := Elt F) (e := .i8) (headRect n) (vCodes (vHead s c W WS B n)) (vPieces s c W WS B n) rfl _ _ (mem_headRect n (by omega) h e d t)
    · refine (Layout.canon_tail (Val := Elt F) (e := .i8) ⟨headRect n, vCodes (vHead s c W WS B n)⟩ (vPieces s c W WS B n) rfl _ ?_).trans (canon_v h d t n (by omega) (by omega))
      intro hm
      have e : n % 30 ≤ h.val := ((Rect.mem_set_unit (inb := inb_head n)).mp hm 1).1
      omega

end Canon

/-! ### The inputs of a point -/

theorem row_of (b : Fin 48) (x1 : Vec Ideal S6x48x1920 .f32) (k : Fin 6) (off : Fin 3 → ℕ) (inb : ∀ a, off a + S1x1x1920.size a ≤ S6x48x1920.size a) (ho : off = ![k.val, b.val, 0]) (d : Fin 1920) :
    (shapeCast S1x1920 (View.ld x1 (Rect.unit off S1x1x1920.size inb)) shapeCasts_S1x1x1920_S1x1920 (ix2 0 d) : EReal) = x1 (ix3 k b d) := by
  subst ho
  refine (Layout.cast_drop _ shapeCasts_S1x1x1920_S1x1920 0 d).trans (congrArg x1 ?_)
  funext a; apply Fin.ext; revert a
  refine Layout.forall_three ?_ ?_ ?_
  · show k.val + 1 * 0 = k.val; omega
  · show b.val + 1 * 0 = b.val; omega
  · show 0 + 1 * d.val = d.val; omega

/-- Row `j` of group `n` of the transposed weight, and of its scales and bias. -/
theorem w_ld (x2 : Vec Ideal S5760x1920 .fp8e4m3) (n : ℕ) (hn : n < 15) (j : Fin 384) (k : Fin 1920) (r : Fin 5760) (hr : r.val = 384 * n + j.val) :
    (View.ld x2 (wRect n) (ix2 j k) : EReal) = x2 (ix2 r k) := by
  refine congrArg x2 ?_
  funext a; apply Fin.ext; revert a
  refine Fin.forall_fin_two.mpr ⟨?_, ?_⟩
  · show 384 * (n % 15) + 1 * j.val = r.val; omega
  · show 0 + 1 * k.val = k.val; omega

theorem ws_ld (x3 : Vec Ideal S5760x1 .f32) (n : ℕ) (hn : n < 15) (j : Fin 384) (r : Fin 5760) (hr : r.val = 384 * n + j.val) :
    (View.ld x3 (wsRect n) (ix2 j 0) : EReal) = x3 (ix2 r 0) := by
  refine congrArg x3 ?_
  funext a; apply Fin.ext; revert a
  refine Fin.forall_fin_two.mpr ⟨?_, ?_⟩
  · show 384 * (n % 15) + 1 * j.val = r.val; omega
  · show 0 + 1 * 0 = 0; omega

/-- The codes of a batch as rows. -/
theorem pay61_apply (z : Vec Ideal S1x256x1920 .fp8e4m3) (s : Fin 256) (d : Fin 1920) : (k0_pay61 (F := Ideal) z (ix2 s d) : EReal) = z (ix3 0 s d) := by
  unfold k0_pay61
  exact Layout.cast_drop z shapeCasts_S1x256x1920_S256x1920 s d

section Point

variable (a : AttnSpec.Args) (t : Fin grid0.N) (b : Fin 48) (hb : t.val = b.val)
  (x0 : Vec Ideal S1x256x1920 .bf16) (x1 : Vec Ideal S6x48x1920 .f32) (x2 : Vec Ideal S5760x1920 .fp8e4m3) (x3 x4 : Vec Ideal S5760x1 .f32)
  (h0 : ∀ s d, (x0 (ix3 0 s d) : EReal) = a.x b s d) (h1 : ∀ k d, (x1 (ix3 k b d) : EReal) = a.ada b k d)
  (h2 : ∀ j k, (x2 (ix2 j k) : EReal) = a.wqkv k j) (h3 : ∀ j, (x3 (ix2 j 0) : EReal) = a.ws j) (h4 : ∀ j, (x4 (ix2 j 0) : EReal) = a.bias j)
  (hz : ∀ j : Fin 5760, 1920 ≤ j.val → j.val < 3840 → a.bias j = 0)

include hb h1 in
theorem gamma_apply (d : Fin 1920) : (gammaRow (grid0.coords t) x1 (ix2 0 d) : EReal) = a.ada b (0 : Fin 6) d :=
  (row_of b x1 0 _ (k0_off1_inb (grid0.coords t)) (by rw [off1_eq, hb]; rfl) d).trans (h1 0 d)

include hb h1 in
theorem mul_apply (d : Fin 1920) : (mulRow (grid0.coords t) x1 (ix2 0 d) : EReal) = Spec.one + a.ada b (2 : Fin 6) d :=
  congrArg (fun v : EReal => Spec.one + v) ((row_of b x1 2 _ (k0_off2_inb (grid0.coords t)) (by rw [off2_eq, hb]; rfl) d).trans (h1 2 d))

include hb h1 in
theorem add_apply (d : Fin 1920) : (addRow (grid0.coords t) x1 (ix2 0 d) : EReal) = a.ada b (4 : Fin 6) d :=
  (row_of b x1 4 _ (k0_off3_inb (grid0.coords t)) (by rw [off3_eq, hb]; rfl) d).trans (h1 4 d)

include hb h0 h1 in
theorem ln_eq (s : Fin 256) : Spec.ln (fun d => (x0 (ix3 0 s d) : EReal)) (vecRow (mulRow (grid0.coords t) x1)) (vecRow (addRow (grid0.coords t) x1)) = AttnSpec.hid a b s := by
  unfold AttnSpec.hid
  rw [show (fun d => (x0 (ix3 0 s d) : EReal)) = a.x b s from funext (h0 s), show vecRow (mulRow (grid0.coords t) x1) = _ from funext (mul_apply a t b hb x1 h1),
    show vecRow (addRow (grid0.coords t) x1) = _ from funext (add_apply a t b hb x1 h1)]

include hb h0 h1 in
theorem sCol_apply (s : Fin 256) : (sCol (grid0.coords t) x0 x1 (ix2 s 0) : EReal) = Spec.rowScale (AttnSpec.hid a b s) := by
  rw [← ln_eq a t b hb x0 x1 h0 h1 s]; exact scale_block s _ _ x0

include hb h0 h1 in
theorem c1Blk_apply (s : Fin 256) (d : Fin 1920) : (c1Blk (grid0.coords t) x0 x1 (ix3 0 s d) : EReal) = Spec.rowCode (AttnSpec.hid a b s) d := by
  rw [← ln_eq a t b hb x0 x1 h0 h1 s]; exact codes_block s d _ _ x0

include hb h0 h1 in
theorem codes_in (s : Fin 256) (d : Fin 1920) : (k0_pay61 (c1Blk (grid0.coords t) x0 x1) (ix2 s d) : EReal) = Spec.rowCode (AttnSpec.hid a b s) d := by
  have e := c1Blk_apply a t b hb x0 x1 h0 h1 s d
  generalize c1Blk (grid0.coords t) x0 x1 = z at e
  exact (pay61_apply z s d).trans e

include hb h0 h1 in
theorem scales_in (s : Fin 256) : (toRow (sCol (grid0.coords t) x0 x1) (ix2 0 s) : EReal) = Spec.rowScale (AttnSpec.hid a b s) :=
  (toRow_apply _ s).trans (sCol_apply a t b hb x0 x1 h0 h1 s)

include hb h0 h1 h2 h3 h4 in
/-- A group with its bias holds the projections. -/
theorem bias_in (n : ℕ) (hn : n < 15) (s : Fin 256) (j : Fin 384) (r : Fin 5760) (hr : r.val = 384 * n + j.val) :
    (k0_pay88 (toRow (sCol (grid0.coords t) x0 x1)) (k0_pay61 (c1Blk (grid0.coords t) x0 x1)) (View.ld x2 (wRect n)) (View.ld x3 (wsRect n)) (View.ld x4 (wsRect n)) (ix2 j s) : EReal) = AttnSpec.qkv a b s r := by
  refine (group_bias _ _ _ _ _ j s).trans ?_
  unfold AttnSpec.qkv
  rw [scales_in a t b hb x0 x1 h0 h1 s, show (fun k => (k0_pay61 (c1Blk (grid0.coords t) x0 x1) (ix2 s k) : EReal)) = _ from funext (codes_in a t b hb x0 x1 h0 h1 s),
    show (fun k => (View.ld x2 (wRect n) (ix2 j k) : EReal)) = fun k => a.wqkv k r from funext fun k => (w_ld x2 n hn j k r hr).trans (h2 r k),
    (ws_ld x3 n hn j r hr).trans (h3 r), (ws_ld x4 n hn j r hr).trans (h4 r)]

include hb h0 h1 h2 h3 hz in
/-- A group of keys, which have no bias, holds the projections. -/
theorem plain_in (n : ℕ) (hn : n < 15) (s : Fin 256) (j : Fin 384) (r : Fin 5760) (hr : r.val = 384 * n + j.val) (r1 : 1920 ≤ r.val) (r2 : r.val < 3840) :
    (k0_pay75 (toRow (sCol (grid0.coords t) x0 x1)) (k0_pay61 (c1Blk (grid0.coords t) x0 x1)) (View.ld x2 (wRect n)) (View.ld x3 (wsRect n)) (ix2 j s) : EReal) = AttnSpec.qkv a b s r := by
  refine (group_plain _ _ _ _ j s).trans ?_
  unfold AttnSpec.qkv
  rw [scales_in a t b hb x0 x1 h0 h1 s, show (fun k => (k0_pay61 (c1Blk (grid0.coords t) x0 x1) (ix2 s k) : EReal)) = _ from funext (codes_in a t b hb x0 x1 h0 h1 s),
    show (fun k => (View.ld x2 (wRect n) (ix2 j k) : EReal)) = fun k => a.wqkv k r from funext fun k => (w_ld x2 n hn j k r hr).trans (h2 r k),
    (ws_ld x3 n hn j r hr).trans (h3 r), hz r r1 r2]

variable (h : Fin 30) (s : Fin 256)

include hb h0 h1 h2 h3 hz in
theorem kHead_in (d : Fin 64) : (kHead (toRow (sCol (grid0.coords t) x0 x1)) (k0_pay61 (c1Blk (grid0.coords t) x0 x1)) (fun k => View.ld x2 (wRect k)) (fun k => View.ld x3 (wsRect k)) h.val (ix2 d s) : EReal) = AttnSpec.kh a b s h d :=
  (headOf_apply s _ h.val d).trans (plain_in a t b hb x0 x1 x2 x3 h0 h1 h2 h3 hz (5 + h.val / 6) (by omega) s _ _ (by show 1920 + (64 * h.val + d.val) = 384 * (5 + h.val / 6) + (64 * (h.val % 6) + d.val); omega) (by show 1920 ≤ 1920 + _; omega) (by show 1920 + (64 * h.val + d.val) < 3840; omega))

include hb h0 h1 h2 h3 h4 in
theorem vHead_in (d : Fin 64) : (vHead (toRow (sCol (grid0.coords t) x0 x1)) (k0_pay61 (c1Blk (grid0.coords t) x0 x1)) (fun k => View.ld x2 (wRect k)) (fun k => View.ld x3 (wsRect k)) (fun k => View.ld x4 (wsRect k)) h.val (ix2 d s) : EReal) = AttnSpec.vh a b s h d :=
  (headOf_apply s _ h.val d).trans (bias_in a t b hb x0 x1 x2 x3 x4 h0 h1 h2 h3 h4 (10 + h.val / 6) (by omega) s _ _ (by show 3840 + (64 * h.val + d.val) = 384 * (10 + h.val / 6) + (64 * (h.val % 6) + d.val); omega))

include hb h0 h1 h2 h3 h4 in
theorem vsRow_apply : (vsRow (grid0.coords t) x0 x1 x2 x3 x4 h.val (ix2 0 s) : EReal) = AttnSpec.valScale (AttnSpec.vh a b s h) := by
  unfold vsRow
  refine (vScale_apply _ s).trans (congrArg AttnSpec.valScale ?_)
  exact funext (vHead_in a t b hb x0 x1 x2 x3 x4 h0 h1 h2 h3 h4 h s)

include hb h0 h1 h2 h3 hz in
theorem kcBlk_apply (d : Fin 64) : kcBlk (grid0.coords t) x0 x1 x2 x3 (ix4 0 h d s) = AttnSpec.keyCode (AttnSpec.kh a b s h) d := by
  unfold kcBlk kcPieces
  refine (canon_k _ _ _ _ h d s 30 h.isLt le_rfl).trans ?_
  refine (kCodes_apply _ s d).trans (congrArg (fun f => AttnSpec.keyCode f d) ?_)
  exact funext (kHead_in a t b hb x0 x1 x2 x3 h0 h1 h2 h3 hz h s)

include hb h0 h1 h2 h3 h4 in
theorem vcBlk_apply (d : Fin 64) : vcBlk (grid0.coords t) x0 x1 x2 x3 x4 (ix4 0 h d s) = AttnSpec.valCode (AttnSpec.vh a b s h) d := by
  unfold vcBlk vcPieces
  refine (canon_v _ _ _ _ _ h d s 30 h.isLt le_rfl).trans ?_
  refine (vCodes_apply _ s d).trans (congrArg (fun f => AttnSpec.valCode f d) ?_)
  exact funext (vHead_in a t b hb x0 x1 x2 x3 x4 h0 h1 h2 h3 h4 h s)

end Point

end Cert.Attn
-- ==== Proof.Attn.Inputs.lean ====
/- The input blocks of a grid point of the attention half, as far as the projections depend on them, in terms of the arguments: the
   block of the stream is the batch of the point; the other inputs are whole at every point. -/
module

public import proofs.«01_k».proof.Proof.Attn.Frame
public import proofs.«01_k».proof.Proof.Attn.Spec
public import Idealize.ShloMosaic.Lib.Pipeline.ValueKit

@[expose] public section

set_option maxRecDepth 16384

noncomputable section

namespace Cert.Attn

open Cert.AttnKernelIdeal Cert.AttnKernelIdeal.Gen
open Idealize.ShloMosaic hiding ix1 ix2 ix3 ix4
open Idealize.ShloMosaic.TcCoe Idealize.ShloMosaic.ValueIdx

variable (m : (ℓ : Loc nD τ sig) → Buf (Elt Ideal) ℓ) (c : Dev nD)

abbrev argX : Vec Ideal S48x256x1920 .bf16 := m ((c : Thread nD τ).loc main_arg0)
abbrev argA : Vec Ideal S48x6x1920 .f32 := m ((c : Thread nD τ).loc main_arg1)
abbrev argW : Vec Ideal S1920x5760 .fp8e4m3 := m ((c : Thread nD τ).loc main_arg2)
abbrev argWs : Vec Ideal S5760 .f32 := m ((c : Thread nD τ).loc main_arg3)
abbrev argQb : Vec Ideal S1920 .f32 := m ((c : Thread nD τ).loc main_arg4)
abbrev argVb : Vec Ideal S1920 .f32 := m ((c : Thread nD τ).loc main_arg5)

theorem index0 : ∀ t : Fin cfg0.N, win0_0.index t = ![t.val, 0, 0] := (by decide +kernel : ∀ t : Fin grid0.N, win0_0.index t = ![t.val, 0, 0])
theorem index1 : ∀ t : Fin cfg0.N, win0_1.index t = ![0, 0, 0] := (by decide +kernel : ∀ t : Fin grid0.N, win0_1.index t = ![0, 0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])

variable (t : Fin cfg0.N)

theorem in0 (b : Fin 48) (hb : t.val = b.val) (s : Fin 256) (d : Fin 1920) : (iblk m c 0 t (ix3 0 s d) : EReal) = argX m c (ix3 b s d) := by
  blk_ext! [iblk, V, index0 t]

theorem in1 (b : Fin 48) (k : Fin 6) (d : Fin 1920) : (iblk m c 1 t (ix3 k b d) : EReal) = argA m c (ix3 b k d) := by
  blk_ext! [iblk, V, index1 t]

theorem in2 (j : Fin 5760) (k : Fin 1920) : (iblk m c 2 t (ix2 j k) : EReal) = argW m c (ix2 k j) := by
  blk_ext! [iblk, V, index2 t]

theorem in3 (j : Fin 5760) : (iblk m c 3 t (ix2 j 0) : EReal) = argWs m c (ix1 j) := by
  blk_ext! [iblk, V, index3 t]

/-- The biases of the queries, keys and values, of which the keys have none. -/
def biasOf (q v : Vec Ideal S1920 .f32) : Vec Ideal S5760 .f32 :=
  concatenate S5760 0 [⟨S1920, q⟩, ⟨S1920, (broadcastInDim S1920 ![] bcast_S_S1920 (constant (F := Ideal) S_ .f32 0x00000000#32) : Vec Ideal S1920 .f32)⟩, ⟨S1920, v⟩] concatenates_S1920_S1920_S1920_S5760_d0

/-- The biases as a row, and as the column the kernel is given. -/
theorem V_bias : V m c main_v6 = biasOf (argQb m c) (argVb m c) := by
  dsimp only [V, hostOps0]
  rfl

theorem V_biasCol : V m c main_v7 = (broadcastInDim S5760x1 ![0] bcast_S5760_S5760x1_0 (biasOf (argQb m c) (argVb m c)) : Vec Ideal S5760x1 .f32) := by
  dsimp only [V, hostOps0]
  rfl

theorem column (x : Vec Ideal S5760 .f32) (j : Fin 5760) : (broadcastInDim S5760x1 ![0] bcast_S5760_S5760x1_0 x (ix2 j 0) : EReal) = x (ix1 j) := by
  refine congrArg x ?_
  funext a
  fin_cases a
  rfl

theorem in4 (j : Fin 5760) : (iblk m c 4 t (ix2 j 0) : EReal) = biasOf (argQb m c) (argVb m c) (ix1 j) := by
  have e : (win0_4.blk t).view.emb (ix2 j 0) = ix2 j 0 := by blk_ext [index4 t]
  show V m c main_v7 ((win0_4.blk t).view.emb (ix2 j 0)) = _
  rw [e, V_biasCol]
  exact column _ j

/-- The keys have no bias. -/
theorem bias_zero (q v : Vec Ideal S1920 .f32) (j : Fin 5760) (h₁ : 1920 ≤ j.val) (h₂ : j.val < 3840) : (biasOf q v (ix1 j) : EReal) = 0 := by
  unfold biasOf
  generalize hz : (broadcastInDim S1920 ![] bcast_S_S1920 (constant (F := Ideal) S_ .f32 0x00000000#32) : Vec Ideal S1920 .f32) = z
  refine (concatenate_apply_piece (t := S5760) 0 [⟨S1920, q⟩, ⟨S1920, z⟩, ⟨S1920, v⟩] concatenates_S1920_S1920_S1920_S5760_d0 (ix1 j) 1 (Nat.le_of_ble_eq_true rfl) S1920 z rfl rfl 1920 rfl (ix1 (⟨j.val - 1920, by omega⟩ : Fin 1920)) ?_ ?_).trans ?_
  · intro b hb
    exact absurd (Subsingleton.elim (α := Fin 1) _ _) hb
  · show 1920 + (j.val - 1920) = j.val
    omega
  · subst hz
    exact Ideal.ofBits_zero_f32

/-- The arguments the projections depend on; the results treated here read no other. -/
def argsOf : AttnSpec.Args where
  x b s d := argX m c (ix3 b s d)
  ada b k d := argA m c (ix3 b k d)
  wqkv k j := argW m c (ix2 k j)
  ws j := argWs m c (ix1 j)
  bias j := biasOf (argQb m c) (argVb m c) (ix1 j)
  hm _ := 0
  ck _ _ _ _ := 0
  cv _ _ _ _ := 0
  cvs _ _ _ := 0
  wp _ _ := 0
  wps _ := 0
  bp _ := 0

end Cert.Attn
-- ==== Proof.Attn.Arrays.lean ====
/- What the quantised results of the attention half hold after the run: the specification's values of the arguments. -/
module

public import proofs.«01_k».proof.Proof.Attn.Blocks
public import proofs.«01_k».proof.Proof.Attn.Inputs

@[expose] public section

set_option maxRecDepth 16384

noncomputable section

namespace Cert.Attn

open Cert.AttnKernelIdeal Cert.AttnKernelIdeal.Gen
open Idealize.ShloMosaic hiding ix1 ix2 ix3 ix4
open Idealize.SL.Sem
open Idealize.ShloMosaic.TcCoe Idealize.ShloMosaic.ValueIdx
open Idealize.ShloMosaic.Pipeline (Dat RDat Cfg Window)

variable (m : (ℓ : Loc nD τ sig) → Buf (Elt Ideal) ℓ) (c : Dev nD)

/-- The results as functions of the arguments. -/
def c1Fn : Vec Ideal S48x256x1920 .fp8e4m3 := fun i => Spec.rowCode (AttnSpec.hid (argsOf m c) (i 0) (i 1)) (i 2)
def s1Fn : Vec Ideal S48x256 .f32 := fun i => Spec.rowScale (AttnSpec.hid (argsOf m c) (i 0) (i 1))
def kcFn : Vec Ideal S48x30x64x256 .i8 := fun i => AttnSpec.keyCode (AttnSpec.kh (argsOf m c) (i 0) (i 3) (i 1)) (i 2)
def vcFn : Vec Ideal S48x30x64x256 .i8 := fun i => AttnSpec.valCode (AttnSpec.vh (argsOf m c) (i 0) (i 3) (i 1)) (i 2)
def vsFn : Vec Ideal S30x48x256 .f32 := fun i => AttnSpec.valScale (AttnSpec.vh (argsOf m c) (i 1) (i 2) (i 0))

theorem index13 : ∀ t : Fin cfg0.N, win0_13.index t = ![t.val, 0, 0] := (by decide +kernel : ∀ t : Fin grid0.N, win0_13.index t = ![t.val, 0, 0])
theorem index15 : ∀ t : Fin cfg0.N, win0_15.index t = ![t.val, 0, 0, 0] := (by decide +kernel : ∀ t : Fin grid0.N, win0_15.index t = ![t.val, 0, 0, 0])
theorem index16 : ∀ t : Fin cfg0.N, win0_16.index t = ![t.val, 0, 0, 0] := (by decide +kernel : ∀ t : Fin grid0.N, win0_16.index t = ![t.val, 0, 0, 0])

/-- The batch of a grid point. -/
def batch (t : Fin cfg0.N) : Fin 48 := ⟨t.val, t.isLt.trans_eq N_0⟩

section Values

variable (t : Fin cfg0.N) (s : Fin 256)

theorem c1At_apply (d : Fin 1920) : (c1At m c t (ix3 0 s d) : EReal) = Spec.rowCode (AttnSpec.hid (argsOf m c) (batch t) s) d :=
  c1Blk_apply (argsOf m c) t (batch t) rfl _ _ (in0 m c t (batch t) rfl) (fun k d => in1 m c t (batch t) k d) s d

theorem s1At_apply : (s1At m c t (ix2 0 s) : EReal) = Spec.rowScale (AttnSpec.hid (argsOf m c) (batch t) s) :=
  scales_in (argsOf m c) t (batch t) rfl _ _ (in0 m c t (batch t) rfl) (fun k d => in1 m c t (batch t) k d) s

theorem kcAt_apply (h : Fin 30) (d : Fin 64) : kcAt m c t (ix4 0 h d s) = AttnSpec.keyCode (AttnSpec.kh (argsOf m c) (batch t) s h) d :=
  kcBlk_apply (argsOf m c) t (batch t) rfl _ _ _ _ (in0 m c t (batch t) rfl) (fun k d => in1 m c t (batch t) k d) (in2 m c t) (in3 m c t) (fun j h₁ h₂ => bias_zero _ _ j h₁ h₂) h s d

theorem vcAt_apply (h : Fin 30) (d : Fin 64) : vcAt m c t (ix4 0 h d s) = AttnSpec.valCode (AttnSpec.vh (argsOf m c) (batch t) s h) d :=
  vcBlk_apply (argsOf m c) t (batch t) rfl _ _ _ _ _ (in0 m c t (batch t) rfl) (fun k d => in1 m c t (batch t) k d) (in2 m c t) (in3 m c t) (in4 m c t) h s d

theorem vsAt_apply (h : Fin 30) : (vsAt m c t h.val (ix2 0 s) : EReal) = AttnSpec.valScale (AttnSpec.vh (argsOf m c) (batch t) s h) :=
  vsRow_apply (argsOf m c) t (batch t) rfl _ _ _ _ _ (in0 m c t (batch t) rfl) (fun k d => in1 m c t (batch t) k d) (in2 m c t) (in3 m c t) (in4 m c t) h s

end Values

/-! ## The arrays written block by block -/

theorem final13 : (dats m 0 c).arrAt 13 cfg0.N = c1Fn m c := by
  refine (dats m 0 c).arrAt_eq_of_covers 13 _ (by decide +kernel) fun t hf y => ?_
  blk_simp
  rw [after0_13]
  have e : (win0_13.blk t).view.emb y = ix3 (batch t) (y 1) (y 2) := by blk_ext [index13 t, batch]
  rw [e]
  have ey : y = ix3 0 (y 1) (y 2) := by blk_ext []
  exact (congrArg (c1At m c t) ey).trans (c1At_apply m c t _ _)

theorem final15 : (dats m 0 c).arrAt 15 cfg0.N = kcFn m c := by
  refine (dats m 0 c).arrAt_eq_of_covers 15 _ (by decide +kernel) fun t hf y => ?_
  blk_simp
  rw [after0_15]
  have e : (win0_15.blk t).view.emb y = ix4 (batch t) (y 1) (y 2) (y 3) := by blk_ext [index15 t, batch]
  rw [e]
  have ey : y = ix4 0 (y 1) (y 2) (y 3) := by blk_ext []
  exact (congrArg (kcAt m c t) ey).trans (kcAt_apply m c t _ _ _)

theorem final16 : (dats m 0 c).arrAt 16 cfg0.N = vcFn m c := by
  refine (dats m 0 c).arrAt_eq_of_covers 16 _ (by decide +kernel) fun t hf y => ?_
  blk_simp
  rw [after0_16]
  have e : (win0_16.blk t).view.emb y = ix4 (batch t) (y 1) (y 2) (y 3) := by blk_ext [index16 t, batch]
  rw [e]
  have ey : y = ix4 0 (y 1) (y 2) (y 3) := by blk_ext []
  exact (congrArg (vcAt m c t) ey).trans (vcAt_apply m c t _ _ _)

/-! ## The resident arrays, row by row -/

theorem after14_iff (t : Fin cfg0.N) (Y X : Vec Ideal S48x256 .f32) : (rdat m c).after 14 t Y X ↔ X = rowSet t.val (s1At m c t) Y := by
  unfold rdat
  rw [RDat.override_after_of_eq_some _ (w := 14) rfl]

/-- After a point the rows up to the point's are the specification's. -/
theorem leaves14 (n : ℕ) : ∀ (hn : n < cfg0.N) (X : Vec Ideal S48x256 .f32), (rdat m c).Leaves 14 ⟨n, hn⟩ X → ∀ (b : Fin 48) (s : Fin 256), b.val ≤ n → X (ix2 b s) = s1Fn m c (ix2 b s) := by
  have row (n : ℕ) (hn : n < cfg0.N) (Y : Vec Ideal S48x256 .f32) (b : Fin 48) (s : Fin 256) (hb : b.val = n) : rowSet n (s1At m c ⟨n, hn⟩) Y (ix2 b s) = s1Fn m c (ix2 b s) := by
    unfold rowSet
    rw [if_pos (show (ix2 b s 0).val = n from hb)]
    refine (s1At_apply m c ⟨n, hn⟩ s).trans ?_
    rw [show batch ⟨n, hn⟩ = b from Fin.ext hb.symm]
    rfl
  induction n with
  | zero =>
    rintro hn X ⟨Y, -, hX⟩ b s hb
    rw [(after14_iff m c _ _ _).mp hX]
    exact row 0 hn Y b s (Nat.le_zero.mp hb)
  | succ n ih =>
    rintro hn X ⟨Y, hY, hX⟩ b s hb
    rw [(after14_iff m c _ _ _).mp hX]
    by_cases h : b.val = n + 1
    · exact row (n + 1) hn Y b s h
    · have hN : n + 1 < 48 := hn.trans_eq N_0
      unfold rowSet
      rw [if_neg (show ¬ (ix2 b s 0).val = n + 1 from h)]
      rcases (RDat.finds_of_pos (rd := rdat m c) (w := 14) (t := ⟨n + 1, hn⟩) rfl (Nat.succ_ne_zero n) Y).mp hY with hf | hl
      · have := (flush0_14 _).mp hf
        simp only [Nat.add_sub_cancel] at this
        omega
      · exact ih _ Y hl b s (by omega)

theorem final14 (G : Vec Ideal S48x256 .f32) (hG : (rdat m c).ArrAt 14 cfg0.N G) : G = s1Fn m c := by
  obtain ⟨X, hX, hA⟩ := hG.emb_eq_of_wholeAt (t₀ := ⟨47, by decide⟩) (by decide +kernel)
  funext i
  rw [ValueIdx.eq_ix2 i]
  exact (hA (ix2 (i 0) (i 1))).trans (leaves14 m c 47 _ X hX (i 0) (i 1) (Nat.le_of_lt_succ (i 0).isLt))

theorem after17_iff (t : Fin cfg0.N) (Y X : Vec Ideal S30x48x256 .f32) : (rdat m c).after 17 t Y X ↔ X = layerSet t.val (vsAt m c t) Y := by
  unfold rdat
  rw [RDat.override_after_of_eq_some _ (w := 17) rfl]

/-- After a point the rows of every head up to the point's are the specification's. -/
theorem leaves17 (n : ℕ) : ∀ (hn : n < cfg0.N) (X : Vec Ideal S30x48x256 .f32), (rdat m c).Leaves 17 ⟨n, hn⟩ X → ∀ (h : Fin 30) (b : Fin 48) (s : Fin 256), b.val ≤ n → X (ix3 h b s) = vsFn m c (ix3 h b s) := by
  have row (n : ℕ) (hn : n < cfg0.N) (Y : Vec Ideal S30x48x256 .f32) (h : Fin 30) (b : Fin 48) (s : Fin 256) (hb : b.val = n) : layerSet n (vsAt m c ⟨n, hn⟩) Y (ix3 h b s) = vsFn m c (ix3 h b s) := by
    unfold layerSet
    rw [if_pos (show (ix3 h b s 1).val = n from hb)]
    refine (vsAt_apply m c ⟨n, hn⟩ s h).trans ?_
    rw [show batch ⟨n, hn⟩ = b from Fin.ext hb.symm]
    rfl
  induction n with
  | zero =>
    rintro hn X ⟨Y, -, hX⟩ h b s hb
    rw [(after17_iff m c _ _ _).mp hX]
    exact row 0 hn Y h b s (Nat.le_zero.mp hb)
  | succ n ih =>
    rintro hn X ⟨Y, hY, hX⟩ h b s hb
    rw [(after17_iff m c _ _ _).mp hX]
    by_cases k : b.val = n + 1
    · exact row (n + 1) hn Y h b s k
    · have hN : n + 1 < 48 := hn.trans_eq N_0
      unfold layerSet
      rw [if_neg (show ¬ (ix3 h b s 1).val = n + 1 from k)]
      rcases (RDat.finds_of_pos (rd := rdat m c) (w := 17) (t := ⟨n + 1, hn⟩) rfl (Nat.succ_ne_zero n) Y).mp hY with hf | hl
      · have := (flush0_17 _).mp hf
        simp only [Nat.add_sub_cancel] at this
        omega
      · exact ih _ Y hl h b s (by omega)

theorem final17 (G : Vec Ideal S30x48x256 .f32) (hG : (rdat m c).ArrAt 17 cfg0.N G) : G = vsFn m c := by
  obtain ⟨X, hX, hA⟩ := hG.emb_eq_of_wholeAt (t₀ := ⟨47, by decide⟩) (by decide +kernel)
  funext i
  rw [ValueIdx.eq_ix3 i]
  exact (hA (ix3 (i 0) (i 1) (i 2))).trans (leaves17 m c 47 _ X hX (i 0) (i 1) (i 2) (Nat.le_of_lt_succ (i 1).isLt))

/-! ## The run -/

variable (ρ : Dev nD → PrngReg)

/-- After the run the quantised results hold the specification's values and the arguments are as they were. -/
theorem run : θ_run defs (onTc (τ := τ) (main (F := Ideal))) ⟨m, fun _ => 0, ρ⟩ (fun r => ∀ c : Dev nD,
      r.2.mem ((c.tc : Thread nD τ).loc main_v15_1) = c1Fn m c
      ∧ r.2.mem ((c.tc : Thread nD τ).loc main_v15_2) = s1Fn m c
      ∧ r.2.mem ((c.tc : Thread nD τ).loc main_v15_3) = kcFn m c
      ∧ r.2.mem ((c.tc : Thread nD τ).loc main_v15_4) = vcFn m c
      ∧ r.2.mem ((c.tc : Thread nD τ).loc main_v15_5) = vsFn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨((Dat.toR_arrAt_iff _ 13 _ _).mp (((dats m 0 c).toR.override_arrAt rfl _ _).mp ((h.1 c).1 13))).trans (final13 m c),
      final14 m c _ ((h.1 c).1 14),
      ((Dat.toR_arrAt_iff _ 15 _ _).mp (((dats m 0 c).toR.override_arrAt rfl _ _).mp ((h.1 c).1 15))).trans (final15 m c),
      ((Dat.toR_arrAt_iff _ 16 _ _).mp (((dats m 0 c).toR.override_arrAt rfl _ _).mp ((h.1 c).1 16))).trans (final16 m c),
      final17 m c _ ((h.1 c).1 17),
      (Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c)⟩) (run_main m ρ)

end Cert.Attn
-- ==== Proof.AttnRef.Layout.lean ====
/-
  Vectors of four axes read at an index: unit axes added and dropped, heads split off a row and joined again, one entry
  spread along an axis, sums and greatest values along the last axis, and the batched products of attention.
-/
module

public import proofs.«01_k».proof.Proof.Common.Layout
public import Idealize.ShloMosaic.Lib.MatmulPlain

@[expose] public section

namespace Cert.Layout

open Idealize.ShloMosaic
open Idealize.ShloMosaic.ValueIdx
open scoped BigOperators

theorem forall_four {P : Fin 4 → Prop} (h0 : P 0) (h1 : P 1) (h2 : P 2) (h3 : P 3) : ∀ i, P i := fun i => by
  fin_cases i
  · exact h0
  · exact h1
  · exact h2
  · exact h3

section Any
variable {α : Type} {a b c n m : ℕ}

theorem cast4_unit (x : (⟨3, ![a, b, c]⟩ : Shape).Idx → α) (h) (i : Fin a) (j : Fin b) (k : Fin c) (l : Fin 1) :
    shapeCast ⟨4, ![a, b, c, 1]⟩ x h (ix4 i j k l) = x (ix3 i j k) :=
  shapeCast_apply x h _ _ (by
    rw [Shape.rowMajor_val_four, Shape.rowMajor_val_three]
    show (i.val * b + j.val) * c + k.val = ((i.val * b + j.val) * c + k.val) * 1 + l.val
    omega)

theorem cast4_ununit (x : (⟨4, ![a, b, c, 1]⟩ : Shape).Idx → α) (h) (i : Fin a) (j : Fin b) (k : Fin c) :
    shapeCast ⟨3, ![a, b, c]⟩ x h (ix3 i j k) = x (ix4 i j k 0) :=
  shapeCast_apply x h _ _ (by
    rw [Shape.rowMajor_val_four, Shape.rowMajor_val_three]
    show ((i.val * b + j.val) * c + k.val) * 1 + 0 = (i.val * b + j.val) * c + k.val
    omega)

theorem cast4_mid (x : (⟨3, ![a, b, c]⟩ : Shape).Idx → α) (h) (i : Fin a) (j : Fin b) (l : Fin 1) (k : Fin c) :
    shapeCast ⟨4, ![a, b, 1, c]⟩ x h (ix4 i j l k) = x (ix3 i j k) :=
  shapeCast_apply x h _ _ (by
    rw [Shape.rowMajor_val_four, Shape.rowMajor_val_three]
    show (i.val * b + j.val) * c + k.val = ((i.val * b + j.val) * 1 + l.val) * c + k.val
    rw [show l.val = 0 by omega, Nat.mul_one, Nat.add_zero])

theorem cast4_head (x : (⟨2, ![c, 1]⟩ : Shape).Idx → α) (h) (k : Fin c) :
    shapeCast ⟨4, ![1, 1, c, 1]⟩ x h (ix4 0 0 k 0) = x (ix2 k 0) :=
  shapeCast_apply x h _ _ (by
    rw [Shape.rowMajor_val_four, Shape.rowMajor_val_two]
    show k.val * 1 + 0 = ((0 * 1 + 0) * c + k.val) * 1 + 0
    omega)

/-- A row cut into its heads … -/
theorem split_heads {N : ℕ} (x : (⟨3, ![a, b, N]⟩ : Shape).Idx → α) (h) (hN : N = c * m) (i : Fin a) (j : Fin b) (k : Fin c) (l : Fin m) (r : Fin N)
    (hr : r.val = k.val * m + l.val) : shapeCast ⟨4, ![a, b, c, m]⟩ x h (ix4 i j k l) = x (ix3 i j r) :=
  shapeCast_apply x h _ _ (by
    rw [Shape.rowMajor_val_four, Shape.rowMajor_val_three]
    show (i.val * b + j.val) * N + r.val = ((i.val * b + j.val) * c + k.val) * m + l.val
    rw [hr, hN]; ring)

/-- … and joined again. -/
theorem join_heads {N : ℕ} (x : (⟨4, ![a, b, c, m]⟩ : Shape).Idx → α) (h) (hN : N = c * m) (i : Fin a) (j : Fin b) (k : Fin c) (l : Fin m) (r : Fin N)
    (hr : r.val = k.val * m + l.val) : shapeCast ⟨3, ![a, b, N]⟩ x h (ix3 i j r) = x (ix4 i j k l) :=
  shapeCast_apply x h _ _ (by
    rw [Shape.rowMajor_val_four, Shape.rowMajor_val_three]
    show ((i.val * b + j.val) * c + k.val) * m + l.val = (i.val * b + j.val) * N + r.val
    rw [hr, hN]; ring)

theorem bcast4_last (x : (⟨4, ![a, b, c, 1]⟩ : Shape).Idx → α) (h) (i : Fin a) (j : Fin b) (k : Fin c) (l : Fin m) :
    broadcastTo ⟨4, ![a, b, c, m]⟩ x h (ix4 i j k l) = x (ix4 i j k 0) :=
  broadcastTo_apply x h _ _ (forall_four (by
    show i.val = if a = 1 then 0 else i.val
    split <;> omega) (by
    show j.val = if b = 1 then 0 else j.val
    split <;> omega) (by
    show k.val = if c = 1 then 0 else k.val
    split <;> omega) (by
    show 0 = if 1 = 1 then 0 else _
    rfl))

theorem bcast4_mid (x : (⟨4, ![a, b, 1, m]⟩ : Shape).Idx → α) (h) (i : Fin a) (j : Fin b) (k : Fin c) (l : Fin m) :
    broadcastTo ⟨4, ![a, b, c, m]⟩ x h (ix4 i j k l) = x (ix4 i j 0 l) :=
  broadcastTo_apply x h _ _ (forall_four (by
    show i.val = if a = 1 then 0 else i.val
    split <;> omega) (by
    show j.val = if b = 1 then 0 else j.val
    split <;> omega) (by
    show 0 = if 1 = 1 then 0 else _
    rfl) (by
    show l.val = if m = 1 then 0 else l.val
    split <;> omega))

theorem bcast4_head (x : (⟨4, ![1, 1, c, 1]⟩ : Shape).Idx → α) (h) (i : Fin a) (j : Fin b) (k : Fin c) (l : Fin m) :
    broadcastTo ⟨4, ![a, b, c, m]⟩ x h (ix4 i j k l) = x (ix4 0 0 k 0) :=
  broadcastTo_apply x h _ _ (forall_four (by
    show 0 = if 1 = 1 then 0 else _
    rfl) (by
    show 0 = if 1 = 1 then 0 else _
    rfl) (by
    show k.val = if c = 1 then 0 else k.val
    split <;> omega) (by
    show 0 = if 1 = 1 then 0 else _
    rfl))

/-- A piece of the last axis. -/
theorem slice_last {N : ℕ} (o : ℕ) (x : (⟨3, ![a, b, N]⟩ : Shape).Idx → α) (h) (i : Fin a) (j : Fin b) (k : Fin m) (r : Fin N) (hr : r.val = o + k.val) :
    extractStridedSlice ⟨3, ![a, b, m]⟩ ![0, 0, o] x h (ix3 i j k) = x (ix3 i j r) :=
  extractStridedSlice_apply _ x h _ _ (forall_three (by
    show i.val = 0 + i.val
    omega) (by
    show j.val = 0 + j.val
    omega) (by
    show r.val = o + k.val
    exact hr))

/-- The last two axes exchanged. -/
theorem flip_last (x : (⟨3, ![a, b, c]⟩ : Shape).Idx → α) (h) (i : Fin a) (j : Fin c) (k : Fin b) :
    transpose ⟨3, ![a, c, b]⟩ [0, 2, 1] x h (ix3 i j k) = x (ix3 i k j) :=
  transpose_apply _ x h _ _ (forall_three rfl rfl rfl)

/-- The last axis moved to the front. -/
theorem turn_front (x : (⟨3, ![a, b, c]⟩ : Shape).Idx → α) (h) (i : Fin c) (j : Fin a) (k : Fin b) :
    transpose ⟨3, ![c, a, b]⟩ [2, 0, 1] x h (ix3 i j k) = x (ix3 j k i) :=
  transpose_apply _ x h _ _ (forall_three rfl rfl rfl)

/-- The last axis moved to the second place … -/
theorem turn_second (x : (⟨4, ![a, b, c, m]⟩ : Shape).Idx → α) (h) (i : Fin a) (j : Fin m) (k : Fin b) (l : Fin c) :
    transpose ⟨4, ![a, m, b, c]⟩ [0, 3, 1, 2] x h (ix4 i j k l) = x (ix4 i k l j) :=
  transpose_apply _ x h _ _ (forall_four rfl rfl rfl rfl)

/-- … and the second to the last. -/
theorem turn_last (x : (⟨4, ![a, b, c, m]⟩ : Shape).Idx → α) (h) (i : Fin a) (j : Fin c) (k : Fin m) (l : Fin b) :
    transpose ⟨4, ![a, c, m, b]⟩ [0, 2, 3, 1] x h (ix4 i j k l) = x (ix4 i l j k) :=
  transpose_apply _ x h _ _ (forall_four rfl rfl rfl rfl)

end Any

section AtIdeal
variable {φ : FTy} {a b c m : ℕ}

theorem sum_last4 (x : FVec Ideal ⟨4, ![a, b, c, m]⟩ φ) (acc : BitVec φ.bits) (h : (⟨4, ![a, b, c, m]⟩ : Shape).Reduces [3] ⟨3, ![a, b, c]⟩) (hφ : FKind.Formats φ)
    (hacc : acc = FKind.add.neutral φ hφ) (i : Fin a) (j : Fin b) (l : Fin c) :
    multiReduction .add [3] ⟨3, ![a, b, c]⟩ x acc h hφ hacc (ix3 i j l) = ∑ k : Fin m, (x (ix4 i j l k) : EReal) := by
  refine (Ideal.multiReduction_add_single (a := 3) x acc h hφ hacc (ix3 i j l)).trans (Finset.sum_congr rfl fun k _ => congrArg x ?_)
  rw [eq_ix4 (h.lift (ix3 i j l) k)]; rfl

theorem max_last4 (x : FVec Ideal ⟨4, ![a, b, c, m]⟩ φ) (acc : BitVec φ.bits) (h : (⟨4, ![a, b, c, m]⟩ : Shape).Reduces [3] ⟨3, ![a, b, c]⟩) (hφ : FKind.Formats φ)
    (hacc : acc = FKind.maximumf.neutral φ hφ) (i : Fin a) (j : Fin b) (l : Fin c) :
    multiReduction .maximumf [3] ⟨3, ![a, b, c]⟩ x acc h hφ hacc (ix3 i j l)
      = (Finset.univ : Finset (Fin m)).fold max (Ideal.ofBits φ acc : EReal) fun k => x (ix4 i j l k) := by
  refine (Ideal.multiReduction_maximumf_single (a := 3) x acc h hφ hacc (ix3 i j l)).trans ?_
  refine congrArg (fun f => (Finset.univ : Finset (Fin m)).fold max (Ideal.ofBits φ acc : EReal) f) (funext fun k => congrArg x ?_)
  rw [eq_ix4 (h.lift (ix3 i j l) k)]; rfl

end AtIdeal

end Cert.Layout
-- ==== Proof.AttnRef.Stages.lean ====
/- The reference of the attention half over the extended reals, up to the quantised keys and values: each stage at an index. -/
module

public import proofs.«01_k».proof.Proof.AttnRef.Layout
public import proofs.«01_k».proof.Proof.Attn.Spec
public import proofs.«01_k».proof.Proof.Gen.AttnReferenceIdeal.Skeleton

@[expose] public section

set_option maxRecDepth 16384

noncomputable section

namespace Cert.AttnRef

open Cert.AttnReferenceIdeal Cert.AttnReferenceIdeal.Gen
open Idealize.ShloMosaic
open Idealize.ShloMosaic.TcCoe Idealize.ShloMosaic.ValueIdx
open scoped BigOperators

/-- Two products, quotients, sums of equal numbers. -/
theorem mul_eq {a b c d : EReal} (h : a = c) (k : b = d) : a * b = c * d := by rw [h, k]
theorem div_eq {a b c d : EReal} (h : a = c) (k : b = d) : Ideal.div a b = Ideal.div c d := by rw [h, k]
theorem add_eq {a b c d : EReal} (h : a = c) (k : b = d) : a + b = c + d := by rw [h, k]

/-- Clipped to the largest fp8 number. -/
theorem clip_apply {t : Shape} (x : FVec Ideal t .f32) (h) (i : t.Idx) :
    (truncf .fp8e4m3 (minimumf (broadcast t (Scalar.ofBits .f32 0x43E00000#32 : Ideal .f32)) (maximumf (broadcast t (Scalar.ofBits .f32 0xC3E00000#32 : Ideal .f32)) x)) h i : EReal) = min Spec.top (max Spec.bot (x i)) := rfl

/-- Rounded, clipped and converted to eight bits. -/
theorem int8_apply {t : Shape} (x : FVec Ideal t .f32) (i : t.Idx) :
    fptosi 8 (minimumf (broadcast t (Scalar.sitofp .f32 127#32 : Ideal .f32)) (maximumf (broadcast t (Scalar.sitofp .f32 4294967169#32 : Ideal .f32)) (roundeven x))) i = AttnSpec.int8 (x i) := rfl

/-- 1 in place of 0. -/
theorem nonzero_apply {t : Shape} (x : FVec Ideal t .f32) (i : t.Idx) :
    (select (cmpf .oeq x (broadcast t (Scalar.ofBits .f32 0x00000000#32))) (broadcast t (Scalar.ofBits .f32 0x3F800000#32 : Ideal .f32)) x i : EReal) = AttnSpec.nonzero (x i) := rfl

/-- The lengths of the heads' vectors, 1 in place of 0. -/
theorem len_apply (z : FVec Ideal S48x256x30x64 .f32) (b : Fin 48) (s : Fin 256) (h : Fin 30) (f : Fin 64 → EReal) (q : ∀ d, (z (ix4 b s h d) : EReal) = f d) (h₁ h₂) (e₁ e₂) :
    (select (cmpf .oeq (sqrt (shapeCast S48x256x30x1 (multiReduction .add [3] S48x256x30 (mulf z z) 0x00000000#32 h₁ e₁ e₂) h₂)) (broadcast S48x256x30x1 (Scalar.ofBits .f32 0x00000000#32)))
      (broadcast S48x256x30x1 (Scalar.ofBits .f32 0x3F800000#32 : Ideal .f32))
      (sqrt (shapeCast S48x256x30x1 (multiReduction .add [3] S48x256x30 (mulf z z) 0x00000000#32 h₁ e₁ e₂) h₂)) (ix4 b s h 0) : EReal) = AttnSpec.len f := by
  refine (nonzero_apply _ _).trans (congrArg AttnSpec.nonzero ?_)
  refine congrArg Ideal.sqrt ((Layout.cast4_unit _ _ b s h 0).trans ((Layout.sum_last4 _ _ _ _ _ b s h).trans (Finset.sum_congr rfl fun k _ => ?_)))
  exact mul_eq (q k) (q k)

section Stages

variable (v0 : Vec Ideal S48x256x1920 .bf16) (v2 v3 : Vec Ideal S48x1x1920 .f32) (b : Fin 48) (s : Fin 256)

/-- The modulated LayerNorm of a token, from the loads. -/
abbrev lnRow : Fin 1920 → EReal :=
  Spec.ln (fun d => v0 (ix3 b s d)) (fun d => Spec.one + (v2 (ix3 b 0 d) : EReal)) (fun d => v3 (ix3 b 0 d))

theorem ln_apply (d : Fin 1920) : (k0_pay7 v0 v2 v3 (ix3 b s d) : EReal) = lnRow v0 v2 v3 b s d := by
  have hs : ∀ (y : FVec Ideal S48x256x1920 .f32) (i : Fin 48) (j : Fin 256), multiReduction .add [2] S48x256 y 0x00000000#32 reduces_S48x256x1920_S48x256 (.inl rfl) rfl (ix2 i j) = (∑ k : Fin 1920, (y (ix3 i j k) : EReal)) :=
    fun y i j => Layout.sum_rows3 y _ _ _ _ i j
  have hr : ∀ (y : FVec Ideal S48x256x1 .f32) (i : S48x256x1.Idx), sqrt y i = Ideal.sqrt (y i) := fun _ _ => rfl
  unfold k0_pay7
  simp only [addf_apply, mulf_apply, subf_apply, divf_apply, Layout.bcast3_col, Layout.bcast3_mid, Layout.cast_unit, hs, hr, broadcast_apply]
  rfl

/-- The scale of the rows of a three-dimensional array. -/
theorem scale_rows {n : ℕ} (z : FVec Ideal ⟨3, ![48, 256, n]⟩ .f32) (h : (⟨3, ![48, 256, n]⟩ : Shape).Reduces [2] S48x256) (f : Fin n → EReal) (e : ∀ k, (z (ix3 b s k) : EReal) = f k) :
    ((select (cmpf .oeq (shapeCast S48x256x1 (multiReduction .maximumf [2] S48x256 (absf z) 0xFF800000#32 h (.inl rfl) rfl) shapeCasts_S48x256_S48x256x1) (broadcast S48x256x1 (Scalar.ofBits .f32 0x00000000#32)))
      (broadcast S48x256x1 (Scalar.ofBits .f32 0x3F800000#32 : Ideal .f32))
      (divf (shapeCast S48x256x1 (multiReduction .maximumf [2] S48x256 (absf z) 0xFF800000#32 h (.inl rfl) rfl) shapeCasts_S48x256_S48x256x1) (broadcast S48x256x1 (Scalar.ofBits .f32 0x43E00000#32))) : FVec Ideal S48x256x1 .f32) (ix3 b s 0) : EReal)
      = Spec.rowScale f := by
  simp only [select_apply, cmpf_apply, divf_apply, Layout.cast_unit, broadcast_apply]
  have a : (multiReduction .maximumf [2] S48x256 (absf z) 0xFF800000#32 h (.inl rfl) rfl (ix2 b s) : EReal) = Spec.amax f := by
    refine (Layout.max_rows3 (absf z) _ _ _ _ b s).trans ?_
    refine congrArg (fun f => Finset.univ.fold max Spec.least f) (funext fun k => ?_)
    show max (z (ix3 b s k) : EReal) (-(z (ix3 b s k) : EReal)) = _
    rw [e]
  exact congrArg Spec.scaleOf a

theorem scale1_apply : (k0_pay8 v0 v2 v3 (ix3 b s 0) : EReal) = Spec.rowScale (lnRow v0 v2 v3 b s) := by
  unfold k0_pay8
  exact scale_rows b s (k0_pay7 v0 v2 v3) _ _ (ln_apply v0 v2 v3 b s)

/-- A row over its scale. -/
theorem quot_any (z : FVec Ideal S48x256x1920 .f32) (q : FVec Ideal S48x256x1 .f32) (hb) (d : Fin 1920) (u v : EReal) (e : (z (ix3 b s d) : EReal) = u) (f : (q (ix3 b s 0) : EReal) = v) :
    (divf z (broadcastTo S48x256x1920 q hb) (ix3 b s d) : EReal) = Ideal.div u v :=
  div_eq e ((Layout.bcast3_col q hb b s d).trans f)

theorem quot1_apply (d : Fin 1920) : (k0_pay9 v0 v2 v3 (ix3 b s d) : EReal) = Ideal.div (lnRow v0 v2 v3 b s d) (Spec.rowScale (lnRow v0 v2 v3 b s)) := by
  have e := ln_apply v0 v2 v3 b s d
  have f := scale1_apply v0 v2 v3 b s
  unfold k0_pay9
  exact quot_any b s _ _ _ d _ _ e f

theorem clip1_any (y : FVec Ideal S48x256x1920 .f32) (i : S48x256x1920.Idx) : (k0_pay10 y i : EReal) = min Spec.top (max Spec.bot (y i)) := rfl

theorem codes1_apply (d : Fin 1920) : (k0_pay10 (k0_pay9 v0 v2 v3) (ix3 b s d) : EReal) = Spec.rowCode (lnRow v0 v2 v3 b s) d :=
  (clip1_any _ _).trans (congrArg (fun v : EReal => min Spec.top (max Spec.bot v)) (quot1_apply v0 v2 v3 b s d))

variable (w : Vec Ideal S1920x5760 .fp8e4m3) (ws bi : Vec Ideal S1x5760 .f32)

/-- The projections of a token, from the loads. -/
abbrev qkvRow (j : Fin 5760) : EReal :=
  Spec.lin (Spec.rowCode (lnRow v0 v2 v3 b s)) (Spec.rowScale (lnRow v0 v2 v3 b s)) (fun k => w (ix2 k j)) (ws (ix2 0 j)) (bi (ix2 0 j))

theorem product1 (z : FVec Ideal S48x256x1920 .fp8e4m3) (j : Fin 5760) :
    (shapeCast S48x256x5760 (matmul (F := Ideal) (φ₁ := .fp8e4m3) (φ₂ := .fp8e4m3) dot_S12288x1920_S1920x5760_S12288x5760_1_0_0_1_n_n none (shapeCast S12288x1920 z shapeCasts_S48x256x1920_S12288x1920) w (constant S12288x5760 .f32 0x00000000#32))
        shapeCasts_S12288x5760_S48x256x5760 (ix3 b s j) : EReal) = ∑ k : Fin 1920, (z (ix3 b s k) * w (ix2 k j) : EReal) := by
  refine (Layout.cast_split _ shapeCasts_S12288x5760_S48x256x5760 b s j (⟨b.val * 256 + s.val, by omega⟩ : Fin 12288) rfl).trans ?_
  refine (Layout.product (φ₁ := .fp8e4m3) (φ₂ := .fp8e4m3) (M := 12288) (K := 1920) (N := 5760) none _ w _ j).trans (Finset.sum_congr rfl fun k _ => ?_)
  exact congrArg (fun x : EReal => x * (w (ix2 k j) : EReal)) (Layout.cast_merge z _ b s k _ rfl)

theorem lin_any (p : FVec Ideal S48x256x1 .f32) (q : FVec Ideal S48x256x1920 .f32) (j : Fin 5760) :
    (k0_pay11 p q w ws bi (ix3 b s j) : EReal) = Spec.lin (fun k => k0_pay10 q (ix3 b s k)) (p (ix3 b s 0)) (fun k => w (ix2 k j)) (ws (ix2 0 j)) (bi (ix2 0 j)) := by
  have r : ∀ (x : FVec Ideal S1x5760 .f32) (h₁ h₂ h₃), (broadcastTo S48x256x5760 (shapeCast S1x1x5760 (shapeCast S1x5760 x h₁) h₂) h₃ (ix3 b s j) : EReal) = x (ix2 0 j) := fun x h₁ h₂ h₃ =>
    (Layout.bcast3_row _ _ b s j).trans ((Layout.cast_add _ _ 0 0 j).trans (congrFun (Layout.cast_self _ _) _))
  unfold k0_pay11
  generalize k0_pay10 q = c
  have e := product1 b s w c j
  rw [addf_apply, mulf_apply, mulf_apply, r ws, r bi, Layout.bcast3_col]
  exact congrArg (fun v : EReal => v * (p (ix3 b s 0) : EReal) * (ws (ix2 0 j) : EReal) + (bi (ix2 0 j) : EReal)) e

theorem qkv_apply (j : Fin 5760) : (k0_pay11 (k0_pay8 v0 v2 v3) (k0_pay9 v0 v2 v3) w ws bi (ix3 b s j) : EReal) = qkvRow v0 v2 v3 b s w ws bi j := by
  refine (lin_any b s w ws bi _ _ j).trans ?_
  rw [scale1_apply v0 v2 v3 b s, show (fun k => (k0_pay10 (k0_pay9 v0 v2 v3) (ix3 b s k) : EReal)) = _ from funext (codes1_apply v0 v2 v3 b s)]

/-- The columns of one head of the queries, keys and values. -/
abbrev qCol (h : Fin 30) (d : Fin 64) : EReal := qkvRow v0 v2 v3 b s w ws bi ⟨64 * h.val + d.val, by omega⟩
abbrev kCol (h : Fin 30) (d : Fin 64) : EReal := qkvRow v0 v2 v3 b s w ws bi ⟨1920 + (64 * h.val + d.val), by omega⟩
abbrev vCol (h : Fin 30) (d : Fin 64) : EReal := qkvRow v0 v2 v3 b s w ws bi ⟨3840 + (64 * h.val + d.val), by omega⟩

variable (h : Fin 30) (d : Fin 64)

/-- One head of one third of the projections. -/
theorem head_apply (o : ℕ) (z : FVec Ideal S48x256x5760 .f32) (hs : S48x256x5760.Slices ![0, 0, o] S48x256x1920) (r : Fin 5760) (hr : r.val = o + (64 * h.val + d.val)) :
    (shapeCast S48x256x30x64 (extractStridedSlice S48x256x1920 ![0, 0, o] z hs) shapeCasts_S48x256x1920_S48x256x30x64 (ix4 b s h d) : EReal) = z (ix3 b s r) :=
  (Layout.split_heads _ _ rfl b s h d ⟨64 * h.val + d.val, by omega⟩ (by show 64 * h.val + d.val = h.val * 64 + d.val; omega)).trans (Layout.slice_last o z hs b s _ r hr)

theorem kHead_apply : (k0_pay12 (k0_pay8 v0 v2 v3) (k0_pay9 v0 v2 v3) w ws bi (ix4 b s h d) : EReal) = kCol v0 v2 v3 b s w ws bi h d := by
  unfold k0_pay12
  exact (head_apply b s h d 1920 _ _ ⟨1920 + (64 * h.val + d.val), by omega⟩ rfl).trans (qkv_apply v0 v2 v3 b s w ws bi _)

theorem vHead_apply : (k0_pay13 (k0_pay8 v0 v2 v3) (k0_pay9 v0 v2 v3) w ws bi (ix4 b s h d) : EReal) = vCol v0 v2 v3 b s w ws bi h d := by
  unfold k0_pay13
  exact (head_apply b s h d 3840 _ _ ⟨3840 + (64 * h.val + d.val), by omega⟩ rfl).trans (qkv_apply v0 v2 v3 b s w ws bi _)

theorem kCode_apply :
    k0_pay16 (k0_pay12 (k0_pay8 v0 v2 v3) (k0_pay9 v0 v2 v3) w ws bi) (k0_pay15 (k0_pay8 v0 v2 v3) (k0_pay9 v0 v2 v3) w ws bi) (ix4 b s h d) = AttnSpec.keyCode (kCol v0 v2 v3 b s w ws bi h) d := by
  have q := kHead_apply v0 v2 v3 b s w ws bi h
  unfold k0_pay16 k0_pay15
  generalize k0_pay12 (k0_pay8 v0 v2 v3) (k0_pay9 v0 v2 v3) w ws bi = z at q
  refine (int8_apply _ _).trans (congrArg AttnSpec.int8 ?_)
  exact mul_eq (div_eq (q d) ((Layout.bcast4_last _ _ b s h d).trans (len_apply z b s h _ q _ _ _ _))) rfl

theorem valScale_any (x : FVec Ideal S48x256x30x1 .f32) (i : S48x256x30x1.Idx) :
    (select (cmpf .oeq x (broadcast S48x256x30x1 (Scalar.ofBits .f32 0x00000000#32))) (broadcast S48x256x30x1 (Scalar.ofBits .f32 0x3F800000#32 : Ideal .f32)) (divf x (broadcast S48x256x30x1 (Scalar.ofBits .f32 0x42FE0000#32))) i : EReal)
      = Scalar.select (Ideal.cmp .oeq (x i) Spec.zero) Spec.one (Ideal.div (x i) AttnSpec.c127) := rfl

theorem vScale_any (z : FVec Ideal S48x256x30x64 .f32) (f : Fin 64 → EReal) (q : ∀ d, (z (ix4 b s h d) : EReal) = f d) : (k0_pay17 z (ix4 b s h 0) : EReal) = AttnSpec.valScale f := by
  have a : (multiReduction .maximumf [3] S48x256x30 (absf z) 0xFF800000#32 reduces_S48x256x30x64_S48x256x30 (.inl rfl) rfl (ix3 b s h) : EReal) = Spec.amax f := by
    refine (Layout.max_last4 (absf z) _ _ _ _ b s h).trans ?_
    refine congrArg (fun f => Finset.univ.fold max Spec.least f) (funext fun k => ?_)
    show max (z (ix4 b s h k) : EReal) (-(z (ix4 b s h k) : EReal)) = _
    rw [q]
  have a' := (Layout.cast4_unit _ shapeCasts_S48x256x30_S48x256x30x1 b s h 0).trans a
  unfold k0_pay17
  refine (valScale_any _ _).trans ?_
  unfold AttnSpec.valScale
  rw [a']

theorem vScale_apply : (k0_pay17 (k0_pay13 (k0_pay8 v0 v2 v3) (k0_pay9 v0 v2 v3) w ws bi) (ix4 b s h 0) : EReal) = AttnSpec.valScale (vCol v0 v2 v3 b s w ws bi h) :=
  vScale_any b s h _ _ (vHead_apply v0 v2 v3 b s w ws bi h)

theorem vCode_any (z : FVec Ideal S48x256x30x64 .f32) (f : Fin 64 → EReal) (q : ∀ d, (z (ix4 b s h d) : EReal) = f d) : k0_pay18 z (ix4 b s h d) = AttnSpec.valCode f d := by
  have g := vScale_any b s h z f q
  have e : k0_pay18 z (ix4 b s h d) = AttnSpec.int8 (divf z (broadcastTo S48x256x30x64 (k0_pay17 z) broadcasts_S48x256x30x1_S48x256x30x64) (ix4 b s h d)) := by
    unfold k0_pay18
    exact int8_apply _ _
  have k : (divf z (broadcastTo S48x256x30x64 (k0_pay17 z) broadcasts_S48x256x30x1_S48x256x30x64) (ix4 b s h d) : EReal) = Ideal.div (f d) (AttnSpec.valScale f) := by
    generalize k0_pay17 z = y at g
    rw [divf_apply, q d, Layout.bcast4_last y _ b s h d, g]
  rw [e]
  unfold AttnSpec.valCode
  rw [k]

theorem vCode_apply : k0_pay18 (k0_pay13 (k0_pay8 v0 v2 v3) (k0_pay9 v0 v2 v3) w ws bi) (ix4 b s h d) = AttnSpec.valCode (vCol v0 v2 v3 b s w ws bi h) d :=
  vCode_any b s h d _ _ (vHead_apply v0 v2 v3 b s w ws bi h)

theorem vScale3_apply : (k0_pay19 (k0_pay13 (k0_pay8 v0 v2 v3) (k0_pay9 v0 v2 v3) w ws bi) (ix3 b s h) : EReal) = AttnSpec.valScale (vCol v0 v2 v3 b s w ws bi h) := by
  unfold k0_pay19
  exact (Layout.cast4_ununit _ _ b s h).trans (vScale_apply v0 v2 v3 b s w ws bi h)

end Stages

end Cert.AttnRef
-- ==== Proof.AttnRef.Inputs.lean ====
/- The inputs of the reference of the attention half, as far as the projections depend on them, in terms of its arguments: every
   input is whole. -/
module

public import proofs.«01_k».proof.Proof.Gen.AttnReferenceIdeal.Frame
public import proofs.«01_k».proof.Proof.Attn.Spec
public import Idealize.ShloMosaic.Lib.Pipeline.ValueKit

@[expose] public section

set_option maxRecDepth 16384

noncomputable section

namespace Cert.AttnRef

open Cert.AttnReferenceIdeal Cert.AttnReferenceIdeal.Gen
open Idealize.ShloMosaic hiding ix1 ix2 ix3 ix4
open Idealize.ShloMosaic.TcCoe Idealize.ShloMosaic.ValueIdx

variable (m : (ℓ : Loc nD τ sig) → Buf (Elt Ideal) ℓ) (c : Dev nD)

abbrev argX : Vec Ideal S48x256x1920 .bf16 := m ((c : Thread nD τ).loc main_arg0)
abbrev argA : Vec Ideal S48x6x1920 .f32 := m ((c : Thread nD τ).loc main_arg1)
abbrev argW : Vec Ideal S1920x5760 .fp8e4m3 := m ((c : Thread nD τ).loc main_arg2)
abbrev argWs : Vec Ideal S5760 .f32 := m ((c : Thread nD τ).loc main_arg3)
abbrev argQb : Vec Ideal S1920 .f32 := m ((c : Thread nD τ).loc main_arg4)
abbrev argVb : Vec Ideal S1920 .f32 := m ((c : Thread nD τ).loc main_arg5)

theorem index0 : ∀ t : Fin cfg0.N, win0_0.index t = ![0, 0, 0] := (by decide +kernel : ∀ t : Fin grid0.N, win0_0.index t = ![0, 0, 0])
theorem index1 : ∀ t : Fin cfg0.N, win0_1.index t = ![0, 0, 0] := (by decide +kernel : ∀ t : Fin grid0.N, win0_1.index t = ![0, 0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])

variable (t : Fin cfg0.N)

theorem in0 : iblk m c 0 t = argX m c := by
  blk_ext! [iblk, V, index0 t]

theorem in1 : iblk m c 1 t = argA m c := by
  blk_ext! [iblk, V, index1 t]

theorem in2 : iblk m c 2 t = argW m c := by
  blk_ext! [iblk, V, index2 t]

theorem in3 (j : Fin 5760) : (iblk m c 3 t (ix2 0 j) : EReal) = argWs m c (ix1 j) := by
  blk_ext! [iblk, V, index3 t]

/-- The biases of the queries, keys and values, of which the keys have none. -/
def biasOf (q v : Vec Ideal S1920 .f32) : Vec Ideal S5760 .f32 :=
  concatenate S5760 0 [⟨S1920, q⟩, ⟨S1920, (broadcastInDim S1920 ![] bcast_S_S1920 (constant (F := Ideal) S_ .f32 0x00000000#32) : Vec Ideal S1920 .f32)⟩, ⟨S1920, v⟩] concatenates_S1920_S1920_S1920_S5760_d0

theorem V_biasRow : V m c main_v7 = (broadcastInDim S1x5760 ![1] bcast_S5760_S1x5760_1 (biasOf (argQb m c) (argVb m c)) : Vec Ideal S1x5760 .f32) := by
  dsimp only [V, hostOps0]
  rfl

theorem line (x : Vec Ideal S5760 .f32) (j : Fin 5760) : (broadcastInDim S1x5760 ![1] bcast_S5760_S1x5760_1 x (ix2 0 j) : EReal) = x (ix1 j) := by
  refine congrArg x ?_
  funext a
  fin_cases a
  rfl

theorem in4 (j : Fin 5760) : (iblk m c 4 t (ix2 0 j) : EReal) = biasOf (argQb m c) (argVb m c) (ix1 j) := by
  have e : (win0_4.blk t).view.emb (ix2 0 j) = ix2 0 j := by blk_ext [index4 t]
  show V m c main_v7 ((win0_4.blk t).view.emb (ix2 0 j)) = _
  rw [e, V_biasRow]
  exact line _ j

/-- The arguments the projections depend on; the results treated here read no other. -/
def argsOf : AttnSpec.Args where
  x b s d := argX m c (ix3 b s d)
  ada b k d := argA m c (ix3 b k d)
  wqkv k j := argW m c (ix2 k j)
  ws j := argWs m c (ix1 j)
  bias j := biasOf (argQb m c) (argVb m c) (ix1 j)
  hm _ := 0
  ck _ _ _ _ := 0
  cv _ _ _ _ := 0
  cvs _ _ _ := 0
  wp _ _ := 0
  wps _ := 0
  bp _ := 0

end Cert.AttnRef
-- ==== Proof.AttnRef.Values.lean ====
/- The quantised results of the reference of the attention half after its run: the specification's values of the arguments. -/
module

public import proofs.«01_k».proof.Proof.AttnRef.Stages
public import proofs.«01_k».proof.Proof.AttnRef.Inputs

@[expose] public section

set_option maxRecDepth 16384

noncomputable section

namespace Cert.AttnRef

open Cert.AttnReferenceIdeal Cert.AttnReferenceIdeal.Gen
open Idealize.ShloMosaic hiding ix1 ix2 ix3 ix4
open Idealize.SL.Sem
open Idealize.ShloMosaic.TcCoe Idealize.ShloMosaic.ValueIdx
open Idealize.ShloMosaic.Pipeline (Dat Cfg Window)
open scoped BigOperators

/-! ### The loads -/

theorem load_whole3 {a b n : ℕ} {e : EltTy} (x : Vec Ideal ⟨3, ![a, b, n]⟩ e) (inb) : View.ld x (Rect.unit (s := ⟨3, ![a, b, n]⟩) ![0, 0, 0] (⟨3, ![a, b, n]⟩ : Shape).size inb) = x :=
  View.ld_unit_zero (by funext a; fin_cases a <;> rfl) _ _

theorem load_whole2 {a b : ℕ} {e : EltTy} (x : Vec Ideal ⟨2, ![a, b]⟩ e) (inb) : View.ld x (Rect.unit (s := ⟨2, ![a, b]⟩) ![0, 0] (⟨2, ![a, b]⟩ : Shape).size inb) = x :=
  View.ld_unit_zero (by funext a; fin_cases a <;> rfl) _ _

theorem load_row (x : Vec Ideal S48x6x1920 .f32) (k : Fin 6) (off : Fin 3 → ℕ) (ho : off = ![0, k.val, 0]) (inb) (b : Fin 48) (d : Fin 1920) :
    (View.ld x (Rect.unit (s := S48x6x1920) off S48x1x1920.size inb) (ix3 b 0 d) : EReal) = x (ix3 b k d) := by
  subst ho
  refine congrArg x ?_
  funext a; apply Fin.ext; revert a
  refine Layout.forall_three ?_ ?_ ?_
  · show 0 + 1 * b.val = b.val; omega
  · show k.val + 1 * 0 = k.val; omega
  · show 0 + 1 * d.val = d.val; omega

/-! ### The caches' layouts -/

theorem turn1_apply (z : IVec S48x256x30x64 8) (b : Fin 48) (h : Fin 30) (d : Fin 64) (s : Fin 256) : k0_pay1 z (ix4 b h d s) = z (ix4 b s h d) := by
  unfold k0_pay1
  exact Layout.turn_last z transposes_S48x256x30x64_p0_2_3_1_S48x30x64x256 b h d s

theorem turn2_apply (z : IVec S48x256x30x64 8) (b : Fin 48) (h : Fin 30) (d : Fin 64) (s : Fin 256) : k0_pay2 z (ix4 b h d s) = z (ix4 b s h d) := by
  unfold k0_pay2
  exact Layout.turn_last z transposes_S48x256x30x64_p0_2_3_1_S48x30x64x256 b h d s

theorem turn3_apply (z : Vec Ideal S48x256x30 .f32) (h : Fin 30) (b : Fin 48) (s : Fin 256) : (k0_pay3 (F := Ideal) z (ix3 h b s) : EReal) = z (ix3 b s h) := by
  unfold k0_pay3
  exact Layout.turn_front z transposes_S48x256x30_p2_0_1_S30x48x256 h b s

/-! ### The stored values, from the inputs -/

section Outs

variable (a : AttnSpec.Args) (x0 : Vec Ideal S48x256x1920 .bf16) (x1 : Vec Ideal S48x6x1920 .f32) (x2 : Vec Ideal S1920x5760 .fp8e4m3) (x3 x4 : Vec Ideal S1x5760 .f32) (x5 : Vec Ideal S30x1 .f32) (x6 x7 : Vec Ideal S48x424x30x64 .i8) (x8 : Vec Ideal S48x424x30 .f32) (x9 : Vec Ideal S1920x1920 .fp8e4m3) (x10 x11 : Vec Ideal S1x1920 .f32)
  (h0 : ∀ b s d, (x0 (ix3 b s d) : EReal) = a.x b s d) (h1 : ∀ b k d, (x1 (ix3 b k d) : EReal) = a.ada b k d)
  (h2 : ∀ k j, (x2 (ix2 k j) : EReal) = a.wqkv k j) (h3 : ∀ j, (x3 (ix2 0 j) : EReal) = a.ws j) (h4 : ∀ j, (x4 (ix2 0 j) : EReal) = a.bias j)
  (b : Fin 48) (s : Fin 256)

include h0 h1 in
theorem hid_loads : lnRow x0 (View.ld x1 r0_2) (View.ld x1 r0_3) b s = AttnSpec.hid a b s := by
  unfold lnRow AttnSpec.hid
  rw [show (fun d => (x0 (ix3 b s d) : EReal)) = a.x b s from funext (h0 b s),
    show (fun d => Spec.one + (View.ld x1 r0_2 (ix3 b 0 d) : EReal)) = _ from funext fun d => congrArg (fun v : EReal => Spec.one + v) ((load_row x1 2 _ rfl _ b d).trans (h1 b 2 d)),
    show (fun d => (View.ld x1 r0_3 (ix3 b 0 d) : EReal)) = _ from funext fun d => (load_row x1 4 _ rfl _ b d).trans (h1 b 4 d)]

include h0 h1 h2 h3 h4 in
theorem qkv_loads (j : Fin 5760) : qkvRow x0 (View.ld x1 r0_2) (View.ld x1 r0_3) b s x2 x3 x4 j = AttnSpec.qkv a b s j := by
  unfold qkvRow AttnSpec.qkv
  rw [hid_loads a x0 x1 h0 h1 b s, show (fun k => (x2 (ix2 k j) : EReal)) = fun k => a.wqkv k j from funext fun k => h2 k j, h3, h4]

include h0 h1 h2 h3 h4 in
theorem kCol_loads (h : Fin 30) : kCol x0 (View.ld x1 r0_2) (View.ld x1 r0_3) b s x2 x3 x4 h = AttnSpec.kh a b s h :=
  funext fun d => qkv_loads a x0 x1 x2 x3 x4 h0 h1 h2 h3 h4 b s _

include h0 h1 h2 h3 h4 in
theorem vCol_loads (h : Fin 30) : vCol x0 (View.ld x1 r0_2) (View.ld x1 r0_3) b s x2 x3 x4 h = AttnSpec.vh a b s h :=
  funext fun d => qkv_loads a x0 x1 x2 x3 x4 h0 h1 h2 h3 h4 b s _

include h0 h1 in
theorem out13_apply (d : Fin 1920) : (out0_13 x0 x1 x2 x3 x4 x5 x6 x7 x8 x9 x10 x11 (ix3 b s d) : EReal) = Spec.rowCode (AttnSpec.hid a b s) d := by
  unfold out0_13 k0_pay33
  rw [View.canon_unit_zero (by funext a; fin_cases a <;> rfl), load_whole3, ← hid_loads a x0 x1 h0 h1 b s]
  exact codes1_apply _ _ _ b s d

include h0 h1 in
theorem out14_apply : (out0_14 x0 x1 x2 x3 x4 x5 x6 x7 x8 x9 x10 x11 (ix2 b s) : EReal) = Spec.rowScale (AttnSpec.hid a b s) := by
  unfold out0_14 k0_pay32 k0_pay31
  rw [View.canon_unit_zero (by funext a; fin_cases a <;> rfl), load_whole3, ← hid_loads a x0 x1 h0 h1 b s]
  exact (Layout.cast_ununit _ shapeCasts_S48x256x1_S48x256 b s).trans (scale1_apply _ _ _ b s)

include h0 h1 h2 h3 h4 in
theorem out15_apply (h : Fin 30) (d : Fin 64) : out0_15 x0 x1 x2 x3 x4 x5 x6 x7 x8 x9 x10 x11 (ix4 b h d s) = AttnSpec.keyCode (AttnSpec.kh a b s h) d := by
  unfold out0_15 k0_pay36 k0_pay33 k0_pay32
  rw [View.canon_unit_zero (by funext a; fin_cases a <;> rfl), load_whole3, load_whole2, load_whole2, load_whole2, ← kCol_loads a x0 x1 x2 x3 x4 h0 h1 h2 h3 h4 b s h]
  refine (turn1_apply _ b h d s).trans ?_
  exact kCode_apply _ _ _ b s _ _ _ h d

include h0 h1 h2 h3 h4 in
theorem out16_apply (h : Fin 30) (d : Fin 64) : out0_16 x0 x1 x2 x3 x4 x5 x6 x7 x8 x9 x10 x11 (ix4 b h d s) = AttnSpec.valCode (AttnSpec.vh a b s h) d := by
  unfold out0_16 k0_pay37 k0_pay34 k0_pay33 k0_pay32
  rw [View.canon_unit_zero (by funext a; fin_cases a <;> rfl), load_whole3, load_whole2, load_whole2, load_whole2, ← vCol_loads a x0 x1 x2 x3 x4 h0 h1 h2 h3 h4 b s h]
  refine (turn2_apply _ b h d s).trans ?_
  exact vCode_apply _ _ _ b s _ _ _ h d

include h0 h1 h2 h3 h4 in
theorem out17_apply (h : Fin 30) : (out0_17 x0 x1 x2 x3 x4 x5 x6 x7 x8 x9 x10 x11 (ix3 h b s) : EReal) = AttnSpec.valScale (AttnSpec.vh a b s h) := by
  unfold out0_17 k0_pay38 k0_pay34 k0_pay33 k0_pay32
  rw [View.canon_unit_zero (by funext a; fin_cases a <;> rfl), load_whole3, load_whole2, load_whole2, load_whole2, ← vCol_loads a x0 x1 x2 x3 x4 h0 h1 h2 h3 h4 b s h]
  refine (turn3_apply _ h b s).trans ?_
  exact vScale3_apply _ _ _ b s _ _ _ h

end Outs

/-! ### The arrays after the run -/

variable (m : (ℓ : Loc nD τ sig) → Buf (Elt Ideal) ℓ) (c : Dev nD)

/-- The results as functions of the arguments. -/
def c1Fn : Vec Ideal S48x256x1920 .fp8e4m3 := fun i => Spec.rowCode (AttnSpec.hid (argsOf m c) (i 0) (i 1)) (i 2)
def s1Fn : Vec Ideal S48x256 .f32 := fun i => Spec.rowScale (AttnSpec.hid (argsOf m c) (i 0) (i 1))
def kcFn : Vec Ideal S48x30x64x256 .i8 := fun i => AttnSpec.keyCode (AttnSpec.kh (argsOf m c) (i 0) (i 3) (i 1)) (i 2)
def vcFn : Vec Ideal S48x30x64x256 .i8 := fun i => AttnSpec.valCode (AttnSpec.vh (argsOf m c) (i 0) (i 3) (i 1)) (i 2)
def vsFn : Vec Ideal S30x48x256 .f32 := fun i => AttnSpec.valScale (AttnSpec.vh (argsOf m c) (i 1) (i 2) (i 0))

theorem index13 : ∀ t : Fin cfg0.N, win0_13.index t = ![0, 0, 0] := (by decide +kernel : ∀ t : Fin grid0.N, win0_13.index t = ![0, 0, 0])
theorem index14 : ∀ t : Fin cfg0.N, win0_14.index t = ![0, 0] := (by decide +kernel : ∀ t : Fin grid0.N, win0_14.index t = ![0, 0])
theorem index15 : ∀ t : Fin cfg0.N, win0_15.index t = ![0, 0, 0, 0] := (by decide +kernel : ∀ t : Fin grid0.N, win0_15.index t = ![0, 0, 0, 0])
theorem index16 : ∀ t : Fin cfg0.N, win0_16.index t = ![0, 0, 0, 0] := (by decide +kernel : ∀ t : Fin grid0.N, win0_16.index t = ![0, 0, 0, 0])
theorem index17 : ∀ t : Fin cfg0.N, win0_17.index t = ![0, 0, 0] := (by decide +kernel : ∀ t : Fin grid0.N, win0_17.index t = ![0, 0, 0])

section Blocks

variable (t : Fin cfg0.N)

theorem in0' (b : Fin 48) (s : Fin 256) (d : Fin 1920) : (iblk m c 0 t (ix3 b s d) : EReal) = (argsOf m c).x b s d := congrFun (in0 m c t) _
theorem in1' (b : Fin 48) (k : Fin 6) (d : Fin 1920) : (iblk m c 1 t (ix3 b k d) : EReal) = (argsOf m c).ada b k d := congrFun (in1 m c t) _
theorem in2' (k : Fin 1920) (j : Fin 5760) : (iblk m c 2 t (ix2 k j) : EReal) = (argsOf m c).wqkv k j := congrFun (in2 m c t) _

end Blocks

theorem final13 : (dats m 0 c).arrAt 13 cfg0.N = c1Fn m c := by
  refine (dats m 0 c).arrAt_eq_of_covers 13 _ (by decide +kernel) fun t hf y => ?_
  blk_simp
  rw [after0_13]
  have e : (win0_13.blk t).view.emb y = ix3 (y 0) (y 1) (y 2) := by blk_ext [index13 t]
  rw [e]
  have ey : y = ix3 (y 0) (y 1) (y 2) := by blk_ext []
  exact (congrArg (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ey).trans
    (out13_apply (argsOf m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (in0' m c t) (in1' m c t) (y 0) (y 1) (y 2))

theorem final14 : (dats m 0 c).arrAt 14 cfg0.N = s1Fn m c := by
  refine (dats m 0 c).arrAt_eq_of_covers 14 _ (by decide +kernel) fun t hf y => ?_
  blk_simp
  rw [after0_14]
  have e : (win0_14.blk t).view.emb y = ix2 (y 0) (y 1) := by blk_ext [index14 t]
  rw [e]
  have ey : y = ix2 (y 0) (y 1) := by blk_ext []
  exact (congrArg (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ey).trans
    (out14_apply (argsOf m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (in0' m c t) (in1' m c t) (y 0) (y 1))

theorem final15 : (dats m 0 c).arrAt 15 cfg0.N = kcFn m c := by
  refine (dats m 0 c).arrAt_eq_of_covers 15 _ (by decide +kernel) fun t hf y => ?_
  blk_simp
  rw [after0_15]
  have e : (win0_15.blk t).view.emb y = ix4 (y 0) (y 1) (y 2) (y 3) := by blk_ext [index15 t]
  rw [e]
  have ey : y = ix4 (y 0) (y 1) (y 2) (y 3) := by blk_ext []
  exact (congrArg (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ey).trans
    (out15_apply (argsOf m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (in0' m c t) (in1' m c t) (in2' m c t) (in3 m c t) (in4 m c t) (y 0) (y 3) (y 1) (y 2))

theorem final16 : (dats m 0 c).arrAt 16 cfg0.N = vcFn m c := by
  refine (dats m 0 c).arrAt_eq_of_covers 16 _ (by decide +kernel) fun t hf y => ?_
  blk_simp
  rw [after0_16]
  have e : (win0_16.blk t).view.emb y = ix4 (y 0) (y 1) (y 2) (y 3) := by blk_ext [index16 t]
  rw [e]
  have ey : y = ix4 (y 0) (y 1) (y 2) (y 3) := by blk_ext []
  exact (congrArg (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ey).trans
    (out16_apply (argsOf m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (in0' m c t) (in1' m c t) (in2' m c t) (in3 m c t) (in4 m c t) (y 0) (y 3) (y 1) (y 2))

theorem final17 : (dats m 0 c).arrAt 17 cfg0.N = vsFn m c := by
  refine (dats m 0 c).arrAt_eq_of_covers 17 _ (by decide +kernel) fun t hf y => ?_
  blk_simp
  rw [after0_17]
  have e : (win0_17.blk t).view.emb y = ix3 (y 0) (y 1) (y 2) := by blk_ext [index17 t]
  rw [e]
  have ey : y = ix3 (y 0) (y 1) (y 2) := by blk_ext []
  exact (congrArg (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ey).trans
    (out17_apply (argsOf m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (in0' m c t) (in1' m c t) (in2' m c t) (in3 m c t) (in4 m c t) (y 1) (y 2) (y 0))

variable (ρ : Dev nD → PrngReg)

/-- After the run the quantised results hold the specification's values and the arguments are as they were. -/
theorem run : θ_run defs (onTc (τ := τ) (main (F := Ideal))) ⟨m, fun _ => 0, ρ⟩ (fun r => ∀ c : Dev nD,
      r.2.mem ((c.tc : Thread nD τ).loc main_v11_1) = c1Fn m c
      ∧ r.2.mem ((c.tc : Thread nD τ).loc main_v11_2) = s1Fn m c
      ∧ r.2.mem ((c.tc : Thread nD τ).loc main_v11_3) = kcFn m c
      ∧ r.2.mem ((c.tc : Thread nD τ).loc main_v11_4) = vcFn m c
      ∧ r.2.mem ((c.tc : Thread nD τ).loc main_v11_5) = vsFn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨((h c).1 13).trans (final13 m c),
      ((h c).1 14).trans (final14 m c),
      ((h c).1 15).trans (final15 m c),
      ((h c).1 16).trans (final16 m c),
      ((h c).1 17).trans (final17 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ)

end Cert.AttnRef
-- ==== Proof.Attn.Agree.lean ====
/- The kernel of the attention half and its reference agree over the extended reals on the quantised results: the codes and
   scales of the first projection's input, and the new keys and values of the caches. -/
module

public import proofs.«01_k».proof.Defs
public import proofs.«01_k».proof.Proof.Attn.Arrays
public import proofs.«01_k».proof.Proof.AttnRef.Values

@[expose] public section

noncomputable section

namespace Cert.Attn

open Idealize.ShloMosaic Idealize.SL.Sem

/-- The mask of a result that is not compared selects no element. -/
theorem unmasked {p : Prop} (h : (0#1 : BitVec 1) = 1#1) : p := absurd h (by decide)

theorem agree [hOn : Cert.On_quantised_results.Facts] : Cert.algebraic_AttnKernelIdeal_AttnReferenceIdeal_on_quantised_results (hAttnKernelIdeal := Cert.AttnKernelIdeal.Gen.facts) (hAttnReferenceIdeal := Cert.AttnReferenceIdeal.Gen.facts) (hOn_quantised_results := hOn) := by
  intro m g m' g' _ h
  have args (c : Dev Cert.AttnKernelIdeal.nD) : AttnRef.argsOf m' c = argsOf m c := by
    have a0 : AttnRef.argX m' c = argX m c := (h c).1
    have a1 : AttnRef.argA m' c = argA m c := (h c).2.1
    have a2 : AttnRef.argW m' c = argW m c := (h c).2.2.1
    have a3 : AttnRef.argWs m' c = argWs m c := (h c).2.2.2.1
    have a4 : AttnRef.argQb m' c = argQb m c := (h c).2.2.2.2.1
    have a5 : AttnRef.argVb m' c = argVb m c := (h c).2.2.2.2.2.1
    unfold AttnRef.argsOf argsOf
    rw [a0, a1, a2, a3, a4, a5]
    rfl
  have e0 (c : Dev Cert.AttnKernelIdeal.nD) : AttnRef.c1Fn m' c = c1Fn m c := by
    unfold AttnRef.c1Fn c1Fn; rw [args c]
  have e1 (c : Dev Cert.AttnKernelIdeal.nD) : AttnRef.s1Fn m' c = s1Fn m c := by
    unfold AttnRef.s1Fn s1Fn; rw [args c]
  have e2 (c : Dev Cert.AttnKernelIdeal.nD) : AttnRef.kcFn m' c = kcFn m c := by
    unfold AttnRef.kcFn kcFn; rw [args c]
  have e3 (c : Dev Cert.AttnKernelIdeal.nD) : AttnRef.vcFn m' c = vcFn m c := by
    unfold AttnRef.vcFn vcFn; rw [args c]
  have e4 (c : Dev Cert.AttnKernelIdeal.nD) : AttnRef.vsFn m' c = vsFn m c := by
    unfold AttnRef.vsFn vsFn; rw [args c]
  refine ⟨(fun c => m ((c.tc : Thread Cert.AttnKernelIdeal.nD Cert.AttnKernelIdeal.τ).loc Cert.AttnKernelIdeal.main_v15_0)), c1Fn m, s1Fn m, kcFn m, vcFn m, vsFn m, (fun c => m ((c.tc : Thread Cert.AttnKernelIdeal.nD Cert.AttnKernelIdeal.τ).loc Cert.AttnKernelIdeal.main_v15_6)), (fun c => m ((c.tc : Thread Cert.AttnKernelIdeal.nD Cert.AttnKernelIdeal.τ).loc Cert.AttnKernelIdeal.main_v15_7)), (fun c => m ((c.tc : Thread Cert.AttnKernelIdeal.nD Cert.AttnKernelIdeal.τ).loc Cert.AttnKernelIdeal.main_v15_8)),
    ?_, ?_⟩
  · refine (θ_run _ _ _).mono (fun r hr c => ?_) (run m g)
    obtain ⟨h1, h2, h3, h4, h5, hk⟩ := hr c
    exact ⟨fun i hi => unmasked hi, fun i _ => congrFun h1 i, fun i _ => congrFun h2 i, fun i _ => congrFun h3 i, fun i _ => congrFun h4 i, fun i _ => congrFun h5 i,
      fun i hi => unmasked hi, fun i hi => unmasked hi, fun i hi => unmasked hi, hk⟩
  · refine (θ_run _ _ _).mono (fun r hr c => ?_) (AttnRef.run m' g')
    obtain ⟨h1, h2, h3, h4, h5, hk⟩ := hr c
    exact ⟨fun i hi => unmasked hi, fun i _ => congrFun (h1.trans (e0 c)) i, fun i _ => congrFun (h2.trans (e1 c)) i, fun i _ => congrFun (h3.trans (e2 c)) i, fun i _ => congrFun (h4.trans (e3 c)) i, fun i _ => congrFun (h5.trans (e4 c)) i,
      fun i hi => unmasked hi, fun i hi => unmasked hi, fun i hi => unmasked hi, hk⟩

end Cert.Attn
-- ==== Proof.lean ====
module

public import proofs.«01_k».proof.Defs
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpReferenceIdeal
public import proofs.«01_k».proof.Proof.Gen.MlpReferenceIdeal.Skeleton
public import proofs.«01_k».proof.Proof.Gen.MlpReferenceIdeal.Launch
public import proofs.«01_k».proof.Proof.Gen.MlpReferenceIdeal.Points
public import proofs.«01_k».proof.Proof.Gen.MlpReferenceIdeal.Frame
public import proofs.«01_k».proof.Proof.Gen.MlpReferenceIdeal.Value
public import proofs.«01_k».proof.Proof.MlpBits.Frame
public import proofs.«01_k».proof.Proof.Mlp.Frame
public import proofs.«01_k».proof.Proof.Mlp.Agree
public import proofs.«01_k».proof.Proof.AttnBits.Frame
public import proofs.«01_k».proof.Proof.Attn.Frame
public import proofs.«01_k».proof.Proof.Attn.Agree
public import proofs.«01_k».proof.Proof.Gen.On_quantised_results
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.AttnReferenceIdeal.Skeleton
public import proofs.«01_k».proof.Proof.Gen.AttnReferenceIdeal.Launch
public import proofs.«01_k».proof.Proof.Gen.AttnReferenceIdeal.Points
public import proofs.«01_k».proof.Proof.Gen.AttnReferenceIdeal.Frame
public import Idealize.ShloMosaic.Adequacy
public import Idealize.ShloMosaic.Init

@[expose] public section

noncomputable section

namespace Cert.Proof

open Idealize.ShloMosaic Idealize.SL.Sem Cert.MlpKernel

theorem claim : Cert.Claim :=
  ⟨Cert.MlpKernel.Gen.facts, Cert.MlpKernelIdeal.Gen.facts, Cert.MlpReferenceIdeal.Gen.facts, Cert.AttnKernel.Gen.facts, Cert.AttnKernelIdeal.Gen.facts, Cert.AttnReferenceIdeal.Gen.facts, Cert.On_quantised_results.Gen.facts,
    fun m ρ _ => Cert.MlpBits.frame m ρ,
    fun m ρ _ => Cert.Mlp.frame m ρ,
    fun m ρ _ => Cert.MlpReferenceIdeal.Gen.frame m ρ,
    fun m ρ _ => Cert.AttnBits.frame m ρ,
    fun m ρ _ => Cert.Attn.frame m ρ,
    fun m ρ _ => Cert.AttnReferenceIdeal.Gen.frame m ρ,
    trivial,
    Cert.Mlp.agree,
    trivial,
    Cert.Attn.agree (hOn := Cert.On_quantised_results.Gen.facts)⟩

end Cert.Proof

end
